-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S512x4096 : Shape := ⟨2, ![512, 4096]⟩
abbrev S_ : Shape := ⟨0, ![]⟩
abbrev S256x512 : Shape := ⟨2, ![256, 512]⟩
abbrev S512x128 : Shape := ⟨2, ![512, 128]⟩
abbrev S32x8x512 : Shape := ⟨3, ![32, 8, 512]⟩
abbrev S8x512 : Shape := ⟨2, ![8, 512]⟩
abbrev S3 : Shape := ⟨1, ![3]⟩
abbrev S32 : Shape := ⟨1, ![32]⟩
abbrev S1 : Shape := ⟨1, ![1]⟩
abbrev S256x128 : Shape := ⟨2, ![256, 128]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S128x512 : Shape := ⟨2, ![128, 512]⟩
abbrev S1x8x512 : Shape := ⟨3, ![1, 8, 512]⟩

abbrev nBuf : Space → Nat
  | .hbm => 36
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x4096, .f32⟩
  | .hbm, ⟨4, _⟩ => ⟨S512x4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x512, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S512x128, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S512x128, .f32⟩
  | .hbm, ⟨34, _⟩ => ⟨S256x512, .f32⟩
  | .hbm, ⟨35, _⟩ => ⟨S2x128x512, .f32⟩
  | .local _ .vmem, ⟨0, _⟩ => ⟨S512x128, .f32⟩
  | .local _ .vmem, ⟨1, _⟩ => ⟨S512x128, .f32⟩
  | .local _ .vmem, ⟨2, _⟩ => ⟨S256x512, .f32⟩
  | .local _ .vmem, ⟨3, _⟩ => ⟨S256x512, .f32⟩
  | .local _ .vmem, ⟨4, _⟩ => ⟨S512x512, .f32⟩
  | .local _ .vmem, ⟨5, _⟩ => ⟨S512x512, .f32⟩
  | .local _ .vmem, ⟨6, _⟩ => ⟨S256x512, .bf16⟩
  | .local _ .vmem, ⟨7, _⟩ => ⟨S32x8x512, .bf16⟩
  | .local _ .vmem, ⟨8, _⟩ => ⟨S8x512, .bf16⟩
  | .local _ .vmem, ⟨9, _⟩ => ⟨S32x8x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_321 : BitVec 32 := 0#32
  let c0_i32_322 : BitVec 32 := 0#32
  ![v2.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_320 : BitVec 32 := 8#32
  let v546 : BitVec 32 := Scalar.muli v2 c8_i32_320
  let c0_i32_323 : BitVec 32 := 0#32
  ![v546.toNat, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) (c1_i32_324 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v550 : BitVec 32 := Scalar.addi v2 c1_i32_324
  let c32_i32_325 : BitVec 32 := 32#32
  let c0_i32_326 : BitVec 32 := 0#32
  let v551 : BitVec 1 := Scalar.cmpi .eq c32_i32_325 c0_i32_326
  let c1_i32_327 : BitVec 32 := 1#32
  let v552 : BitVec 32 := Scalar.select v551 c1_i32_327 c32_i32_325
  let v553 : BitVec 32 := Scalar.remsi v550 v552
  let c0_i32_329 : BitVec 32 := 0#32
  let v555 : BitVec 1 := Scalar.cmpi .slt v553 c0_i32_329
  let c0_i32_330 : BitVec 32 := 0#32
  let v556 : BitVec 1 := Scalar.cmpi .slt v552 c0_i32_330
  let v557 : BitVec 1 := Scalar.xori v555 v556
  let c0_i32_328 : BitVec 32 := 0#32
  let v554 : BitVec 1 := Scalar.cmpi .ne v553 c0_i32_328
  let v558 : BitVec 1 := Scalar.andi v557 v554
  let v559 : BitVec 32 := Scalar.addi v553 v552
  let v560 : BitVec 32 := Scalar.select v558 v559 v553
  let c8_i32_331 : BitVec 32 := 8#32
  let v561 : BitVec 32 := Scalar.muli v560 c8_i32_331
  let c0_i32_337 : BitVec 32 := 0#32
  ![v561.toNat, 0]
def k0_dev32 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_324 : BitVec 32 := 1#32
  let v550 : BitVec 32 := Scalar.addi v2 c1_i32_324
  let c32_i32_325 : BitVec 32 := 32#32
  let c0_i32_326 : BitVec 32 := 0#32
  let v551 : BitVec 1 := Scalar.cmpi .eq c32_i32_325 c0_i32_326
  let c1_i32_327 : BitVec 32 := 1#32
  let v552 : BitVec 32 := Scalar.select v551 c1_i32_327 c32_i32_325
  let v553 : BitVec 32 := Scalar.remsi v550 v552
  let c0_i32_329 : BitVec 32 := 0#32
  let v555 : BitVec 1 := Scalar.cmpi .slt v553 c0_i32_329
  let c0_i32_330 : BitVec 32 := 0#32
  let v556 : BitVec 1 := Scalar.cmpi .slt v552 c0_i32_330
  let v557 : BitVec 1 := Scalar.xori v555 v556
  let c0_i32_328 : BitVec 32 := 0#32
  let v554 : BitVec 1 := Scalar.cmpi .ne v553 c0_i32_328
  let v558 : BitVec 1 := Scalar.andi v557 v554
  let v559 : BitVec 32 := Scalar.addi v553 v552
  let v560 : BitVec 32 := Scalar.select v558 v559 v553
  let c1_i32_333 : BitVec 32 := 1#32
  let v562 : BitVec 32 := Scalar.muli v560 c1_i32_333
  let v563 : BitVec 32 := Scalar.addi c0_i32_334 v562
  v563.toNat
def k0_dev33 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_338 : BitVec 32 := 2#32
  let v571 : BitVec 32 := Scalar.addi v2 c2_i32_338
  let c32_i32_339 : BitVec 32 := 32#32
  let c0_i32_340 : BitVec 32 := 0#32
  let v572 : BitVec 1 := Scalar.cmpi .eq c32_i32_339 c0_i32_340
  let c1_i32_341 : BitVec 32 := 1#32
  let v573 : BitVec 32 := Scalar.select v572 c1_i32_341 c32_i32_339
  let v574 : BitVec 32 := Scalar.remsi v571 v573
  let c0_i32_343 : BitVec 32 := 0#32
  let v576 : BitVec 1 := Scalar.cmpi .slt v574 c0_i32_343
  let c0_i32_344 : BitVec 32 := 0#32
  let v577 : BitVec 1 := Scalar.cmpi .slt v573 c0_i32_344
  let v578 : BitVec 1 := Scalar.xori v576 v577
  let c0_i32_342 : BitVec 32 := 0#32
  let v575 : BitVec 1 := Scalar.cmpi .ne v574 c0_i32_342
  let v579 : BitVec 1 := Scalar.andi v578 v575
  let v580 : BitVec 32 := Scalar.addi v574 v573
  let v581 : BitVec 32 := Scalar.select v579 v580 v574
  let c1_i32_347 : BitVec 32 := 1#32
  let v583 : BitVec 32 := Scalar.muli v581 c1_i32_347
  let v584 : BitVec 32 := Scalar.addi c0_i32_348 v583
  v584.toNat
def k0_dev34 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_352 : BitVec 32 := 3#32
  let v592 : BitVec 32 := Scalar.addi v2 c3_i32_352
  let c32_i32_353 : BitVec 32 := 32#32
  let c0_i32_354 : BitVec 32 := 0#32
  let v593 : BitVec 1 := Scalar.cmpi .eq c32_i32_353 c0_i32_354
  let c1_i32_355 : BitVec 32 := 1#32
  let v594 : BitVec 32 := Scalar.select v593 c1_i32_355 c32_i32_353
  let v595 : BitVec 32 := Scalar.remsi v592 v594
  let c0_i32_357 : BitVec 32 := 0#32
  let v597 : BitVec 1 := Scalar.cmpi .slt v595 c0_i32_357
  let c0_i32_358 : BitVec 32 := 0#32
  let v598 : BitVec 1 := Scalar.cmpi .slt v594 c0_i32_358
  let v599 : BitVec 1 := Scalar.xori v597 v598
  let c0_i32_356 : BitVec 32 := 0#32
  let v596 : BitVec 1 := Scalar.cmpi .ne v595 c0_i32_356
  let v600 : BitVec 1 := Scalar.andi v599 v596
  let v601 : BitVec 32 := Scalar.addi v595 v594
  let v602 : BitVec 32 := Scalar.select v600 v601 v595
  let c1_i32_361 : BitVec 32 := 1#32
  let v604 : BitVec 32 := Scalar.muli v602 c1_i32_361
  let v605 : BitVec 32 := Scalar.addi c0_i32_362 v604
  v605.toNat
def k0_dev35 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_366 : BitVec 32 := 4#32
  let v613 : BitVec 32 := Scalar.addi v2 c4_i32_366
  let c32_i32_367 : BitVec 32 := 32#32
  let c0_i32_368 : BitVec 32 := 0#32
  let v614 : BitVec 1 := Scalar.cmpi .eq c32_i32_367 c0_i32_368
  let c1_i32_369 : BitVec 32 := 1#32
  let v615 : BitVec 32 := Scalar.select v614 c1_i32_369 c32_i32_367
  let v616 : BitVec 32 := Scalar.remsi v613 v615
  let c0_i32_371 : BitVec 32 := 0#32
  let v618 : BitVec 1 := Scalar.cmpi .slt v616 c0_i32_371
  let c0_i32_372 : BitVec 32 := 0#32
  let v619 : BitVec 1 := Scalar.cmpi .slt v615 c0_i32_372
  let v620 : BitVec 1 := Scalar.xori v618 v619
  let c0_i32_370 : BitVec 32 := 0#32
  let v617 : BitVec 1 := Scalar.cmpi .ne v616 c0_i32_370
  let v621 : BitVec 1 := Scalar.andi v620 v617
  let v622 : BitVec 32 := Scalar.addi v616 v615
  let v623 : BitVec 32 := Scalar.select v621 v622 v616
  let c1_i32_375 : BitVec 32 := 1#32
  let v625 : BitVec 32 := Scalar.muli v623 c1_i32_375
  let v626 : BitVec 32 := Scalar.addi c0_i32_376 v625
  v626.toNat
def k0_dev36 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_380 : BitVec 32 := 5#32
  let v634 : BitVec 32 := Scalar.addi v2 c5_i32_380
  let c32_i32_381 : BitVec 32 := 32#32
  let c0_i32_382 : BitVec 32 := 0#32
  let v635 : BitVec 1 := Scalar.cmpi .eq c32_i32_381 c0_i32_382
  let c1_i32_383 : BitVec 32 := 1#32
  let v636 : BitVec 32 := Scalar.select v635 c1_i32_383 c32_i32_381
  let v637 : BitVec 32 := Scalar.remsi v634 v636
  let c0_i32_385 : BitVec 32 := 0#32
  let v639 : BitVec 1 := Scalar.cmpi .slt v637 c0_i32_385
  let c0_i32_386 : BitVec 32 := 0#32
  let v640 : BitVec 1 := Scalar.cmpi .slt v636 c0_i32_386
  let v641 : BitVec 1 := Scalar.xori v639 v640
  let c0_i32_384 : BitVec 32 := 0#32
  let v638 : BitVec 1 := Scalar.cmpi .ne v637 c0_i32_384
  let v642 : BitVec 1 := Scalar.andi v641 v638
  let v643 : BitVec 32 := Scalar.addi v637 v636
  let v644 : BitVec 32 := Scalar.select v642 v643 v637
  let c1_i32_389 : BitVec 32 := 1#32
  let v646 : BitVec 32 := Scalar.muli v644 c1_i32_389
  let v647 : BitVec 32 := Scalar.addi c0_i32_390 v646
  v647.toNat
def k0_dev37 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_394 : BitVec 32 := 6#32
  let v655 : BitVec 32 := Scalar.addi v2 c6_i32_394
  let c32_i32_395 : BitVec 32 := 32#32
  let c0_i32_396 : BitVec 32 := 0#32
  let v656 : BitVec 1 := Scalar.cmpi .eq c32_i32_395 c0_i32_396
  let c1_i32_397 : BitVec 32 := 1#32
  let v657 : BitVec 32 := Scalar.select v656 c1_i32_397 c32_i32_395
  let v658 : BitVec 32 := Scalar.remsi v655 v657
  let c0_i32_399 : BitVec 32 := 0#32
  let v660 : BitVec 1 := Scalar.cmpi .slt v658 c0_i32_399
  let c0_i32_400 : BitVec 32 := 0#32
  let v661 : BitVec 1 := Scalar.cmpi .slt v657 c0_i32_400
  let v662 : BitVec 1 := Scalar.xori v660 v661
  let c0_i32_398 : BitVec 32 := 0#32
  let v659 : BitVec 1 := Scalar.cmpi .ne v658 c0_i32_398
  let v663 : BitVec 1 := Scalar.andi v662 v659
  let v664 : BitVec 32 := Scalar.addi v658 v657
  let v665 : BitVec 32 := Scalar.select v663 v664 v658
  let c1_i32_403 : BitVec 32 := 1#32
  let v667 : BitVec 32 := Scalar.muli v665 c1_i32_403
  let v668 : BitVec 32 := Scalar.addi c0_i32_404 v667
  v668.toNat
def k0_dev38 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_408 : BitVec 32 := 7#32
  let v676 : BitVec 32 := Scalar.addi v2 c7_i32_408
  let c32_i32_409 : BitVec 32 := 32#32
  let c0_i32_410 : BitVec 32 := 0#32
  let v677 : BitVec 1 := Scalar.cmpi .eq c32_i32_409 c0_i32_410
  let c1_i32_411 : BitVec 32 := 1#32
  let v678 : BitVec 32 := Scalar.select v677 c1_i32_411 c32_i32_409
  let v679 : BitVec 32 := Scalar.remsi v676 v678
  let c0_i32_413 : BitVec 32 := 0#32
  let v681 : BitVec 1 := Scalar.cmpi .slt v679 c0_i32_413
  let c0_i32_414 : BitVec 32 := 0#32
  let v682 : BitVec 1 := Scalar.cmpi .slt v678 c0_i32_414
  let v683 : BitVec 1 := Scalar.xori v681 v682
  let c0_i32_412 : BitVec 32 := 0#32
  let v680 : BitVec 1 := Scalar.cmpi .ne v679 c0_i32_412
  let v684 : BitVec 1 := Scalar.andi v683 v680
  let v685 : BitVec 32 := Scalar.addi v679 v678
  let v686 : BitVec 32 := Scalar.select v684 v685 v679
  let c1_i32_417 : BitVec 32 := 1#32
  let v688 : BitVec 32 := Scalar.muli v686 c1_i32_417
  let v689 : BitVec 32 := Scalar.addi c0_i32_418 v688
  v689.toNat
def k0_dev39 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_422 : BitVec 32 := 8#32
  let v697 : BitVec 32 := Scalar.addi v2 c8_i32_422
  let c32_i32_423 : BitVec 32 := 32#32
  let c0_i32_424 : BitVec 32 := 0#32
  let v698 : BitVec 1 := Scalar.cmpi .eq c32_i32_423 c0_i32_424
  let c1_i32_425 : BitVec 32 := 1#32
  let v699 : BitVec 32 := Scalar.select v698 c1_i32_425 c32_i32_423
  let v700 : BitVec 32 := Scalar.remsi v697 v699
  let c0_i32_427 : BitVec 32 := 0#32
  let v702 : BitVec 1 := Scalar.cmpi .slt v700 c0_i32_427
  let c0_i32_428 : BitVec 32 := 0#32
  let v703 : BitVec 1 := Scalar.cmpi .slt v699 c0_i32_428
  let v704 : BitVec 1 := Scalar.xori v702 v703
  let c0_i32_426 : BitVec 32 := 0#32
  let v701 : BitVec 1 := Scalar.cmpi .ne v700 c0_i32_426
  let v705 : BitVec 1 := Scalar.andi v704 v701
  let v706 : BitVec 32 := Scalar.addi v700 v699
  let v707 : BitVec 32 := Scalar.select v705 v706 v700
  let c1_i32_431 : BitVec 32 := 1#32
  let v709 : BitVec 32 := Scalar.muli v707 c1_i32_431
  let v710 : BitVec 32 := Scalar.addi c0_i32_432 v709
  v710.toNat
def k0_dev40 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_436 : BitVec 32 := 9#32
  let v718 : BitVec 32 := Scalar.addi v2 c9_i32_436
  let c32_i32_437 : BitVec 32 := 32#32
  let c0_i32_438 : BitVec 32 := 0#32
  let v719 : BitVec 1 := Scalar.cmpi .eq c32_i32_437 c0_i32_438
  let c1_i32_439 : BitVec 32 := 1#32
  let v720 : BitVec 32 := Scalar.select v719 c1_i32_439 c32_i32_437
  let v721 : BitVec 32 := Scalar.remsi v718 v720
  let c0_i32_441 : BitVec 32 := 0#32
  let v723 : BitVec 1 := Scalar.cmpi .slt v721 c0_i32_441
  let c0_i32_442 : BitVec 32 := 0#32
  let v724 : BitVec 1 := Scalar.cmpi .slt v720 c0_i32_442
  let v725 : BitVec 1 := Scalar.xori v723 v724
  let c0_i32_440 : BitVec 32 := 0#32
  let v722 : BitVec 1 := Scalar.cmpi .ne v721 c0_i32_440
  let v726 : BitVec 1 := Scalar.andi v725 v722
  let v727 : BitVec 32 := Scalar.addi v721 v720
  let v728 : BitVec 32 := Scalar.select v726 v727 v721
  let c1_i32_445 : BitVec 32 := 1#32
  let v730 : BitVec 32 := Scalar.muli v728 c1_i32_445
  let v731 : BitVec 32 := Scalar.addi c0_i32_446 v730
  v731.toNat
def k0_dev41 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_450 : BitVec 32 := 10#32
  let v739 : BitVec 32 := Scalar.addi v2 c10_i32_450
  let c32_i32_451 : BitVec 32 := 32#32
  let c0_i32_452 : BitVec 32 := 0#32
  let v740 : BitVec 1 := Scalar.cmpi .eq c32_i32_451 c0_i32_452
  let c1_i32_453 : BitVec 32 := 1#32
  let v741 : BitVec 32 := Scalar.select v740 c1_i32_453 c32_i32_451
  let v742 : BitVec 32 := Scalar.remsi v739 v741
  let c0_i32_455 : BitVec 32 := 0#32
  let v744 : BitVec 1 := Scalar.cmpi .slt v742 c0_i32_455
  let c0_i32_456 : BitVec 32 := 0#32
  let v745 : BitVec 1 := Scalar.cmpi .slt v741 c0_i32_456
  let v746 : BitVec 1 := Scalar.xori v744 v745
  let c0_i32_454 : BitVec 32 := 0#32
  let v743 : BitVec 1 := Scalar.cmpi .ne v742 c0_i32_454
  let v747 : BitVec 1 := Scalar.andi v746 v743
  let v748 : BitVec 32 := Scalar.addi v742 v741
  let v749 : BitVec 32 := Scalar.select v747 v748 v742
  let c1_i32_459 : BitVec 32 := 1#32
  let v751 : BitVec 32 := Scalar.muli v749 c1_i32_459
  let v752 : BitVec 32 := Scalar.addi c0_i32_460 v751
  v752.toNat
def k0_dev42 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_464 : BitVec 32 := 11#32
  let v760 : BitVec 32 := Scalar.addi v2 c11_i32_464
  let c32_i32_465 : BitVec 32 := 32#32
  let c0_i32_466 : BitVec 32 := 0#32
  let v761 : BitVec 1 := Scalar.cmpi .eq c32_i32_465 c0_i32_466
  let c1_i32_467 : BitVec 32 := 1#32
  let v762 : BitVec 32 := Scalar.select v761 c1_i32_467 c32_i32_465
  let v763 : BitVec 32 := Scalar.remsi v760 v762
  let c0_i32_469 : BitVec 32 := 0#32
  let v765 : BitVec 1 := Scalar.cmpi .slt v763 c0_i32_469
  let c0_i32_470 : BitVec 32 := 0#32
  let v766 : BitVec 1 := Scalar.cmpi .slt v762 c0_i32_470
  let v767 : BitVec 1 := Scalar.xori v765 v766
  let c0_i32_468 : BitVec 32 := 0#32
  let v764 : BitVec 1 := Scalar.cmpi .ne v763 c0_i32_468
  let v768 : BitVec 1 := Scalar.andi v767 v764
  let v769 : BitVec 32 := Scalar.addi v763 v762
  let v770 : BitVec 32 := Scalar.select v768 v769 v763
  let c1_i32_473 : BitVec 32 := 1#32
  let v772 : BitVec 32 := Scalar.muli v770 c1_i32_473
  let v773 : BitVec 32 := Scalar.addi c0_i32_474 v772
  v773.toNat
def k0_dev43 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_478 : BitVec 32 := 12#32
  let v781 : BitVec 32 := Scalar.addi v2 c12_i32_478
  let c32_i32_479 : BitVec 32 := 32#32
  let c0_i32_480 : BitVec 32 := 0#32
  let v782 : BitVec 1 := Scalar.cmpi .eq c32_i32_479 c0_i32_480
  let c1_i32_481 : BitVec 32 := 1#32
  let v783 : BitVec 32 := Scalar.select v782 c1_i32_481 c32_i32_479
  let v784 : BitVec 32 := Scalar.remsi v781 v783
  let c0_i32_483 : BitVec 32 := 0#32
  let v786 : BitVec 1 := Scalar.cmpi .slt v784 c0_i32_483
  let c0_i32_484 : BitVec 32 := 0#32
  let v787 : BitVec 1 := Scalar.cmpi .slt v783 c0_i32_484
  let v788 : BitVec 1 := Scalar.xori v786 v787
  let c0_i32_482 : BitVec 32 := 0#32
  let v785 : BitVec 1 := Scalar.cmpi .ne v784 c0_i32_482
  let v789 : BitVec 1 := Scalar.andi v788 v785
  let v790 : BitVec 32 := Scalar.addi v784 v783
  let v791 : BitVec 32 := Scalar.select v789 v790 v784
  let c1_i32_487 : BitVec 32 := 1#32
  let v793 : BitVec 32 := Scalar.muli v791 c1_i32_487
  let v794 : BitVec 32 := Scalar.addi c0_i32_488 v793
  v794.toNat
def k0_dev44 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_492 : BitVec 32 := 13#32
  let v802 : BitVec 32 := Scalar.addi v2 c13_i32_492
  let c32_i32_493 : BitVec 32 := 32#32
  let c0_i32_494 : BitVec 32 := 0#32
  let v803 : BitVec 1 := Scalar.cmpi .eq c32_i32_493 c0_i32_494
  let c1_i32_495 : BitVec 32 := 1#32
  let v804 : BitVec 32 := Scalar.select v803 c1_i32_495 c32_i32_493
  let v805 : BitVec 32 := Scalar.remsi v802 v804
  let c0_i32_497 : BitVec 32 := 0#32
  let v807 : BitVec 1 := Scalar.cmpi .slt v805 c0_i32_497
  let c0_i32_498 : BitVec 32 := 0#32
  let v808 : BitVec 1 := Scalar.cmpi .slt v804 c0_i32_498
  let v809 : BitVec 1 := Scalar.xori v807 v808
  let c0_i32_496 : BitVec 32 := 0#32
  let v806 : BitVec 1 := Scalar.cmpi .ne v805 c0_i32_496
  let v810 : BitVec 1 := Scalar.andi v809 v806
  let v811 : BitVec 32 := Scalar.addi v805 v804
  let v812 : BitVec 32 := Scalar.select v810 v811 v805
  let c1_i32_501 : BitVec 32 := 1#32
  let v814 : BitVec 32 := Scalar.muli v812 c1_i32_501
  let v815 : BitVec 32 := Scalar.addi c0_i32_502 v814
  v815.toNat
def k0_dev45 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_506 : BitVec 32 := 14#32
  let v823 : BitVec 32 := Scalar.addi v2 c14_i32_506
  let c32_i32_507 : BitVec 32 := 32#32
  let c0_i32_508 : BitVec 32 := 0#32
  let v824 : BitVec 1 := Scalar.cmpi .eq c32_i32_507 c0_i32_508
  let c1_i32_509 : BitVec 32 := 1#32
  let v825 : BitVec 32 := Scalar.select v824 c1_i32_509 c32_i32_507
  let v826 : BitVec 32 := Scalar.remsi v823 v825
  let c0_i32_511 : BitVec 32 := 0#32
  let v828 : BitVec 1 := Scalar.cmpi .slt v826 c0_i32_511
  let c0_i32_512 : BitVec 32 := 0#32
  let v829 : BitVec 1 := Scalar.cmpi .slt v825 c0_i32_512
  let v830 : BitVec 1 := Scalar.xori v828 v829
  let c0_i32_510 : BitVec 32 := 0#32
  let v827 : BitVec 1 := Scalar.cmpi .ne v826 c0_i32_510
  let v831 : BitVec 1 := Scalar.andi v830 v827
  let v832 : BitVec 32 := Scalar.addi v826 v825
  let v833 : BitVec 32 := Scalar.select v831 v832 v826
  let c1_i32_515 : BitVec 32 := 1#32
  let v835 : BitVec 32 := Scalar.muli v833 c1_i32_515
  let v836 : BitVec 32 := Scalar.addi c0_i32_516 v835
  v836.toNat
def k0_dev46 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_520 : BitVec 32 := 15#32
  let v844 : BitVec 32 := Scalar.addi v2 c15_i32_520
  let c32_i32_521 : BitVec 32 := 32#32
  let c0_i32_522 : BitVec 32 := 0#32
  let v845 : BitVec 1 := Scalar.cmpi .eq c32_i32_521 c0_i32_522
  let c1_i32_523 : BitVec 32 := 1#32
  let v846 : BitVec 32 := Scalar.select v845 c1_i32_523 c32_i32_521
  let v847 : BitVec 32 := Scalar.remsi v844 v846
  let c0_i32_525 : BitVec 32 := 0#32
  let v849 : BitVec 1 := Scalar.cmpi .slt v847 c0_i32_525
  let c0_i32_526 : BitVec 32 := 0#32
  let v850 : BitVec 1 := Scalar.cmpi .slt v846 c0_i32_526
  let v851 : BitVec 1 := Scalar.xori v849 v850
  let c0_i32_524 : BitVec 32 := 0#32
  let v848 : BitVec 1 := Scalar.cmpi .ne v847 c0_i32_524
  let v852 : BitVec 1 := Scalar.andi v851 v848
  let v853 : BitVec 32 := Scalar.addi v847 v846
  let v854 : BitVec 32 := Scalar.select v852 v853 v847
  let c1_i32_529 : BitVec 32 := 1#32
  let v856 : BitVec 32 := Scalar.muli v854 c1_i32_529
  let v857 : BitVec 32 := Scalar.addi c0_i32_530 v856
  v857.toNat
def k0_dev47 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_534 : BitVec 32 := 16#32
  let v865 : BitVec 32 := Scalar.addi v2 c16_i32_534
  let c32_i32_535 : BitVec 32 := 32#32
  let c0_i32_536 : BitVec 32 := 0#32
  let v866 : BitVec 1 := Scalar.cmpi .eq c32_i32_535 c0_i32_536
  let c1_i32_537 : BitVec 32 := 1#32
  let v867 : BitVec 32 := Scalar.select v866 c1_i32_537 c32_i32_535
  let v868 : BitVec 32 := Scalar.remsi v865 v867
  let c0_i32_539 : BitVec 32 := 0#32
  let v870 : BitVec 1 := Scalar.cmpi .slt v868 c0_i32_539
  let c0_i32_540 : BitVec 32 := 0#32
  let v871 : BitVec 1 := Scalar.cmpi .slt v867 c0_i32_540
  let v872 : BitVec 1 := Scalar.xori v870 v871
  let c0_i32_538 : BitVec 32 := 0#32
  let v869 : BitVec 1 := Scalar.cmpi .ne v868 c0_i32_538
  let v873 : BitVec 1 := Scalar.andi v872 v869
  let v874 : BitVec 32 := Scalar.addi v868 v867
  let v875 : BitVec 32 := Scalar.select v873 v874 v868
  let c1_i32_543 : BitVec 32 := 1#32
  let v877 : BitVec 32 := Scalar.muli v875 c1_i32_543
  let v878 : BitVec 32 := Scalar.addi c0_i32_544 v877
  v878.toNat
def k0_dev48 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_548 : BitVec 32 := 17#32
  let v886 : BitVec 32 := Scalar.addi v2 c17_i32_548
  let c32_i32_549 : BitVec 32 := 32#32
  let c0_i32_550 : BitVec 32 := 0#32
  let v887 : BitVec 1 := Scalar.cmpi .eq c32_i32_549 c0_i32_550
  let c1_i32_551 : BitVec 32 := 1#32
  let v888 : BitVec 32 := Scalar.select v887 c1_i32_551 c32_i32_549
  let v889 : BitVec 32 := Scalar.remsi v886 v888
  let c0_i32_553 : BitVec 32 := 0#32
  let v891 : BitVec 1 := Scalar.cmpi .slt v889 c0_i32_553
  let c0_i32_554 : BitVec 32 := 0#32
  let v892 : BitVec 1 := Scalar.cmpi .slt v888 c0_i32_554
  let v893 : BitVec 1 := Scalar.xori v891 v892
  let c0_i32_552 : BitVec 32 := 0#32
  let v890 : BitVec 1 := Scalar.cmpi .ne v889 c0_i32_552
  let v894 : BitVec 1 := Scalar.andi v893 v890
  let v895 : BitVec 32 := Scalar.addi v889 v888
  let v896 : BitVec 32 := Scalar.select v894 v895 v889
  let c1_i32_557 : BitVec 32 := 1#32
  let v898 : BitVec 32 := Scalar.muli v896 c1_i32_557
  let v899 : BitVec 32 := Scalar.addi c0_i32_558 v898
  v899.toNat
def k0_dev49 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_562 : BitVec 32 := 18#32
  let v907 : BitVec 32 := Scalar.addi v2 c18_i32_562
  let c32_i32_563 : BitVec 32 := 32#32
  let c0_i32_564 : BitVec 32 := 0#32
  let v908 : BitVec 1 := Scalar.cmpi .eq c32_i32_563 c0_i32_564
  let c1_i32_565 : BitVec 32 := 1#32
  let v909 : BitVec 32 := Scalar.select v908 c1_i32_565 c32_i32_563
  let v910 : BitVec 32 := Scalar.remsi v907 v909
  let c0_i32_567 : BitVec 32 := 0#32
  let v912 : BitVec 1 := Scalar.cmpi .slt v910 c0_i32_567
  let c0_i32_568 : BitVec 32 := 0#32
  let v913 : BitVec 1 := Scalar.cmpi .slt v909 c0_i32_568
  let v914 : BitVec 1 := Scalar.xori v912 v913
  let c0_i32_566 : BitVec 32 := 0#32
  let v911 : BitVec 1 := Scalar.cmpi .ne v910 c0_i32_566
  let v915 : BitVec 1 := Scalar.andi v914 v911
  let v916 : BitVec 32 := Scalar.addi v910 v909
  let v917 : BitVec 32 := Scalar.select v915 v916 v910
  let c1_i32_571 : BitVec 32 := 1#32
  let v919 : BitVec 32 := Scalar.muli v917 c1_i32_571
  let v920 : BitVec 32 := Scalar.addi c0_i32_572 v919
  v920.toNat
def k0_dev50 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_576 : BitVec 32 := 19#32
  let v928 : BitVec 32 := Scalar.addi v2 c19_i32_576
  let c32_i32_577 : BitVec 32 := 32#32
  let c0_i32_578 : BitVec 32 := 0#32
  let v929 : BitVec 1 := Scalar.cmpi .eq c32_i32_577 c0_i32_578
  let c1_i32_579 : BitVec 32 := 1#32
  let v930 : BitVec 32 := Scalar.select v929 c1_i32_579 c32_i32_577
  let v931 : BitVec 32 := Scalar.remsi v928 v930
  let c0_i32_581 : BitVec 32 := 0#32
  let v933 : BitVec 1 := Scalar.cmpi .slt v931 c0_i32_581
  let c0_i32_582 : BitVec 32 := 0#32
  let v934 : BitVec 1 := Scalar.cmpi .slt v930 c0_i32_582
  let v935 : BitVec 1 := Scalar.xori v933 v934
  let c0_i32_580 : BitVec 32 := 0#32
  let v932 : BitVec 1 := Scalar.cmpi .ne v931 c0_i32_580
  let v936 : BitVec 1 := Scalar.andi v935 v932
  let v937 : BitVec 32 := Scalar.addi v931 v930
  let v938 : BitVec 32 := Scalar.select v936 v937 v931
  let c1_i32_585 : BitVec 32 := 1#32
  let v940 : BitVec 32 := Scalar.muli v938 c1_i32_585
  let v941 : BitVec 32 := Scalar.addi c0_i32_586 v940
  v941.toNat
def k0_dev51 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_590 : BitVec 32 := 20#32
  let v949 : BitVec 32 := Scalar.addi v2 c20_i32_590
  let c32_i32_591 : BitVec 32 := 32#32
  let c0_i32_592 : BitVec 32 := 0#32
  let v950 : BitVec 1 := Scalar.cmpi .eq c32_i32_591 c0_i32_592
  let c1_i32_593 : BitVec 32 := 1#32
  let v951 : BitVec 32 := Scalar.select v950 c1_i32_593 c32_i32_591
  let v952 : BitVec 32 := Scalar.remsi v949 v951
  let c0_i32_595 : BitVec 32 := 0#32
  let v954 : BitVec 1 := Scalar.cmpi .slt v952 c0_i32_595
  let c0_i32_596 : BitVec 32 := 0#32
  let v955 : BitVec 1 := Scalar.cmpi .slt v951 c0_i32_596
  let v956 : BitVec 1 := Scalar.xori v954 v955
  let c0_i32_594 : BitVec 32 := 0#32
  let v953 : BitVec 1 := Scalar.cmpi .ne v952 c0_i32_594
  let v957 : BitVec 1 := Scalar.andi v956 v953
  let v958 : BitVec 32 := Scalar.addi v952 v951
  let v959 : BitVec 32 := Scalar.select v957 v958 v952
  let c1_i32_599 : BitVec 32 := 1#32
  let v961 : BitVec 32 := Scalar.muli v959 c1_i32_599
  let v962 : BitVec 32 := Scalar.addi c0_i32_600 v961
  v962.toNat
def k0_dev52 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_604 : BitVec 32 := 21#32
  let v970 : BitVec 32 := Scalar.addi v2 c21_i32_604
  let c32_i32_605 : BitVec 32 := 32#32
  let c0_i32_606 : BitVec 32 := 0#32
  let v971 : BitVec 1 := Scalar.cmpi .eq c32_i32_605 c0_i32_606
  let c1_i32_607 : BitVec 32 := 1#32
  let v972 : BitVec 32 := Scalar.select v971 c1_i32_607 c32_i32_605
  let v973 : BitVec 32 := Scalar.remsi v970 v972
  let c0_i32_609 : BitVec 32 := 0#32
  let v975 : BitVec 1 := Scalar.cmpi .slt v973 c0_i32_609
  let c0_i32_610 : BitVec 32 := 0#32
  let v976 : BitVec 1 := Scalar.cmpi .slt v972 c0_i32_610
  let v977 : BitVec 1 := Scalar.xori v975 v976
  let c0_i32_608 : BitVec 32 := 0#32
  let v974 : BitVec 1 := Scalar.cmpi .ne v973 c0_i32_608
  let v978 : BitVec 1 := Scalar.andi v977 v974
  let v979 : BitVec 32 := Scalar.addi v973 v972
  let v980 : BitVec 32 := Scalar.select v978 v979 v973
  let c1_i32_613 : BitVec 32 := 1#32
  let v982 : BitVec 32 := Scalar.muli v980 c1_i32_613
  let v983 : BitVec 32 := Scalar.addi c0_i32_614 v982
  v983.toNat
def k0_dev53 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_618 : BitVec 32 := 22#32
  let v991 : BitVec 32 := Scalar.addi v2 c22_i32_618
  let c32_i32_619 : BitVec 32 := 32#32
  let c0_i32_620 : BitVec 32 := 0#32
  let v992 : BitVec 1 := Scalar.cmpi .eq c32_i32_619 c0_i32_620
  let c1_i32_621 : BitVec 32 := 1#32
  let v993 : BitVec 32 := Scalar.select v992 c1_i32_621 c32_i32_619
  let v994 : BitVec 32 := Scalar.remsi v991 v993
  let c0_i32_623 : BitVec 32 := 0#32
  let v996 : BitVec 1 := Scalar.cmpi .slt v994 c0_i32_623
  let c0_i32_624 : BitVec 32 := 0#32
  let v997 : BitVec 1 := Scalar.cmpi .slt v993 c0_i32_624
  let v998 : BitVec 1 := Scalar.xori v996 v997
  let c0_i32_622 : BitVec 32 := 0#32
  let v995 : BitVec 1 := Scalar.cmpi .ne v994 c0_i32_622
  let v999 : BitVec 1 := Scalar.andi v998 v995
  let v1000 : BitVec 32 := Scalar.addi v994 v993
  let v1001 : BitVec 32 := Scalar.select v999 v1000 v994
  let c1_i32_627 : BitVec 32 := 1#32
  let v1003 : BitVec 32 := Scalar.muli v1001 c1_i32_627
  let v1004 : BitVec 32 := Scalar.addi c0_i32_628 v1003
  v1004.toNat
def k0_dev54 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_632 : BitVec 32 := 23#32
  let v1012 : BitVec 32 := Scalar.addi v2 c23_i32_632
  let c32_i32_633 : BitVec 32 := 32#32
  let c0_i32_634 : BitVec 32 := 0#32
  let v1013 : BitVec 1 := Scalar.cmpi .eq c32_i32_633 c0_i32_634
  let c1_i32_635 : BitVec 32 := 1#32
  let v1014 : BitVec 32 := Scalar.select v1013 c1_i32_635 c32_i32_633
  let v1015 : BitVec 32 := Scalar.remsi v1012 v1014
  let c0_i32_637 : BitVec 32 := 0#32
  let v1017 : BitVec 1 := Scalar.cmpi .slt v1015 c0_i32_637
  let c0_i32_638 : BitVec 32 := 0#32
  let v1018 : BitVec 1 := Scalar.cmpi .slt v1014 c0_i32_638
  let v1019 : BitVec 1 := Scalar.xori v1017 v1018
  let c0_i32_636 : BitVec 32 := 0#32
  let v1016 : BitVec 1 := Scalar.cmpi .ne v1015 c0_i32_636
  let v1020 : BitVec 1 := Scalar.andi v1019 v1016
  let v1021 : BitVec 32 := Scalar.addi v1015 v1014
  let v1022 : BitVec 32 := Scalar.select v1020 v1021 v1015
  let c1_i32_641 : BitVec 32 := 1#32
  let v1024 : BitVec 32 := Scalar.muli v1022 c1_i32_641
  let v1025 : BitVec 32 := Scalar.addi c0_i32_642 v1024
  v1025.toNat
def k0_dev55 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_646 : BitVec 32 := 24#32
  let v1033 : BitVec 32 := Scalar.addi v2 c24_i32_646
  let c32_i32_647 : BitVec 32 := 32#32
  let c0_i32_648 : BitVec 32 := 0#32
  let v1034 : BitVec 1 := Scalar.cmpi .eq c32_i32_647 c0_i32_648
  let c1_i32_649 : BitVec 32 := 1#32
  let v1035 : BitVec 32 := Scalar.select v1034 c1_i32_649 c32_i32_647
  let v1036 : BitVec 32 := Scalar.remsi v1033 v1035
  let c0_i32_651 : BitVec 32 := 0#32
  let v1038 : BitVec 1 := Scalar.cmpi .slt v1036 c0_i32_651
  let c0_i32_652 : BitVec 32 := 0#32
  let v1039 : BitVec 1 := Scalar.cmpi .slt v1035 c0_i32_652
  let v1040 : BitVec 1 := Scalar.xori v1038 v1039
  let c0_i32_650 : BitVec 32 := 0#32
  let v1037 : BitVec 1 := Scalar.cmpi .ne v1036 c0_i32_650
  let v1041 : BitVec 1 := Scalar.andi v1040 v1037
  let v1042 : BitVec 32 := Scalar.addi v1036 v1035
  let v1043 : BitVec 32 := Scalar.select v1041 v1042 v1036
  let c1_i32_655 : BitVec 32 := 1#32
  let v1045 : BitVec 32 := Scalar.muli v1043 c1_i32_655
  let v1046 : BitVec 32 := Scalar.addi c0_i32_656 v1045
  v1046.toNat
def k0_dev56 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_660 : BitVec 32 := 25#32
  let v1054 : BitVec 32 := Scalar.addi v2 c25_i32_660
  let c32_i32_661 : BitVec 32 := 32#32
  let c0_i32_662 : BitVec 32 := 0#32
  let v1055 : BitVec 1 := Scalar.cmpi .eq c32_i32_661 c0_i32_662
  let c1_i32_663 : BitVec 32 := 1#32
  let v1056 : BitVec 32 := Scalar.select v1055 c1_i32_663 c32_i32_661
  let v1057 : BitVec 32 := Scalar.remsi v1054 v1056
  let c0_i32_665 : BitVec 32 := 0#32
  let v1059 : BitVec 1 := Scalar.cmpi .slt v1057 c0_i32_665
  let c0_i32_666 : BitVec 32 := 0#32
  let v1060 : BitVec 1 := Scalar.cmpi .slt v1056 c0_i32_666
  let v1061 : BitVec 1 := Scalar.xori v1059 v1060
  let c0_i32_664 : BitVec 32 := 0#32
  let v1058 : BitVec 1 := Scalar.cmpi .ne v1057 c0_i32_664
  let v1062 : BitVec 1 := Scalar.andi v1061 v1058
  let v1063 : BitVec 32 := Scalar.addi v1057 v1056
  let v1064 : BitVec 32 := Scalar.select v1062 v1063 v1057
  let c1_i32_669 : BitVec 32 := 1#32
  let v1066 : BitVec 32 := Scalar.muli v1064 c1_i32_669
  let v1067 : BitVec 32 := Scalar.addi c0_i32_670 v1066
  v1067.toNat
def k0_dev57 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_674 : BitVec 32 := 26#32
  let v1075 : BitVec 32 := Scalar.addi v2 c26_i32_674
  let c32_i32_675 : BitVec 32 := 32#32
  let c0_i32_676 : BitVec 32 := 0#32
  let v1076 : BitVec 1 := Scalar.cmpi .eq c32_i32_675 c0_i32_676
  let c1_i32_677 : BitVec 32 := 1#32
  let v1077 : BitVec 32 := Scalar.select v1076 c1_i32_677 c32_i32_675
  let v1078 : BitVec 32 := Scalar.remsi v1075 v1077
  let c0_i32_679 : BitVec 32 := 0#32
  let v1080 : BitVec 1 := Scalar.cmpi .slt v1078 c0_i32_679
  let c0_i32_680 : BitVec 32 := 0#32
  let v1081 : BitVec 1 := Scalar.cmpi .slt v1077 c0_i32_680
  let v1082 : BitVec 1 := Scalar.xori v1080 v1081
  let c0_i32_678 : BitVec 32 := 0#32
  let v1079 : BitVec 1 := Scalar.cmpi .ne v1078 c0_i32_678
  let v1083 : BitVec 1 := Scalar.andi v1082 v1079
  let v1084 : BitVec 32 := Scalar.addi v1078 v1077
  let v1085 : BitVec 32 := Scalar.select v1083 v1084 v1078
  let c1_i32_683 : BitVec 32 := 1#32
  let v1087 : BitVec 32 := Scalar.muli v1085 c1_i32_683
  let v1088 : BitVec 32 := Scalar.addi c0_i32_684 v1087
  v1088.toNat
def k0_dev58 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_688 : BitVec 32 := 27#32
  let v1096 : BitVec 32 := Scalar.addi v2 c27_i32_688
  let c32_i32_689 : BitVec 32 := 32#32
  let c0_i32_690 : BitVec 32 := 0#32
  let v1097 : BitVec 1 := Scalar.cmpi .eq c32_i32_689 c0_i32_690
  let c1_i32_691 : BitVec 32 := 1#32
  let v1098 : BitVec 32 := Scalar.select v1097 c1_i32_691 c32_i32_689
  let v1099 : BitVec 32 := Scalar.remsi v1096 v1098
  let c0_i32_693 : BitVec 32 := 0#32
  let v1101 : BitVec 1 := Scalar.cmpi .slt v1099 c0_i32_693
  let c0_i32_694 : BitVec 32 := 0#32
  let v1102 : BitVec 1 := Scalar.cmpi .slt v1098 c0_i32_694
  let v1103 : BitVec 1 := Scalar.xori v1101 v1102
  let c0_i32_692 : BitVec 32 := 0#32
  let v1100 : BitVec 1 := Scalar.cmpi .ne v1099 c0_i32_692
  let v1104 : BitVec 1 := Scalar.andi v1103 v1100
  let v1105 : BitVec 32 := Scalar.addi v1099 v1098
  let v1106 : BitVec 32 := Scalar.select v1104 v1105 v1099
  let c1_i32_697 : BitVec 32 := 1#32
  let v1108 : BitVec 32 := Scalar.muli v1106 c1_i32_697
  let v1109 : BitVec 32 := Scalar.addi c0_i32_698 v1108
  v1109.toNat
def k0_dev59 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_702 : BitVec 32 := 28#32
  let v1117 : BitVec 32 := Scalar.addi v2 c28_i32_702
  let c32_i32_703 : BitVec 32 := 32#32
  let c0_i32_704 : BitVec 32 := 0#32
  let v1118 : BitVec 1 := Scalar.cmpi .eq c32_i32_703 c0_i32_704
  let c1_i32_705 : BitVec 32 := 1#32
  let v1119 : BitVec 32 := Scalar.select v1118 c1_i32_705 c32_i32_703
  let v1120 : BitVec 32 := Scalar.remsi v1117 v1119
  let c0_i32_707 : BitVec 32 := 0#32
  let v1122 : BitVec 1 := Scalar.cmpi .slt v1120 c0_i32_707
  let c0_i32_708 : BitVec 32 := 0#32
  let v1123 : BitVec 1 := Scalar.cmpi .slt v1119 c0_i32_708
  let v1124 : BitVec 1 := Scalar.xori v1122 v1123
  let c0_i32_706 : BitVec 32 := 0#32
  let v1121 : BitVec 1 := Scalar.cmpi .ne v1120 c0_i32_706
  let v1125 : BitVec 1 := Scalar.andi v1124 v1121
  let v1126 : BitVec 32 := Scalar.addi v1120 v1119
  let v1127 : BitVec 32 := Scalar.select v1125 v1126 v1120
  let c1_i32_711 : BitVec 32 := 1#32
  let v1129 : BitVec 32 := Scalar.muli v1127 c1_i32_711
  let v1130 : BitVec 32 := Scalar.addi c0_i32_712 v1129
  v1130.toNat
def k0_dev60 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_716 : BitVec 32 := 29#32
  let v1138 : BitVec 32 := Scalar.addi v2 c29_i32_716
  let c32_i32_717 : BitVec 32 := 32#32
  let c0_i32_718 : BitVec 32 := 0#32
  let v1139 : BitVec 1 := Scalar.cmpi .eq c32_i32_717 c0_i32_718
  let c1_i32_719 : BitVec 32 := 1#32
  let v1140 : BitVec 32 := Scalar.select v1139 c1_i32_719 c32_i32_717
  let v1141 : BitVec 32 := Scalar.remsi v1138 v1140
  let c0_i32_721 : BitVec 32 := 0#32
  let v1143 : BitVec 1 := Scalar.cmpi .slt v1141 c0_i32_721
  let c0_i32_722 : BitVec 32 := 0#32
  let v1144 : BitVec 1 := Scalar.cmpi .slt v1140 c0_i32_722
  let v1145 : BitVec 1 := Scalar.xori v1143 v1144
  let c0_i32_720 : BitVec 32 := 0#32
  let v1142 : BitVec 1 := Scalar.cmpi .ne v1141 c0_i32_720
  let v1146 : BitVec 1 := Scalar.andi v1145 v1142
  let v1147 : BitVec 32 := Scalar.addi v1141 v1140
  let v1148 : BitVec 32 := Scalar.select v1146 v1147 v1141
  let c1_i32_725 : BitVec 32 := 1#32
  let v1150 : BitVec 32 := Scalar.muli v1148 c1_i32_725
  let v1151 : BitVec 32 := Scalar.addi c0_i32_726 v1150
  v1151.toNat
def k0_dev61 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_730 : BitVec 32 := 30#32
  let v1159 : BitVec 32 := Scalar.addi v2 c30_i32_730
  let c32_i32_731 : BitVec 32 := 32#32
  let c0_i32_732 : BitVec 32 := 0#32
  let v1160 : BitVec 1 := Scalar.cmpi .eq c32_i32_731 c0_i32_732
  let c1_i32_733 : BitVec 32 := 1#32
  let v1161 : BitVec 32 := Scalar.select v1160 c1_i32_733 c32_i32_731
  let v1162 : BitVec 32 := Scalar.remsi v1159 v1161
  let c0_i32_735 : BitVec 32 := 0#32
  let v1164 : BitVec 1 := Scalar.cmpi .slt v1162 c0_i32_735
  let c0_i32_736 : BitVec 32 := 0#32
  let v1165 : BitVec 1 := Scalar.cmpi .slt v1161 c0_i32_736
  let v1166 : BitVec 1 := Scalar.xori v1164 v1165
  let c0_i32_734 : BitVec 32 := 0#32
  let v1163 : BitVec 1 := Scalar.cmpi .ne v1162 c0_i32_734
  let v1167 : BitVec 1 := Scalar.andi v1166 v1163
  let v1168 : BitVec 32 := Scalar.addi v1162 v1161
  let v1169 : BitVec 32 := Scalar.select v1167 v1168 v1162
  let c1_i32_739 : BitVec 32 := 1#32
  let v1171 : BitVec 32 := Scalar.muli v1169 c1_i32_739
  let v1172 : BitVec 32 := Scalar.addi c0_i32_740 v1171
  v1172.toNat
def k0_dev62 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_744 : BitVec 32 := 31#32
  let v1180 : BitVec 32 := Scalar.addi v2 c31_i32_744
  let c32_i32_745 : BitVec 32 := 32#32
  let c0_i32_746 : BitVec 32 := 0#32
  let v1181 : BitVec 1 := Scalar.cmpi .eq c32_i32_745 c0_i32_746
  let c1_i32_747 : BitVec 32 := 1#32
  let v1182 : BitVec 32 := Scalar.select v1181 c1_i32_747 c32_i32_745
  let v1183 : BitVec 32 := Scalar.remsi v1180 v1182
  let c0_i32_749 : BitVec 32 := 0#32
  let v1185 : BitVec 1 := Scalar.cmpi .slt v1183 c0_i32_749
  let c0_i32_750 : BitVec 32 := 0#32
  let v1186 : BitVec 1 := Scalar.cmpi .slt v1182 c0_i32_750
  let v1187 : BitVec 1 := Scalar.xori v1185 v1186
  let c0_i32_748 : BitVec 32 := 0#32
  let v1184 : BitVec 1 := Scalar.cmpi .ne v1183 c0_i32_748
  let v1188 : BitVec 1 := Scalar.andi v1187 v1184
  let v1189 : BitVec 32 := Scalar.addi v1183 v1182
  let v1190 : BitVec 32 := Scalar.select v1188 v1189 v1183
  let c1_i32_753 : BitVec 32 := 1#32
  let v1192 : BitVec 32 := Scalar.muli v1190 c1_i32_753
  let v1193 : BitVec 32 := Scalar.addi c0_i32_754 v1192
  v1193.toNat
def k0_off5 (d0 : Dev nD) (c1_i32_761 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1204 : BitVec 32 := Scalar.addi v2 c1_i32_761
  let c32_i32_762 : BitVec 32 := 32#32
  let c0_i32_763 : BitVec 32 := 0#32
  let v1205 : BitVec 1 := Scalar.cmpi .eq c32_i32_762 c0_i32_763
  let c1_i32_764 : BitVec 32 := 1#32
  let v1206 : BitVec 32 := Scalar.select v1205 c1_i32_764 c32_i32_762
  let v1207 : BitVec 32 := Scalar.remsi v1204 v1206
  let c0_i32_766 : BitVec 32 := 0#32
  let v1209 : BitVec 1 := Scalar.cmpi .slt v1207 c0_i32_766
  let c0_i32_767 : BitVec 32 := 0#32
  let v1210 : BitVec 1 := Scalar.cmpi .slt v1206 c0_i32_767
  let v1211 : BitVec 1 := Scalar.xori v1209 v1210
  let c0_i32_765 : BitVec 32 := 0#32
  let v1208 : BitVec 1 := Scalar.cmpi .ne v1207 c0_i32_765
  let v1212 : BitVec 1 := Scalar.andi v1211 v1208
  let v1213 : BitVec 32 := Scalar.addi v1207 v1206
  let v1214 : BitVec 32 := Scalar.select v1212 v1213 v1207
  ![v1214.toNat]
def k0_off6 (d0 : Dev nD) (c1_i32_761 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1204 : BitVec 32 := Scalar.addi v2 c1_i32_761
  let c32_i32_762 : BitVec 32 := 32#32
  let c0_i32_763 : BitVec 32 := 0#32
  let v1205 : BitVec 1 := Scalar.cmpi .eq c32_i32_762 c0_i32_763
  let c1_i32_764 : BitVec 32 := 1#32
  let v1206 : BitVec 32 := Scalar.select v1205 c1_i32_764 c32_i32_762
  let v1207 : BitVec 32 := Scalar.remsi v1204 v1206
  let c0_i32_766 : BitVec 32 := 0#32
  let v1209 : BitVec 1 := Scalar.cmpi .slt v1207 c0_i32_766
  let c0_i32_767 : BitVec 32 := 0#32
  let v1210 : BitVec 1 := Scalar.cmpi .slt v1206 c0_i32_767
  let v1211 : BitVec 1 := Scalar.xori v1209 v1210
  let c0_i32_765 : BitVec 32 := 0#32
  let v1208 : BitVec 1 := Scalar.cmpi .ne v1207 c0_i32_765
  let v1212 : BitVec 1 := Scalar.andi v1211 v1208
  let v1213 : BitVec 32 := Scalar.addi v1207 v1206
  let v1214 : BitVec 32 := Scalar.select v1212 v1213 v1207
  let c0_i32_772 : BitVec 32 := 0#32
  let c0_i32_773 : BitVec 32 := 0#32
  ![v1214.toNat, 0, 0]
def k0_dev63 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1264 : BitVec 32 := 1#32
  let v1926 : BitVec 32 := Scalar.addi v2 c1_i32_1264
  let c32_i32_1265 : BitVec 32 := 32#32
  let c0_i32_1266 : BitVec 32 := 0#32
  let v1927 : BitVec 1 := Scalar.cmpi .eq c32_i32_1265 c0_i32_1266
  let c1_i32_1267 : BitVec 32 := 1#32
  let v1928 : BitVec 32 := Scalar.select v1927 c1_i32_1267 c32_i32_1265
  let v1929 : BitVec 32 := Scalar.remsi v1926 v1928
  let c0_i32_1269 : BitVec 32 := 0#32
  let v1931 : BitVec 1 := Scalar.cmpi .slt v1929 c0_i32_1269
  let c0_i32_1270 : BitVec 32 := 0#32
  let v1932 : BitVec 1 := Scalar.cmpi .slt v1928 c0_i32_1270
  let v1933 : BitVec 1 := Scalar.xori v1931 v1932
  let c0_i32_1268 : BitVec 32 := 0#32
  let v1930 : BitVec 1 := Scalar.cmpi .ne v1929 c0_i32_1268
  let v1934 : BitVec 1 := Scalar.andi v1933 v1930
  let v1935 : BitVec 32 := Scalar.addi v1929 v1928
  let v1936 : BitVec 32 := Scalar.select v1934 v1935 v1929
  let c1_i32_1272 : BitVec 32 := 1#32
  let v1937 : BitVec 32 := Scalar.muli v1936 c1_i32_1272
  let v1938 : BitVec 32 := Scalar.addi c0_i32_1273 v1937
  v1938.toNat
def k0_dev64 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1276 : BitVec 32 := 2#32
  let v1945 : BitVec 32 := Scalar.addi v2 c2_i32_1276
  let c32_i32_1277 : BitVec 32 := 32#32
  let c0_i32_1278 : BitVec 32 := 0#32
  let v1946 : BitVec 1 := Scalar.cmpi .eq c32_i32_1277 c0_i32_1278
  let c1_i32_1279 : BitVec 32 := 1#32
  let v1947 : BitVec 32 := Scalar.select v1946 c1_i32_1279 c32_i32_1277
  let v1948 : BitVec 32 := Scalar.remsi v1945 v1947
  let c0_i32_1281 : BitVec 32 := 0#32
  let v1950 : BitVec 1 := Scalar.cmpi .slt v1948 c0_i32_1281
  let c0_i32_1282 : BitVec 32 := 0#32
  let v1951 : BitVec 1 := Scalar.cmpi .slt v1947 c0_i32_1282
  let v1952 : BitVec 1 := Scalar.xori v1950 v1951
  let c0_i32_1280 : BitVec 32 := 0#32
  let v1949 : BitVec 1 := Scalar.cmpi .ne v1948 c0_i32_1280
  let v1953 : BitVec 1 := Scalar.andi v1952 v1949
  let v1954 : BitVec 32 := Scalar.addi v1948 v1947
  let v1955 : BitVec 32 := Scalar.select v1953 v1954 v1948
  let c1_i32_1284 : BitVec 32 := 1#32
  let v1956 : BitVec 32 := Scalar.muli v1955 c1_i32_1284
  let v1957 : BitVec 32 := Scalar.addi c0_i32_1285 v1956
  v1957.toNat
def k0_dev65 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1288 : BitVec 32 := 3#32
  let v1964 : BitVec 32 := Scalar.addi v2 c3_i32_1288
  let c32_i32_1289 : BitVec 32 := 32#32
  let c0_i32_1290 : BitVec 32 := 0#32
  let v1965 : BitVec 1 := Scalar.cmpi .eq c32_i32_1289 c0_i32_1290
  let c1_i32_1291 : BitVec 32 := 1#32
  let v1966 : BitVec 32 := Scalar.select v1965 c1_i32_1291 c32_i32_1289
  let v1967 : BitVec 32 := Scalar.remsi v1964 v1966
  let c0_i32_1293 : BitVec 32 := 0#32
  let v1969 : BitVec 1 := Scalar.cmpi .slt v1967 c0_i32_1293
  let c0_i32_1294 : BitVec 32 := 0#32
  let v1970 : BitVec 1 := Scalar.cmpi .slt v1966 c0_i32_1294
  let v1971 : BitVec 1 := Scalar.xori v1969 v1970
  let c0_i32_1292 : BitVec 32 := 0#32
  let v1968 : BitVec 1 := Scalar.cmpi .ne v1967 c0_i32_1292
  let v1972 : BitVec 1 := Scalar.andi v1971 v1968
  let v1973 : BitVec 32 := Scalar.addi v1967 v1966
  let v1974 : BitVec 32 := Scalar.select v1972 v1973 v1967
  let c1_i32_1296 : BitVec 32 := 1#32
  let v1975 : BitVec 32 := Scalar.muli v1974 c1_i32_1296
  let v1976 : BitVec 32 := Scalar.addi c0_i32_1297 v1975
  v1976.toNat
def k0_dev66 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1300 : BitVec 32 := 4#32
  let v1983 : BitVec 32 := Scalar.addi v2 c4_i32_1300
  let c32_i32_1301 : BitVec 32 := 32#32
  let c0_i32_1302 : BitVec 32 := 0#32
  let v1984 : BitVec 1 := Scalar.cmpi .eq c32_i32_1301 c0_i32_1302
  let c1_i32_1303 : BitVec 32 := 1#32
  let v1985 : BitVec 32 := Scalar.select v1984 c1_i32_1303 c32_i32_1301
  let v1986 : BitVec 32 := Scalar.remsi v1983 v1985
  let c0_i32_1305 : BitVec 32 := 0#32
  let v1988 : BitVec 1 := Scalar.cmpi .slt v1986 c0_i32_1305
  let c0_i32_1306 : BitVec 32 := 0#32
  let v1989 : BitVec 1 := Scalar.cmpi .slt v1985 c0_i32_1306
  let v1990 : BitVec 1 := Scalar.xori v1988 v1989
  let c0_i32_1304 : BitVec 32 := 0#32
  let v1987 : BitVec 1 := Scalar.cmpi .ne v1986 c0_i32_1304
  let v1991 : BitVec 1 := Scalar.andi v1990 v1987
  let v1992 : BitVec 32 := Scalar.addi v1986 v1985
  let v1993 : BitVec 32 := Scalar.select v1991 v1992 v1986
  let c1_i32_1308 : BitVec 32 := 1#32
  let v1994 : BitVec 32 := Scalar.muli v1993 c1_i32_1308
  let v1995 : BitVec 32 := Scalar.addi c0_i32_1309 v1994
  v1995.toNat
def k0_dev67 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1312 : BitVec 32 := 5#32
  let v2002 : BitVec 32 := Scalar.addi v2 c5_i32_1312
  let c32_i32_1313 : BitVec 32 := 32#32
  let c0_i32_1314 : BitVec 32 := 0#32
  let v2003 : BitVec 1 := Scalar.cmpi .eq c32_i32_1313 c0_i32_1314
  let c1_i32_1315 : BitVec 32 := 1#32
  let v2004 : BitVec 32 := Scalar.select v2003 c1_i32_1315 c32_i32_1313
  let v2005 : BitVec 32 := Scalar.remsi v2002 v2004
  let c0_i32_1317 : BitVec 32 := 0#32
  let v2007 : BitVec 1 := Scalar.cmpi .slt v2005 c0_i32_1317
  let c0_i32_1318 : BitVec 32 := 0#32
  let v2008 : BitVec 1 := Scalar.cmpi .slt v2004 c0_i32_1318
  let v2009 : BitVec 1 := Scalar.xori v2007 v2008
  let c0_i32_1316 : BitVec 32 := 0#32
  let v2006 : BitVec 1 := Scalar.cmpi .ne v2005 c0_i32_1316
  let v2010 : BitVec 1 := Scalar.andi v2009 v2006
  let v2011 : BitVec 32 := Scalar.addi v2005 v2004
  let v2012 : BitVec 32 := Scalar.select v2010 v2011 v2005
  let c1_i32_1320 : BitVec 32 := 1#32
  let v2013 : BitVec 32 := Scalar.muli v2012 c1_i32_1320
  let v2014 : BitVec 32 := Scalar.addi c0_i32_1321 v2013
  v2014.toNat
def k0_dev68 (d0 : Dev nD) : Nat :=
  let c0_i32_1333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1324 : BitVec 32 := 6#32
  let v2021 : BitVec 32 := Scalar.addi v2 c6_i32_1324
  let c32_i32_1325 : BitVec 32 := 32#32
  let c0_i32_1326 : BitVec 32 := 0#32
  let v2022 : BitVec 1 := Scalar.cmpi .eq c32_i32_1325 c0_i32_1326
  let c1_i32_1327 : BitVec 32 := 1#32
  let v2023 : BitVec 32 := Scalar.select v2022 c1_i32_1327 c32_i32_1325
  let v2024 : BitVec 32 := Scalar.remsi v2021 v2023
  let c0_i32_1329 : BitVec 32 := 0#32
  let v2026 : BitVec 1 := Scalar.cmpi .slt v2024 c0_i32_1329
  let c0_i32_1330 : BitVec 32 := 0#32
  let v2027 : BitVec 1 := Scalar.cmpi .slt v2023 c0_i32_1330
  let v2028 : BitVec 1 := Scalar.xori v2026 v2027
  let c0_i32_1328 : BitVec 32 := 0#32
  let v2025 : BitVec 1 := Scalar.cmpi .ne v2024 c0_i32_1328
  let v2029 : BitVec 1 := Scalar.andi v2028 v2025
  let v2030 : BitVec 32 := Scalar.addi v2024 v2023
  let v2031 : BitVec 32 := Scalar.select v2029 v2030 v2024
  let c1_i32_1332 : BitVec 32 := 1#32
  let v2032 : BitVec 32 := Scalar.muli v2031 c1_i32_1332
  let v2033 : BitVec 32 := Scalar.addi c0_i32_1333 v2032
  v2033.toNat
def k0_dev69 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1336 : BitVec 32 := 7#32
  let v2040 : BitVec 32 := Scalar.addi v2 c7_i32_1336
  let c32_i32_1337 : BitVec 32 := 32#32
  let c0_i32_1338 : BitVec 32 := 0#32
  let v2041 : BitVec 1 := Scalar.cmpi .eq c32_i32_1337 c0_i32_1338
  let c1_i32_1339 : BitVec 32 := 1#32
  let v2042 : BitVec 32 := Scalar.select v2041 c1_i32_1339 c32_i32_1337
  let v2043 : BitVec 32 := Scalar.remsi v2040 v2042
  let c0_i32_1341 : BitVec 32 := 0#32
  let v2045 : BitVec 1 := Scalar.cmpi .slt v2043 c0_i32_1341
  let c0_i32_1342 : BitVec 32 := 0#32
  let v2046 : BitVec 1 := Scalar.cmpi .slt v2042 c0_i32_1342
  let v2047 : BitVec 1 := Scalar.xori v2045 v2046
  let c0_i32_1340 : BitVec 32 := 0#32
  let v2044 : BitVec 1 := Scalar.cmpi .ne v2043 c0_i32_1340
  let v2048 : BitVec 1 := Scalar.andi v2047 v2044
  let v2049 : BitVec 32 := Scalar.addi v2043 v2042
  let v2050 : BitVec 32 := Scalar.select v2048 v2049 v2043
  let c1_i32_1344 : BitVec 32 := 1#32
  let v2051 : BitVec 32 := Scalar.muli v2050 c1_i32_1344
  let v2052 : BitVec 32 := Scalar.addi c0_i32_1345 v2051
  v2052.toNat
def k0_dev70 (d0 : Dev nD) : Nat :=
  let c0_i32_1357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1348 : BitVec 32 := 8#32
  let v2059 : BitVec 32 := Scalar.addi v2 c8_i32_1348
  let c32_i32_1349 : BitVec 32 := 32#32
  let c0_i32_1350 : BitVec 32 := 0#32
  let v2060 : BitVec 1 := Scalar.cmpi .eq c32_i32_1349 c0_i32_1350
  let c1_i32_1351 : BitVec 32 := 1#32
  let v2061 : BitVec 32 := Scalar.select v2060 c1_i32_1351 c32_i32_1349
  let v2062 : BitVec 32 := Scalar.remsi v2059 v2061
  let c0_i32_1353 : BitVec 32 := 0#32
  let v2064 : BitVec 1 := Scalar.cmpi .slt v2062 c0_i32_1353
  let c0_i32_1354 : BitVec 32 := 0#32
  let v2065 : BitVec 1 := Scalar.cmpi .slt v2061 c0_i32_1354
  let v2066 : BitVec 1 := Scalar.xori v2064 v2065
  let c0_i32_1352 : BitVec 32 := 0#32
  let v2063 : BitVec 1 := Scalar.cmpi .ne v2062 c0_i32_1352
  let v2067 : BitVec 1 := Scalar.andi v2066 v2063
  let v2068 : BitVec 32 := Scalar.addi v2062 v2061
  let v2069 : BitVec 32 := Scalar.select v2067 v2068 v2062
  let c1_i32_1356 : BitVec 32 := 1#32
  let v2070 : BitVec 32 := Scalar.muli v2069 c1_i32_1356
  let v2071 : BitVec 32 := Scalar.addi c0_i32_1357 v2070
  v2071.toNat
def k0_dev71 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1360 : BitVec 32 := 9#32
  let v2078 : BitVec 32 := Scalar.addi v2 c9_i32_1360
  let c32_i32_1361 : BitVec 32 := 32#32
  let c0_i32_1362 : BitVec 32 := 0#32
  let v2079 : BitVec 1 := Scalar.cmpi .eq c32_i32_1361 c0_i32_1362
  let c1_i32_1363 : BitVec 32 := 1#32
  let v2080 : BitVec 32 := Scalar.select v2079 c1_i32_1363 c32_i32_1361
  let v2081 : BitVec 32 := Scalar.remsi v2078 v2080
  let c0_i32_1365 : BitVec 32 := 0#32
  let v2083 : BitVec 1 := Scalar.cmpi .slt v2081 c0_i32_1365
  let c0_i32_1366 : BitVec 32 := 0#32
  let v2084 : BitVec 1 := Scalar.cmpi .slt v2080 c0_i32_1366
  let v2085 : BitVec 1 := Scalar.xori v2083 v2084
  let c0_i32_1364 : BitVec 32 := 0#32
  let v2082 : BitVec 1 := Scalar.cmpi .ne v2081 c0_i32_1364
  let v2086 : BitVec 1 := Scalar.andi v2085 v2082
  let v2087 : BitVec 32 := Scalar.addi v2081 v2080
  let v2088 : BitVec 32 := Scalar.select v2086 v2087 v2081
  let c1_i32_1368 : BitVec 32 := 1#32
  let v2089 : BitVec 32 := Scalar.muli v2088 c1_i32_1368
  let v2090 : BitVec 32 := Scalar.addi c0_i32_1369 v2089
  v2090.toNat
def k0_dev72 (d0 : Dev nD) : Nat :=
  let c0_i32_1381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1372 : BitVec 32 := 10#32
  let v2097 : BitVec 32 := Scalar.addi v2 c10_i32_1372
  let c32_i32_1373 : BitVec 32 := 32#32
  let c0_i32_1374 : BitVec 32 := 0#32
  let v2098 : BitVec 1 := Scalar.cmpi .eq c32_i32_1373 c0_i32_1374
  let c1_i32_1375 : BitVec 32 := 1#32
  let v2099 : BitVec 32 := Scalar.select v2098 c1_i32_1375 c32_i32_1373
  let v2100 : BitVec 32 := Scalar.remsi v2097 v2099
  let c0_i32_1377 : BitVec 32 := 0#32
  let v2102 : BitVec 1 := Scalar.cmpi .slt v2100 c0_i32_1377
  let c0_i32_1378 : BitVec 32 := 0#32
  let v2103 : BitVec 1 := Scalar.cmpi .slt v2099 c0_i32_1378
  let v2104 : BitVec 1 := Scalar.xori v2102 v2103
  let c0_i32_1376 : BitVec 32 := 0#32
  let v2101 : BitVec 1 := Scalar.cmpi .ne v2100 c0_i32_1376
  let v2105 : BitVec 1 := Scalar.andi v2104 v2101
  let v2106 : BitVec 32 := Scalar.addi v2100 v2099
  let v2107 : BitVec 32 := Scalar.select v2105 v2106 v2100
  let c1_i32_1380 : BitVec 32 := 1#32
  let v2108 : BitVec 32 := Scalar.muli v2107 c1_i32_1380
  let v2109 : BitVec 32 := Scalar.addi c0_i32_1381 v2108
  v2109.toNat
def k0_dev73 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1384 : BitVec 32 := 11#32
  let v2116 : BitVec 32 := Scalar.addi v2 c11_i32_1384
  let c32_i32_1385 : BitVec 32 := 32#32
  let c0_i32_1386 : BitVec 32 := 0#32
  let v2117 : BitVec 1 := Scalar.cmpi .eq c32_i32_1385 c0_i32_1386
  let c1_i32_1387 : BitVec 32 := 1#32
  let v2118 : BitVec 32 := Scalar.select v2117 c1_i32_1387 c32_i32_1385
  let v2119 : BitVec 32 := Scalar.remsi v2116 v2118
  let c0_i32_1389 : BitVec 32 := 0#32
  let v2121 : BitVec 1 := Scalar.cmpi .slt v2119 c0_i32_1389
  let c0_i32_1390 : BitVec 32 := 0#32
  let v2122 : BitVec 1 := Scalar.cmpi .slt v2118 c0_i32_1390
  let v2123 : BitVec 1 := Scalar.xori v2121 v2122
  let c0_i32_1388 : BitVec 32 := 0#32
  let v2120 : BitVec 1 := Scalar.cmpi .ne v2119 c0_i32_1388
  let v2124 : BitVec 1 := Scalar.andi v2123 v2120
  let v2125 : BitVec 32 := Scalar.addi v2119 v2118
  let v2126 : BitVec 32 := Scalar.select v2124 v2125 v2119
  let c1_i32_1392 : BitVec 32 := 1#32
  let v2127 : BitVec 32 := Scalar.muli v2126 c1_i32_1392
  let v2128 : BitVec 32 := Scalar.addi c0_i32_1393 v2127
  v2128.toNat
def k0_dev74 (d0 : Dev nD) : Nat :=
  let c0_i32_1405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1396 : BitVec 32 := 12#32
  let v2135 : BitVec 32 := Scalar.addi v2 c12_i32_1396
  let c32_i32_1397 : BitVec 32 := 32#32
  let c0_i32_1398 : BitVec 32 := 0#32
  let v2136 : BitVec 1 := Scalar.cmpi .eq c32_i32_1397 c0_i32_1398
  let c1_i32_1399 : BitVec 32 := 1#32
  let v2137 : BitVec 32 := Scalar.select v2136 c1_i32_1399 c32_i32_1397
  let v2138 : BitVec 32 := Scalar.remsi v2135 v2137
  let c0_i32_1401 : BitVec 32 := 0#32
  let v2140 : BitVec 1 := Scalar.cmpi .slt v2138 c0_i32_1401
  let c0_i32_1402 : BitVec 32 := 0#32
  let v2141 : BitVec 1 := Scalar.cmpi .slt v2137 c0_i32_1402
  let v2142 : BitVec 1 := Scalar.xori v2140 v2141
  let c0_i32_1400 : BitVec 32 := 0#32
  let v2139 : BitVec 1 := Scalar.cmpi .ne v2138 c0_i32_1400
  let v2143 : BitVec 1 := Scalar.andi v2142 v2139
  let v2144 : BitVec 32 := Scalar.addi v2138 v2137
  let v2145 : BitVec 32 := Scalar.select v2143 v2144 v2138
  let c1_i32_1404 : BitVec 32 := 1#32
  let v2146 : BitVec 32 := Scalar.muli v2145 c1_i32_1404
  let v2147 : BitVec 32 := Scalar.addi c0_i32_1405 v2146
  v2147.toNat
def k0_dev75 (d0 : Dev nD) : Nat :=
  let c0_i32_1417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1408 : BitVec 32 := 13#32
  let v2154 : BitVec 32 := Scalar.addi v2 c13_i32_1408
  let c32_i32_1409 : BitVec 32 := 32#32
  let c0_i32_1410 : BitVec 32 := 0#32
  let v2155 : BitVec 1 := Scalar.cmpi .eq c32_i32_1409 c0_i32_1410
  let c1_i32_1411 : BitVec 32 := 1#32
  let v2156 : BitVec 32 := Scalar.select v2155 c1_i32_1411 c32_i32_1409
  let v2157 : BitVec 32 := Scalar.remsi v2154 v2156
  let c0_i32_1413 : BitVec 32 := 0#32
  let v2159 : BitVec 1 := Scalar.cmpi .slt v2157 c0_i32_1413
  let c0_i32_1414 : BitVec 32 := 0#32
  let v2160 : BitVec 1 := Scalar.cmpi .slt v2156 c0_i32_1414
  let v2161 : BitVec 1 := Scalar.xori v2159 v2160
  let c0_i32_1412 : BitVec 32 := 0#32
  let v2158 : BitVec 1 := Scalar.cmpi .ne v2157 c0_i32_1412
  let v2162 : BitVec 1 := Scalar.andi v2161 v2158
  let v2163 : BitVec 32 := Scalar.addi v2157 v2156
  let v2164 : BitVec 32 := Scalar.select v2162 v2163 v2157
  let c1_i32_1416 : BitVec 32 := 1#32
  let v2165 : BitVec 32 := Scalar.muli v2164 c1_i32_1416
  let v2166 : BitVec 32 := Scalar.addi c0_i32_1417 v2165
  v2166.toNat
def k0_dev76 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1420 : BitVec 32 := 14#32
  let v2173 : BitVec 32 := Scalar.addi v2 c14_i32_1420
  let c32_i32_1421 : BitVec 32 := 32#32
  let c0_i32_1422 : BitVec 32 := 0#32
  let v2174 : BitVec 1 := Scalar.cmpi .eq c32_i32_1421 c0_i32_1422
  let c1_i32_1423 : BitVec 32 := 1#32
  let v2175 : BitVec 32 := Scalar.select v2174 c1_i32_1423 c32_i32_1421
  let v2176 : BitVec 32 := Scalar.remsi v2173 v2175
  let c0_i32_1425 : BitVec 32 := 0#32
  let v2178 : BitVec 1 := Scalar.cmpi .slt v2176 c0_i32_1425
  let c0_i32_1426 : BitVec 32 := 0#32
  let v2179 : BitVec 1 := Scalar.cmpi .slt v2175 c0_i32_1426
  let v2180 : BitVec 1 := Scalar.xori v2178 v2179
  let c0_i32_1424 : BitVec 32 := 0#32
  let v2177 : BitVec 1 := Scalar.cmpi .ne v2176 c0_i32_1424
  let v2181 : BitVec 1 := Scalar.andi v2180 v2177
  let v2182 : BitVec 32 := Scalar.addi v2176 v2175
  let v2183 : BitVec 32 := Scalar.select v2181 v2182 v2176
  let c1_i32_1428 : BitVec 32 := 1#32
  let v2184 : BitVec 32 := Scalar.muli v2183 c1_i32_1428
  let v2185 : BitVec 32 := Scalar.addi c0_i32_1429 v2184
  v2185.toNat
def k0_dev77 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1432 : BitVec 32 := 15#32
  let v2192 : BitVec 32 := Scalar.addi v2 c15_i32_1432
  let c32_i32_1433 : BitVec 32 := 32#32
  let c0_i32_1434 : BitVec 32 := 0#32
  let v2193 : BitVec 1 := Scalar.cmpi .eq c32_i32_1433 c0_i32_1434
  let c1_i32_1435 : BitVec 32 := 1#32
  let v2194 : BitVec 32 := Scalar.select v2193 c1_i32_1435 c32_i32_1433
  let v2195 : BitVec 32 := Scalar.remsi v2192 v2194
  let c0_i32_1437 : BitVec 32 := 0#32
  let v2197 : BitVec 1 := Scalar.cmpi .slt v2195 c0_i32_1437
  let c0_i32_1438 : BitVec 32 := 0#32
  let v2198 : BitVec 1 := Scalar.cmpi .slt v2194 c0_i32_1438
  let v2199 : BitVec 1 := Scalar.xori v2197 v2198
  let c0_i32_1436 : BitVec 32 := 0#32
  let v2196 : BitVec 1 := Scalar.cmpi .ne v2195 c0_i32_1436
  let v2200 : BitVec 1 := Scalar.andi v2199 v2196
  let v2201 : BitVec 32 := Scalar.addi v2195 v2194
  let v2202 : BitVec 32 := Scalar.select v2200 v2201 v2195
  let c1_i32_1440 : BitVec 32 := 1#32
  let v2203 : BitVec 32 := Scalar.muli v2202 c1_i32_1440
  let v2204 : BitVec 32 := Scalar.addi c0_i32_1441 v2203
  v2204.toNat
def k0_dev78 (d0 : Dev nD) : Nat :=
  let c0_i32_1453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1444 : BitVec 32 := 16#32
  let v2211 : BitVec 32 := Scalar.addi v2 c16_i32_1444
  let c32_i32_1445 : BitVec 32 := 32#32
  let c0_i32_1446 : BitVec 32 := 0#32
  let v2212 : BitVec 1 := Scalar.cmpi .eq c32_i32_1445 c0_i32_1446
  let c1_i32_1447 : BitVec 32 := 1#32
  let v2213 : BitVec 32 := Scalar.select v2212 c1_i32_1447 c32_i32_1445
  let v2214 : BitVec 32 := Scalar.remsi v2211 v2213
  let c0_i32_1449 : BitVec 32 := 0#32
  let v2216 : BitVec 1 := Scalar.cmpi .slt v2214 c0_i32_1449
  let c0_i32_1450 : BitVec 32 := 0#32
  let v2217 : BitVec 1 := Scalar.cmpi .slt v2213 c0_i32_1450
  let v2218 : BitVec 1 := Scalar.xori v2216 v2217
  let c0_i32_1448 : BitVec 32 := 0#32
  let v2215 : BitVec 1 := Scalar.cmpi .ne v2214 c0_i32_1448
  let v2219 : BitVec 1 := Scalar.andi v2218 v2215
  let v2220 : BitVec 32 := Scalar.addi v2214 v2213
  let v2221 : BitVec 32 := Scalar.select v2219 v2220 v2214
  let c1_i32_1452 : BitVec 32 := 1#32
  let v2222 : BitVec 32 := Scalar.muli v2221 c1_i32_1452
  let v2223 : BitVec 32 := Scalar.addi c0_i32_1453 v2222
  v2223.toNat
def k0_dev79 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1456 : BitVec 32 := 17#32
  let v2230 : BitVec 32 := Scalar.addi v2 c17_i32_1456
  let c32_i32_1457 : BitVec 32 := 32#32
  let c0_i32_1458 : BitVec 32 := 0#32
  let v2231 : BitVec 1 := Scalar.cmpi .eq c32_i32_1457 c0_i32_1458
  let c1_i32_1459 : BitVec 32 := 1#32
  let v2232 : BitVec 32 := Scalar.select v2231 c1_i32_1459 c32_i32_1457
  let v2233 : BitVec 32 := Scalar.remsi v2230 v2232
  let c0_i32_1461 : BitVec 32 := 0#32
  let v2235 : BitVec 1 := Scalar.cmpi .slt v2233 c0_i32_1461
  let c0_i32_1462 : BitVec 32 := 0#32
  let v2236 : BitVec 1 := Scalar.cmpi .slt v2232 c0_i32_1462
  let v2237 : BitVec 1 := Scalar.xori v2235 v2236
  let c0_i32_1460 : BitVec 32 := 0#32
  let v2234 : BitVec 1 := Scalar.cmpi .ne v2233 c0_i32_1460
  let v2238 : BitVec 1 := Scalar.andi v2237 v2234
  let v2239 : BitVec 32 := Scalar.addi v2233 v2232
  let v2240 : BitVec 32 := Scalar.select v2238 v2239 v2233
  let c1_i32_1464 : BitVec 32 := 1#32
  let v2241 : BitVec 32 := Scalar.muli v2240 c1_i32_1464
  let v2242 : BitVec 32 := Scalar.addi c0_i32_1465 v2241
  v2242.toNat
def k0_dev80 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1468 : BitVec 32 := 18#32
  let v2249 : BitVec 32 := Scalar.addi v2 c18_i32_1468
  let c32_i32_1469 : BitVec 32 := 32#32
  let c0_i32_1470 : BitVec 32 := 0#32
  let v2250 : BitVec 1 := Scalar.cmpi .eq c32_i32_1469 c0_i32_1470
  let c1_i32_1471 : BitVec 32 := 1#32
  let v2251 : BitVec 32 := Scalar.select v2250 c1_i32_1471 c32_i32_1469
  let v2252 : BitVec 32 := Scalar.remsi v2249 v2251
  let c0_i32_1473 : BitVec 32 := 0#32
  let v2254 : BitVec 1 := Scalar.cmpi .slt v2252 c0_i32_1473
  let c0_i32_1474 : BitVec 32 := 0#32
  let v2255 : BitVec 1 := Scalar.cmpi .slt v2251 c0_i32_1474
  let v2256 : BitVec 1 := Scalar.xori v2254 v2255
  let c0_i32_1472 : BitVec 32 := 0#32
  let v2253 : BitVec 1 := Scalar.cmpi .ne v2252 c0_i32_1472
  let v2257 : BitVec 1 := Scalar.andi v2256 v2253
  let v2258 : BitVec 32 := Scalar.addi v2252 v2251
  let v2259 : BitVec 32 := Scalar.select v2257 v2258 v2252
  let c1_i32_1476 : BitVec 32 := 1#32
  let v2260 : BitVec 32 := Scalar.muli v2259 c1_i32_1476
  let v2261 : BitVec 32 := Scalar.addi c0_i32_1477 v2260
  v2261.toNat
def k0_dev81 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1480 : BitVec 32 := 19#32
  let v2268 : BitVec 32 := Scalar.addi v2 c19_i32_1480
  let c32_i32_1481 : BitVec 32 := 32#32
  let c0_i32_1482 : BitVec 32 := 0#32
  let v2269 : BitVec 1 := Scalar.cmpi .eq c32_i32_1481 c0_i32_1482
  let c1_i32_1483 : BitVec 32 := 1#32
  let v2270 : BitVec 32 := Scalar.select v2269 c1_i32_1483 c32_i32_1481
  let v2271 : BitVec 32 := Scalar.remsi v2268 v2270
  let c0_i32_1485 : BitVec 32 := 0#32
  let v2273 : BitVec 1 := Scalar.cmpi .slt v2271 c0_i32_1485
  let c0_i32_1486 : BitVec 32 := 0#32
  let v2274 : BitVec 1 := Scalar.cmpi .slt v2270 c0_i32_1486
  let v2275 : BitVec 1 := Scalar.xori v2273 v2274
  let c0_i32_1484 : BitVec 32 := 0#32
  let v2272 : BitVec 1 := Scalar.cmpi .ne v2271 c0_i32_1484
  let v2276 : BitVec 1 := Scalar.andi v2275 v2272
  let v2277 : BitVec 32 := Scalar.addi v2271 v2270
  let v2278 : BitVec 32 := Scalar.select v2276 v2277 v2271
  let c1_i32_1488 : BitVec 32 := 1#32
  let v2279 : BitVec 32 := Scalar.muli v2278 c1_i32_1488
  let v2280 : BitVec 32 := Scalar.addi c0_i32_1489 v2279
  v2280.toNat
def k0_dev82 (d0 : Dev nD) : Nat :=
  let c0_i32_1501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1492 : BitVec 32 := 20#32
  let v2287 : BitVec 32 := Scalar.addi v2 c20_i32_1492
  let c32_i32_1493 : BitVec 32 := 32#32
  let c0_i32_1494 : BitVec 32 := 0#32
  let v2288 : BitVec 1 := Scalar.cmpi .eq c32_i32_1493 c0_i32_1494
  let c1_i32_1495 : BitVec 32 := 1#32
  let v2289 : BitVec 32 := Scalar.select v2288 c1_i32_1495 c32_i32_1493
  let v2290 : BitVec 32 := Scalar.remsi v2287 v2289
  let c0_i32_1497 : BitVec 32 := 0#32
  let v2292 : BitVec 1 := Scalar.cmpi .slt v2290 c0_i32_1497
  let c0_i32_1498 : BitVec 32 := 0#32
  let v2293 : BitVec 1 := Scalar.cmpi .slt v2289 c0_i32_1498
  let v2294 : BitVec 1 := Scalar.xori v2292 v2293
  let c0_i32_1496 : BitVec 32 := 0#32
  let v2291 : BitVec 1 := Scalar.cmpi .ne v2290 c0_i32_1496
  let v2295 : BitVec 1 := Scalar.andi v2294 v2291
  let v2296 : BitVec 32 := Scalar.addi v2290 v2289
  let v2297 : BitVec 32 := Scalar.select v2295 v2296 v2290
  let c1_i32_1500 : BitVec 32 := 1#32
  let v2298 : BitVec 32 := Scalar.muli v2297 c1_i32_1500
  let v2299 : BitVec 32 := Scalar.addi c0_i32_1501 v2298
  v2299.toNat
def k0_dev83 (d0 : Dev nD) : Nat :=
  let c0_i32_1513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1504 : BitVec 32 := 21#32
  let v2306 : BitVec 32 := Scalar.addi v2 c21_i32_1504
  let c32_i32_1505 : BitVec 32 := 32#32
  let c0_i32_1506 : BitVec 32 := 0#32
  let v2307 : BitVec 1 := Scalar.cmpi .eq c32_i32_1505 c0_i32_1506
  let c1_i32_1507 : BitVec 32 := 1#32
  let v2308 : BitVec 32 := Scalar.select v2307 c1_i32_1507 c32_i32_1505
  let v2309 : BitVec 32 := Scalar.remsi v2306 v2308
  let c0_i32_1509 : BitVec 32 := 0#32
  let v2311 : BitVec 1 := Scalar.cmpi .slt v2309 c0_i32_1509
  let c0_i32_1510 : BitVec 32 := 0#32
  let v2312 : BitVec 1 := Scalar.cmpi .slt v2308 c0_i32_1510
  let v2313 : BitVec 1 := Scalar.xori v2311 v2312
  let c0_i32_1508 : BitVec 32 := 0#32
  let v2310 : BitVec 1 := Scalar.cmpi .ne v2309 c0_i32_1508
  let v2314 : BitVec 1 := Scalar.andi v2313 v2310
  let v2315 : BitVec 32 := Scalar.addi v2309 v2308
  let v2316 : BitVec 32 := Scalar.select v2314 v2315 v2309
  let c1_i32_1512 : BitVec 32 := 1#32
  let v2317 : BitVec 32 := Scalar.muli v2316 c1_i32_1512
  let v2318 : BitVec 32 := Scalar.addi c0_i32_1513 v2317
  v2318.toNat
def k0_dev84 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1516 : BitVec 32 := 22#32
  let v2325 : BitVec 32 := Scalar.addi v2 c22_i32_1516
  let c32_i32_1517 : BitVec 32 := 32#32
  let c0_i32_1518 : BitVec 32 := 0#32
  let v2326 : BitVec 1 := Scalar.cmpi .eq c32_i32_1517 c0_i32_1518
  let c1_i32_1519 : BitVec 32 := 1#32
  let v2327 : BitVec 32 := Scalar.select v2326 c1_i32_1519 c32_i32_1517
  let v2328 : BitVec 32 := Scalar.remsi v2325 v2327
  let c0_i32_1521 : BitVec 32 := 0#32
  let v2330 : BitVec 1 := Scalar.cmpi .slt v2328 c0_i32_1521
  let c0_i32_1522 : BitVec 32 := 0#32
  let v2331 : BitVec 1 := Scalar.cmpi .slt v2327 c0_i32_1522
  let v2332 : BitVec 1 := Scalar.xori v2330 v2331
  let c0_i32_1520 : BitVec 32 := 0#32
  let v2329 : BitVec 1 := Scalar.cmpi .ne v2328 c0_i32_1520
  let v2333 : BitVec 1 := Scalar.andi v2332 v2329
  let v2334 : BitVec 32 := Scalar.addi v2328 v2327
  let v2335 : BitVec 32 := Scalar.select v2333 v2334 v2328
  let c1_i32_1524 : BitVec 32 := 1#32
  let v2336 : BitVec 32 := Scalar.muli v2335 c1_i32_1524
  let v2337 : BitVec 32 := Scalar.addi c0_i32_1525 v2336
  v2337.toNat
def k0_dev85 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1528 : BitVec 32 := 23#32
  let v2344 : BitVec 32 := Scalar.addi v2 c23_i32_1528
  let c32_i32_1529 : BitVec 32 := 32#32
  let c0_i32_1530 : BitVec 32 := 0#32
  let v2345 : BitVec 1 := Scalar.cmpi .eq c32_i32_1529 c0_i32_1530
  let c1_i32_1531 : BitVec 32 := 1#32
  let v2346 : BitVec 32 := Scalar.select v2345 c1_i32_1531 c32_i32_1529
  let v2347 : BitVec 32 := Scalar.remsi v2344 v2346
  let c0_i32_1533 : BitVec 32 := 0#32
  let v2349 : BitVec 1 := Scalar.cmpi .slt v2347 c0_i32_1533
  let c0_i32_1534 : BitVec 32 := 0#32
  let v2350 : BitVec 1 := Scalar.cmpi .slt v2346 c0_i32_1534
  let v2351 : BitVec 1 := Scalar.xori v2349 v2350
  let c0_i32_1532 : BitVec 32 := 0#32
  let v2348 : BitVec 1 := Scalar.cmpi .ne v2347 c0_i32_1532
  let v2352 : BitVec 1 := Scalar.andi v2351 v2348
  let v2353 : BitVec 32 := Scalar.addi v2347 v2346
  let v2354 : BitVec 32 := Scalar.select v2352 v2353 v2347
  let c1_i32_1536 : BitVec 32 := 1#32
  let v2355 : BitVec 32 := Scalar.muli v2354 c1_i32_1536
  let v2356 : BitVec 32 := Scalar.addi c0_i32_1537 v2355
  v2356.toNat
def k0_dev86 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1540 : BitVec 32 := 24#32
  let v2363 : BitVec 32 := Scalar.addi v2 c24_i32_1540
  let c32_i32_1541 : BitVec 32 := 32#32
  let c0_i32_1542 : BitVec 32 := 0#32
  let v2364 : BitVec 1 := Scalar.cmpi .eq c32_i32_1541 c0_i32_1542
  let c1_i32_1543 : BitVec 32 := 1#32
  let v2365 : BitVec 32 := Scalar.select v2364 c1_i32_1543 c32_i32_1541
  let v2366 : BitVec 32 := Scalar.remsi v2363 v2365
  let c0_i32_1545 : BitVec 32 := 0#32
  let v2368 : BitVec 1 := Scalar.cmpi .slt v2366 c0_i32_1545
  let c0_i32_1546 : BitVec 32 := 0#32
  let v2369 : BitVec 1 := Scalar.cmpi .slt v2365 c0_i32_1546
  let v2370 : BitVec 1 := Scalar.xori v2368 v2369
  let c0_i32_1544 : BitVec 32 := 0#32
  let v2367 : BitVec 1 := Scalar.cmpi .ne v2366 c0_i32_1544
  let v2371 : BitVec 1 := Scalar.andi v2370 v2367
  let v2372 : BitVec 32 := Scalar.addi v2366 v2365
  let v2373 : BitVec 32 := Scalar.select v2371 v2372 v2366
  let c1_i32_1548 : BitVec 32 := 1#32
  let v2374 : BitVec 32 := Scalar.muli v2373 c1_i32_1548
  let v2375 : BitVec 32 := Scalar.addi c0_i32_1549 v2374
  v2375.toNat
def k0_dev87 (d0 : Dev nD) : Nat :=
  let c0_i32_1561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1552 : BitVec 32 := 25#32
  let v2382 : BitVec 32 := Scalar.addi v2 c25_i32_1552
  let c32_i32_1553 : BitVec 32 := 32#32
  let c0_i32_1554 : BitVec 32 := 0#32
  let v2383 : BitVec 1 := Scalar.cmpi .eq c32_i32_1553 c0_i32_1554
  let c1_i32_1555 : BitVec 32 := 1#32
  let v2384 : BitVec 32 := Scalar.select v2383 c1_i32_1555 c32_i32_1553
  let v2385 : BitVec 32 := Scalar.remsi v2382 v2384
  let c0_i32_1557 : BitVec 32 := 0#32
  let v2387 : BitVec 1 := Scalar.cmpi .slt v2385 c0_i32_1557
  let c0_i32_1558 : BitVec 32 := 0#32
  let v2388 : BitVec 1 := Scalar.cmpi .slt v2384 c0_i32_1558
  let v2389 : BitVec 1 := Scalar.xori v2387 v2388
  let c0_i32_1556 : BitVec 32 := 0#32
  let v2386 : BitVec 1 := Scalar.cmpi .ne v2385 c0_i32_1556
  let v2390 : BitVec 1 := Scalar.andi v2389 v2386
  let v2391 : BitVec 32 := Scalar.addi v2385 v2384
  let v2392 : BitVec 32 := Scalar.select v2390 v2391 v2385
  let c1_i32_1560 : BitVec 32 := 1#32
  let v2393 : BitVec 32 := Scalar.muli v2392 c1_i32_1560
  let v2394 : BitVec 32 := Scalar.addi c0_i32_1561 v2393
  v2394.toNat
def k0_dev88 (d0 : Dev nD) : Nat :=
  let c0_i32_1573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1564 : BitVec 32 := 26#32
  let v2401 : BitVec 32 := Scalar.addi v2 c26_i32_1564
  let c32_i32_1565 : BitVec 32 := 32#32
  let c0_i32_1566 : BitVec 32 := 0#32
  let v2402 : BitVec 1 := Scalar.cmpi .eq c32_i32_1565 c0_i32_1566
  let c1_i32_1567 : BitVec 32 := 1#32
  let v2403 : BitVec 32 := Scalar.select v2402 c1_i32_1567 c32_i32_1565
  let v2404 : BitVec 32 := Scalar.remsi v2401 v2403
  let c0_i32_1569 : BitVec 32 := 0#32
  let v2406 : BitVec 1 := Scalar.cmpi .slt v2404 c0_i32_1569
  let c0_i32_1570 : BitVec 32 := 0#32
  let v2407 : BitVec 1 := Scalar.cmpi .slt v2403 c0_i32_1570
  let v2408 : BitVec 1 := Scalar.xori v2406 v2407
  let c0_i32_1568 : BitVec 32 := 0#32
  let v2405 : BitVec 1 := Scalar.cmpi .ne v2404 c0_i32_1568
  let v2409 : BitVec 1 := Scalar.andi v2408 v2405
  let v2410 : BitVec 32 := Scalar.addi v2404 v2403
  let v2411 : BitVec 32 := Scalar.select v2409 v2410 v2404
  let c1_i32_1572 : BitVec 32 := 1#32
  let v2412 : BitVec 32 := Scalar.muli v2411 c1_i32_1572
  let v2413 : BitVec 32 := Scalar.addi c0_i32_1573 v2412
  v2413.toNat
def k0_dev89 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1576 : BitVec 32 := 27#32
  let v2420 : BitVec 32 := Scalar.addi v2 c27_i32_1576
  let c32_i32_1577 : BitVec 32 := 32#32
  let c0_i32_1578 : BitVec 32 := 0#32
  let v2421 : BitVec 1 := Scalar.cmpi .eq c32_i32_1577 c0_i32_1578
  let c1_i32_1579 : BitVec 32 := 1#32
  let v2422 : BitVec 32 := Scalar.select v2421 c1_i32_1579 c32_i32_1577
  let v2423 : BitVec 32 := Scalar.remsi v2420 v2422
  let c0_i32_1581 : BitVec 32 := 0#32
  let v2425 : BitVec 1 := Scalar.cmpi .slt v2423 c0_i32_1581
  let c0_i32_1582 : BitVec 32 := 0#32
  let v2426 : BitVec 1 := Scalar.cmpi .slt v2422 c0_i32_1582
  let v2427 : BitVec 1 := Scalar.xori v2425 v2426
  let c0_i32_1580 : BitVec 32 := 0#32
  let v2424 : BitVec 1 := Scalar.cmpi .ne v2423 c0_i32_1580
  let v2428 : BitVec 1 := Scalar.andi v2427 v2424
  let v2429 : BitVec 32 := Scalar.addi v2423 v2422
  let v2430 : BitVec 32 := Scalar.select v2428 v2429 v2423
  let c1_i32_1584 : BitVec 32 := 1#32
  let v2431 : BitVec 32 := Scalar.muli v2430 c1_i32_1584
  let v2432 : BitVec 32 := Scalar.addi c0_i32_1585 v2431
  v2432.toNat
def k0_dev90 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1588 : BitVec 32 := 28#32
  let v2439 : BitVec 32 := Scalar.addi v2 c28_i32_1588
  let c32_i32_1589 : BitVec 32 := 32#32
  let c0_i32_1590 : BitVec 32 := 0#32
  let v2440 : BitVec 1 := Scalar.cmpi .eq c32_i32_1589 c0_i32_1590
  let c1_i32_1591 : BitVec 32 := 1#32
  let v2441 : BitVec 32 := Scalar.select v2440 c1_i32_1591 c32_i32_1589
  let v2442 : BitVec 32 := Scalar.remsi v2439 v2441
  let c0_i32_1593 : BitVec 32 := 0#32
  let v2444 : BitVec 1 := Scalar.cmpi .slt v2442 c0_i32_1593
  let c0_i32_1594 : BitVec 32 := 0#32
  let v2445 : BitVec 1 := Scalar.cmpi .slt v2441 c0_i32_1594
  let v2446 : BitVec 1 := Scalar.xori v2444 v2445
  let c0_i32_1592 : BitVec 32 := 0#32
  let v2443 : BitVec 1 := Scalar.cmpi .ne v2442 c0_i32_1592
  let v2447 : BitVec 1 := Scalar.andi v2446 v2443
  let v2448 : BitVec 32 := Scalar.addi v2442 v2441
  let v2449 : BitVec 32 := Scalar.select v2447 v2448 v2442
  let c1_i32_1596 : BitVec 32 := 1#32
  let v2450 : BitVec 32 := Scalar.muli v2449 c1_i32_1596
  let v2451 : BitVec 32 := Scalar.addi c0_i32_1597 v2450
  v2451.toNat
def k0_dev91 (d0 : Dev nD) : Nat :=
  let c0_i32_1609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1600 : BitVec 32 := 29#32
  let v2458 : BitVec 32 := Scalar.addi v2 c29_i32_1600
  let c32_i32_1601 : BitVec 32 := 32#32
  let c0_i32_1602 : BitVec 32 := 0#32
  let v2459 : BitVec 1 := Scalar.cmpi .eq c32_i32_1601 c0_i32_1602
  let c1_i32_1603 : BitVec 32 := 1#32
  let v2460 : BitVec 32 := Scalar.select v2459 c1_i32_1603 c32_i32_1601
  let v2461 : BitVec 32 := Scalar.remsi v2458 v2460
  let c0_i32_1605 : BitVec 32 := 0#32
  let v2463 : BitVec 1 := Scalar.cmpi .slt v2461 c0_i32_1605
  let c0_i32_1606 : BitVec 32 := 0#32
  let v2464 : BitVec 1 := Scalar.cmpi .slt v2460 c0_i32_1606
  let v2465 : BitVec 1 := Scalar.xori v2463 v2464
  let c0_i32_1604 : BitVec 32 := 0#32
  let v2462 : BitVec 1 := Scalar.cmpi .ne v2461 c0_i32_1604
  let v2466 : BitVec 1 := Scalar.andi v2465 v2462
  let v2467 : BitVec 32 := Scalar.addi v2461 v2460
  let v2468 : BitVec 32 := Scalar.select v2466 v2467 v2461
  let c1_i32_1608 : BitVec 32 := 1#32
  let v2469 : BitVec 32 := Scalar.muli v2468 c1_i32_1608
  let v2470 : BitVec 32 := Scalar.addi c0_i32_1609 v2469
  v2470.toNat
def k0_dev92 (d0 : Dev nD) : Nat :=
  let c0_i32_1621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1612 : BitVec 32 := 30#32
  let v2477 : BitVec 32 := Scalar.addi v2 c30_i32_1612
  let c32_i32_1613 : BitVec 32 := 32#32
  let c0_i32_1614 : BitVec 32 := 0#32
  let v2478 : BitVec 1 := Scalar.cmpi .eq c32_i32_1613 c0_i32_1614
  let c1_i32_1615 : BitVec 32 := 1#32
  let v2479 : BitVec 32 := Scalar.select v2478 c1_i32_1615 c32_i32_1613
  let v2480 : BitVec 32 := Scalar.remsi v2477 v2479
  let c0_i32_1617 : BitVec 32 := 0#32
  let v2482 : BitVec 1 := Scalar.cmpi .slt v2480 c0_i32_1617
  let c0_i32_1618 : BitVec 32 := 0#32
  let v2483 : BitVec 1 := Scalar.cmpi .slt v2479 c0_i32_1618
  let v2484 : BitVec 1 := Scalar.xori v2482 v2483
  let c0_i32_1616 : BitVec 32 := 0#32
  let v2481 : BitVec 1 := Scalar.cmpi .ne v2480 c0_i32_1616
  let v2485 : BitVec 1 := Scalar.andi v2484 v2481
  let v2486 : BitVec 32 := Scalar.addi v2480 v2479
  let v2487 : BitVec 32 := Scalar.select v2485 v2486 v2480
  let c1_i32_1620 : BitVec 32 := 1#32
  let v2488 : BitVec 32 := Scalar.muli v2487 c1_i32_1620
  let v2489 : BitVec 32 := Scalar.addi c0_i32_1621 v2488
  v2489.toNat
def k0_dev93 (d0 : Dev nD) : Nat :=
  let c0_i32_1633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1624 : BitVec 32 := 31#32
  let v2496 : BitVec 32 := Scalar.addi v2 c31_i32_1624
  let c32_i32_1625 : BitVec 32 := 32#32
  let c0_i32_1626 : BitVec 32 := 0#32
  let v2497 : BitVec 1 := Scalar.cmpi .eq c32_i32_1625 c0_i32_1626
  let c1_i32_1627 : BitVec 32 := 1#32
  let v2498 : BitVec 32 := Scalar.select v2497 c1_i32_1627 c32_i32_1625
  let v2499 : BitVec 32 := Scalar.remsi v2496 v2498
  let c0_i32_1629 : BitVec 32 := 0#32
  let v2501 : BitVec 1 := Scalar.cmpi .slt v2499 c0_i32_1629
  let c0_i32_1630 : BitVec 32 := 0#32
  let v2502 : BitVec 1 := Scalar.cmpi .slt v2498 c0_i32_1630
  let v2503 : BitVec 1 := Scalar.xori v2501 v2502
  let c0_i32_1628 : BitVec 32 := 0#32
  let v2500 : BitVec 1 := Scalar.cmpi .ne v2499 c0_i32_1628
  let v2504 : BitVec 1 := Scalar.andi v2503 v2500
  let v2505 : BitVec 32 := Scalar.addi v2499 v2498
  let v2506 : BitVec 32 := Scalar.select v2504 v2505 v2499
  let c1_i32_1632 : BitVec 32 := 1#32
  let v2507 : BitVec 32 := Scalar.muli v2506 c1_i32_1632
  let v2508 : BitVec 32 := Scalar.addi c0_i32_1633 v2507
  v2508.toNat
abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x128x512 : Shape := ⟨3, ![2, 128, 512]⟩
abbrev S512x16384 : Shape := ⟨2, ![512, 16384]⟩
abbrev S16384x512 : Shape := ⟨2, ![16384, 512]⟩
abbrev S512x4096 : Shape := ⟨2, ![512, 4096]⟩
abbrev S2x128x16384 : Shape := ⟨3, ![2, 128, 16384]⟩
abbrev S2x128x256x64 : Shape := ⟨4, ![2, 128, 256, 64]⟩
abbrev S2x128x4096 : Shape := ⟨3, ![2, 128, 4096]⟩
abbrev S2x128x64x64 : Shape := ⟨4, ![2, 128, 64, 64]⟩
abbrev S2x128x64x4x64 : Shape := ⟨5, ![2, 128, 64, 4, 64]⟩
abbrev S_ : Shape := ⟨0, ![]⟩
abbrev S2x256x128x1 : Shape := ⟨4, ![2, 256, 128, 1]⟩
abbrev S2x256x128x128 : Shape := ⟨4, ![2, 256, 128, 128]⟩
abbrev S2x256x128 : Shape := ⟨3, ![2, 256, 128]⟩
abbrev S2x128x256x1 : Shape := ⟨4, ![2, 128, 256, 1]⟩
abbrev S2x256x64x128 : Shape := ⟨4, ![2, 256, 64, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x16384, .f32⟩
  | .hbm, ⟨2, _⟩ => ⟨S16384x512, .f32⟩
  | .hbm, ⟨3, _⟩ => ⟨S512x4096, .f32⟩
  | .hbm, ⟨4, _⟩ => ⟨S512x4096, .f32⟩
  | .hbm, ⟨5, _⟩ => ⟨S2x128x16384, .f32⟩
  | .hbm, ⟨6, _⟩ => ⟨S2x128x256x64, .f32⟩
  | .hbm, ⟨7, _⟩ => ⟨S2x128x4096, .f32⟩
  | .hbm, ⟨8, _⟩ => ⟨S2x128x64x64, .f32⟩
  | .hbm, ⟨9, _⟩ => ⟨S2x128x4096, .f32⟩
  | .hbm, ⟨10, _⟩ => ⟨S2x128x64x64, .f32⟩
  | .hbm, ⟨11, _⟩ => ⟨S2x128x64x4x64, .f32⟩
  | .hbm, ⟨12, _⟩ => ⟨S2x128x256x64, .f32⟩
  | .hbm, ⟨13, _⟩ => ⟨S2x128x64x4x64, .f32⟩
  | .hbm, ⟨14, _⟩ => ⟨S2x128x256x64, .f32⟩
  | .hbm, ⟨15, _⟩ => ⟨S_, .f32⟩
  | .hbm, ⟨16, _⟩ => ⟨S2x128x256x64, .f32⟩
  | .hbm, ⟨17, _⟩ => ⟨S_, .f32⟩
  | .hbm, ⟨18, _⟩ => ⟨S2x256x128x1, .f32⟩
  | .hbm, ⟨19, _⟩ => ⟨S_, .f32⟩
  | .hbm, ⟨20, _⟩ => ⟨S2x256x128x1, .f32⟩
  | .hbm, ⟨21, _⟩ => ⟨S2x256x128x128, .f32⟩
  | .hbm, ⟨22, _⟩ => ⟨S_, .f32⟩
  | .hbm, ⟨23, _⟩ => ⟨S2x256x128x128, .f32⟩
  | .hbm, ⟨24, _⟩ => ⟨S2x256x128x128, .f32⟩
  | .hbm, ⟨25, _⟩ => ⟨S_, .f32⟩
  | .hbm, ⟨26, _⟩ => ⟨S2x256x128, .f32⟩
  | .hbm, ⟨27, _⟩ => ⟨S2x256x128x1, .f32⟩
  | .hbm, ⟨28, _⟩ => ⟨S2x256x128x1, .f32⟩
  | .hbm, ⟨29, _⟩ => ⟨S2x256x128x1, .f32⟩
  | .hbm, ⟨30, _⟩ => ⟨S2x256x128x1, .f32⟩
  | .hbm, ⟨31, _⟩ => ⟨S2x256x128x128, .f32⟩
  | .hbm, ⟨32, _⟩ => ⟨S2x256x128x128, .f32⟩
  | .hbm, ⟨33, _⟩ => ⟨S2x256x128x128, .f32⟩
  | .hbm, ⟨34, _⟩ => ⟨S2x256x128x1, .f32⟩
  | .hbm, ⟨35, _⟩ => ⟨S_, .f32⟩
  | .hbm, ⟨36, _⟩ => ⟨S2x256x128, .f32⟩
  | .hbm, ⟨37, _⟩ => ⟨S2x256x128x1, .f32⟩
  | .hbm, ⟨38, _⟩ => ⟨S2x256x128x1, .f32⟩
  | .hbm, ⟨39, _⟩ => ⟨S2x128x256x1, .f32⟩
  | .hbm, ⟨40, _⟩ => ⟨S2x128x256x64, .f32⟩
  | .hbm, ⟨41, _⟩ => ⟨S2x128x256x64, .f32⟩
  | .hbm, ⟨42, _⟩ => ⟨S2x256x64x128, .f32⟩
  | .hbm, ⟨43, _⟩ => ⟨S2x128x256x64, .f32⟩
  | .hbm, ⟨44, _⟩ => ⟨S2x128x256x64, .f32⟩
  | .hbm, ⟨45, _⟩ => ⟨S2x128x256x1, .f32⟩
  | .hbm, ⟨46, _⟩ => ⟨S2x128x256x64, .f32⟩
  | .hbm, ⟨47, _⟩ => ⟨S2x128x256x64, .f32⟩
  | .hbm, ⟨48, _⟩ => ⟨S2x128x16384, .f32⟩
  | .hbm, ⟨49, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Straight.lean ====
/-
  The kernel body written as one straight sequence: the barrier signals, the loads of the operands, the partial product, the
  scatter of its row blocks, the sum of the blocks received, the gather of the sums, the result, the waits for the own copies.
  Each of the runs of 31 like operations (one per other device) is a `each`; the printed body is this sequence (`body_eq`).
-/
module

public import proofs.«01_k».proof.Proof.Gen.KernelIdeal.Skeleton
public import proofs.«01_k».proof.Proof.Gen.KernelIdeal.Points

@[expose] public section

noncomputable section

namespace Cert.KernelIdeal.Exchange

open Idealize.ShloMosaic Idealize.SL.Sem Idealize.ShloMosaic.TcCoe
open Cert.KernelIdeal.Gen

variable {F : FTy → Type} [FloatOps F]

/-- A program of the kernel. -/
abbrev P (F : FTy → Type) : Type 1 := Prog (TpuEff nD τ sig (Elt F) Λ₀ .tc) PUnit

/-- `f i` for the last `n` of the 31 indices in ascending order, then `k`. -/
def each (f : Fin 31 → P F → P F) (k : P F) : (n : ℕ) → n ≤ 31 → P F
  | 0, _ => k
  | n + 1, h => f ⟨31 - (n + 1), by omega⟩ (each f k n (by omega))

/-- Loads at `n` places, their results handed on together. -/
def loadEach (ld : Fin 32 → (Vec F S1x8x512 .bf16 → P F) → P F) :
    (n : ℕ) → (Fin n → Fin 32) → ((Fin n → Vec F S1x8x512 .bf16) → P F) → P F
  | 0, _, k => k Fin.elim0
  | n + 1, at_, k => ld (at_ 0) fun w => loadEach ld n (fun i => at_ i.succ) fun ws => k (Fin.cons w ws)

/-! ## The operands, the buffers and the semaphores -/

abbrev xH : Memref sig .tc .hbm S256x512 .f32 := Memref.whole main_v5
abbrev wqH : Memref sig .tc .hbm S512x512 .f32 := Memref.whole main_arg1
abbrev woH : Memref sig .tc .hbm S512x512 .f32 := Memref.whole main_arg2
abbrev xV : Memref sig .tc .vmem S256x512 .f32 := Memref.whole cc0_scratch0
abbrev wqV : Memref sig .tc .vmem S512x512 .f32 := Memref.whole cc0_scratch1
abbrev woV : Memref sig .tc .vmem S512x512 .f32 := Memref.whole cc0_scratch2
abbrev partM : Memref sig .tc .vmem S256x512 .bf16 := Memref.whole cc0_scratch3
abbrev recvM : Memref sig .tc .vmem S32x8x512 .bf16 := Memref.whole cc0_scratch4
abbrev redM : Memref sig .tc .vmem S8x512 .bf16 := Memref.whole cc0_scratch5
abbrev stageM : Memref sig .tc .vmem S32x8x512 .bf16 := Memref.whole cc0_scratch6

theorem part_whole : (partM : Memref sig .tc .vmem S256x512 .bf16).IsWhole := Memref.isWhole_whole _
theorem recv_whole : (recvM : Memref sig .tc .vmem S32x8x512 .bf16).IsWhole := Memref.isWhole_whole _
theorem red_whole : (redM : Memref sig .tc .vmem S8x512 .bf16).IsWhole := Memref.isWhole_whole _
theorem stage_whole : (stageM : Memref sig .tc .vmem S32x8x512 .bf16).IsWhole := Memref.isWhole_whole _

/-- The word of the index `i` of a run of 31: the distance to the device it talks to. -/
abbrev dist (i : Fin 31) : BitVec 32 := BitVec.ofNat 32 (1 + i.val)

/-- One semaphore of an array of 32, at the offsets `off`. -/
abbrev semAt (a : DmaSems sig S32) (off : Fin 1 → ℕ) (h : ∀ x, off x + S1.size x ≤ S32.size x) : DmaSem sig :=
  ((a.slice (Rect.unit (s := S32) off S1.size h)).squeeze S_ squeezes_S1_S_).sem
/-- One semaphore of the array of three. -/
abbrev ldSem (off : Fin 1 → ℕ) (h : ∀ x, off x + S1.size x ≤ S3.size x) : DmaSem sig :=
  ((cc0_scratch7.slice (Rect.unit (s := S3) off S1.size h)).squeeze S_ squeezes_S1_S_).sem
/-- The semaphore of the local copies. -/
abbrev locS : DmaSem sig := cc0_scratch12.sem

theorem send_inb (i : Fin 31) : ∀ x, (![1 + i.val] : Fin 1 → ℕ) x + S1.size x ≤ S32.size x := by revert i; decide

/-- The semaphore of the send to the device at the distance of `i`. -/
abbrev sendS (a : DmaSems sig S32) (i : Fin 31) : DmaSem sig := semAt a ![1 + i.val] (send_inb i)
/-- The semaphore on which what comes from `c` arrives. -/
abbrev ownS (a : DmaSems sig S32) (c : Dev nD) : DmaSem sig := semAt a (k0_off3 c) (k0_off3_inb c)
/-- The semaphore on which what comes from the device at the distance of `i` arrives. -/
abbrev peerS (a : DmaSems sig S32) (c : Dev nD) (i : Fin 31) : DmaSem sig := semAt a (k0_off5 c (dist i)) (k0_off5_inb c i)

/-- The slot of the array `a` at the offsets `off`. -/
abbrev slotAt (a : Memref sig .tc .vmem S32x8x512 .bf16) (off : Fin 3 → ℕ) (h : ∀ x, off x + S1x8x512.size x ≤ S32x8x512.size x) :
    Memref sig .tc .vmem S8x512 .bf16 :=
  (a.slice (Rect.unit (s := S32x8x512) off S1x8x512.size h) (fun _ => rfl)).squeeze S8x512 squeezes_S1x8x512_S8x512
/-- The slot that what comes from `c` goes to. -/
abbrev ownM (a : Memref sig .tc .vmem S32x8x512 .bf16) (c : Dev nD) := slotAt a (k0_off1 c) (k0_off1_inb c)
/-- The slot that what comes from the device at the distance of `i` goes to. -/
abbrev peerM (a : Memref sig .tc .vmem S32x8x512 .bf16) (c : Dev nD) (i : Fin 31) := slotAt a (k0_off6 c (dist i)) (k0_off6_inb c i)

/-- The rows of the partial product at the offsets `off`. -/
abbrev rowsAt (off : Fin 2 → ℕ) (h : ∀ x, off x + S8x512.size x ≤ S256x512.size x) : Memref sig .tc .vmem S8x512 .bf16 :=
  partM.slice (Rect.unit (s := S256x512) off S8x512.size h) (fun _ => rfl)
abbrev ownRows (c : Dev nD) := rowsAt (k0_off2 c) (k0_off2_inb c)
abbrev peerRows (c : Dev nD) (i : Fin 31) := rowsAt (k0_off4 c (dist i)) (k0_off4_inb c i)

/-- The devices the barrier's signals name. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩]
/-- The devices the scatter's copies go to. -/
def rsDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩,
    ⟨k0_dev60 c, k0_dev60_lt c⟩, ⟨k0_dev61 c, k0_dev61_lt c⟩, ⟨k0_dev62 c, k0_dev62_lt c⟩]
/-- The devices the gather's copies go to. -/
def agDev (c : Dev nD) : Fin 31 → Dev nD :=
  ![⟨k0_dev63 c, k0_dev63_lt c⟩, ⟨k0_dev64 c, k0_dev64_lt c⟩, ⟨k0_dev65 c, k0_dev65_lt c⟩, ⟨k0_dev66 c, k0_dev66_lt c⟩,
    ⟨k0_dev67 c, k0_dev67_lt c⟩, ⟨k0_dev68 c, k0_dev68_lt c⟩, ⟨k0_dev69 c, k0_dev69_lt c⟩, ⟨k0_dev70 c, k0_dev70_lt c⟩,
    ⟨k0_dev71 c, k0_dev71_lt c⟩, ⟨k0_dev72 c, k0_dev72_lt c⟩, ⟨k0_dev73 c, k0_dev73_lt c⟩, ⟨k0_dev74 c, k0_dev74_lt c⟩,
    ⟨k0_dev75 c, k0_dev75_lt c⟩, ⟨k0_dev76 c, k0_dev76_lt c⟩, ⟨k0_dev77 c, k0_dev77_lt c⟩, ⟨k0_dev78 c, k0_dev78_lt c⟩,
    ⟨k0_dev79 c, k0_dev79_lt c⟩, ⟨k0_dev80 c, k0_dev80_lt c⟩, ⟨k0_dev81 c, k0_dev81_lt c⟩, ⟨k0_dev82 c, k0_dev82_lt c⟩,
    ⟨k0_dev83 c, k0_dev83_lt c⟩, ⟨k0_dev84 c, k0_dev84_lt c⟩, ⟨k0_dev85 c, k0_dev85_lt c⟩, ⟨k0_dev86 c, k0_dev86_lt c⟩,
    ⟨k0_dev87 c, k0_dev87_lt c⟩, ⟨k0_dev88 c, k0_dev88_lt c⟩, ⟨k0_dev89 c, k0_dev89_lt c⟩, ⟨k0_dev90 c, k0_dev90_lt c⟩,
    ⟨k0_dev91 c, k0_dev91_lt c⟩, ⟨k0_dev92 c, k0_dev92_lt c⟩, ⟨k0_dev93 c, k0_dev93_lt c⟩]

/-! ## The operations of the runs -/

/-- Signal the barrier of the device at the distance of `i`. -/
abbrev sigOp (c : Dev nD) (i : Fin 31) (k : P F) : P F :=
  .op (.semSignal (Dev.tc (sigDev c i)) barrier0 (1#32).toInt) fun _ => k
/-- Send the rows of the device at the distance of `i` to its slot for `c`. -/
abbrev rsSend (c : Dev nD) (i : Fin 31) (k : P F) : P F :=
  .op (.enqueueDma (peerRows c i) (.remote (Dev.tc (rsDev c i)) (ownM recvM c) (.dma (sendS cc0_scratch8 i))) (.dma (ownS cc0_scratch9 c))
    (part_whole.wordExact_slice rfl _ (k0_off4_wordsbf16 c i)) ((recv_whole.wordExact_slice rfl _ (k0_off1_wordsbf16 c)).reshape _ _)
    ⟨⟨rfl, Or.inl rfl⟩, trivial⟩) fun _ => k
/-- Wait for the rows from the device at the distance of `i`. -/
abbrev rsWait (c : Dev nD) (i : Fin 31) (k : P F) : P F :=
  .op (.waitDma2 (peerS cc0_scratch9 c i) (peerRows c i) (peerM recvM c i)
    (part_whole.wordExact_slice rfl _ (k0_off4_wordsbf16 c i)) ((recv_whole.wordExact_slice rfl _ (k0_off6_wordsbf16 c i)).reshape _ _)) fun _ => k
/-- Send the sum to the slot for `c` of the device at the distance of `i`. -/
abbrev agSend (c : Dev nD) (i : Fin 31) (k : P F) : P F :=
  .op (.enqueueDma redM (.remote (Dev.tc (agDev c i)) (ownM stageM c) (.dma (sendS cc0_scratch10 i))) (.dma (ownS cc0_scratch11 c))
    red_whole.wordExact ((stage_whole.wordExact_slice rfl _ (k0_off1_wordsbf16 c)).reshape _ _) ⟨⟨rfl, Or.inl rfl⟩, trivial⟩) fun _ => k
/-- Wait for the sum from the device at the distance of `i`. -/
abbrev agWait (c : Dev nD) (i : Fin 31) (k : P F) : P F :=
  .op (.waitDma2 (peerS cc0_scratch11 c i) redM (peerM stageM c i)
    red_whole.wordExact ((stage_whole.wordExact_slice rfl _ (k0_off6_wordsbf16 c i)).reshape _ _)) fun _ => k
/-- Wait for the own scatter copy `i` to have left. -/
abbrev rsDone (c : Dev nD) (i : Fin 31) (k : P F) : P F :=
  .op (.waitDma2 (sendS cc0_scratch8 i) (ownM recvM c) (peerRows c i)
    ((recv_whole.wordExact_slice rfl _ (k0_off1_wordsbf16 c)).reshape _ _) (part_whole.wordExact_slice rfl _ (k0_off4_wordsbf16 c i))) fun _ => k
/-- Wait for the own gather copy `i` to have left. -/
abbrev agDone (c : Dev nD) (i : Fin 31) (k : P F) : P F :=
  .op (.waitDma2 (sendS cc0_scratch10 i) (ownM stageM c) redM
    ((stage_whole.wordExact_slice rfl _ (k0_off1_wordsbf16 c)).reshape _ _) red_whole.wordExact) fun _ => k

theorem slot_inb (j : Fin 32) : ∀ x, (![j.val, 0, 0] : Fin 3 → ℕ) x + S1x8x512.size x ≤ S32x8x512.size x := by revert j; decide
/-- Load the slot `j` of what was received. -/
abbrev ldSlot (j : Fin 32) (k : Vec F S1x8x512 .bf16 → P F) : P F :=
  .op (.load recvM (Rect.unit (s := S32x8x512) ![j.val, 0, 0] S1x8x512.size (slot_inb j)).toLoadRect (View.loadsAt_vmem h_S1x8x512)) k

/-! ## The values -/

/-- The partial product of one device, from its operands' contents. -/
def partVal (x : Vec F S256x512 .f32) (wq : Vec F S512x512 .f32) (wk wv : Vec F S512x128 .f32) (wo : Vec F S512x512 .f32) : FVec F S256x512 .bf16 :=
  have xb := k0_pay1 x
  have wqb := k0_pay2 wq
  have z : FVec F S256x512 .f32 := constant S256x512 .f32 0x00000000#32
  have q := k0_pay3 xb wqb z
  have kb := k0_pay4 xb wk
  have vb := k0_pay5 xb wv
  k0_pay15 (k0_pay6 xb wqb z wk wv) (k0_pay10 (k0_pay7 xb wv) (k0_pay8 xb wqb z wk) (k0_pay9 xb wqb z wk)) (k0_pay11 q kb vb) (k0_pay13 q kb) (k0_pay14 q kb vb) wo

/-- The sum of the 32 blocks received. -/
def sumVal (v : Fin 32 → Vec F S1x8x512 .bf16) : FVec F S8x512 .bf16 :=
  k0_pay44 (k0_pay16 (v 0)) (k0_pay17 (v 1)) (k0_pay18 (v 2)) (k0_pay19 (v 3)) (k0_pay20 (v 4)) (k0_pay21 (v 5)) (k0_pay22 (v 6)) (k0_pay23 (v 7))
    (k0_pay24 (v 8)) (k0_pay25 (v 9)) (k0_pay26 (v 10)) (k0_pay27 (v 11)) (k0_pay28 (v 12)) (k0_pay29 (v 13)) (k0_pay30 (v 14)) (k0_pay31 (v 15))
    (k0_pay32 (v 16)) (k0_pay33 (v 17)) (k0_pay34 (v 18)) (k0_pay35 (v 19)) (k0_pay36 (v 20)) (k0_pay37 (v 21)) (k0_pay38 (v 22)) (k0_pay39 (v 23))
    (k0_pay40 (v 24)) (k0_pay41 (v 25)) (k0_pay42 (v 26)) (k0_pay43 (v 27)) (v 28) (v 29) (v 30) (v 31)

/-! ## The sequence -/

section Seq

variable (a3 a4 : Memref sig .tc .vmem S512x128 .f32) (a5 : Memref sig .tc .vmem S256x512 .f32) (c : Dev nD)

/-- The waits for the own copies. -/
def tailSeq : P F := each (rsDone c) (each (agDone c) (.ret ⟨⟩) 31 le_rfl) 31 le_rfl

/-- The result, from the sums gathered. -/
def outSeq : P F :=
  .op (.load stageM (Rect.unit (s := S32x8x512) ![0, 0, 0] S32x8x512.size inb_S32x8x512_S32x8x512_0_0_0).toLoadRect (View.loadsAt_vmem h_S32x8x512)) fun v =>
  .op (.load a5 (Rect.unit (s := S256x512) ![0, 0] S256x512.size inb_S256x512_S256x512_0_0).toLoadRect (View.loadsAt_vmem h_S256x512)) fun _ =>
  .op (.store a5 (Rect.unit (s := S256x512) ![0, 0] S256x512.size inb_S256x512_S256x512_0_0) (k0_pay45 v) Finset.univ (View.stores_vmem_bits_univ h_S256x512 rfl) (.inl rfl)) fun _ =>
  tailSeq c

/-- The gather: the own sum to the own slot and to every other device, and the other devices' sums awaited. -/
def gatherSeq : P F :=
  .op (.enqueueDma redM (.here (ownM stageM c)) (.dma locS) red_whole.wordExact ((stage_whole.wordExact_slice rfl _ (k0_off1_wordsbf16 c)).reshape _ _) ⟨Or.inl rfl, trivial⟩) fun _ =>
  each (agSend c) (
    .op (.waitDma2 locS redM (ownM stageM c) red_whole.wordExact ((stage_whole.wordExact_slice rfl _ (k0_off1_wordsbf16 c)).reshape _ _)) fun _ =>
    each (agWait c) (outSeq a5 c) 31 le_rfl) 31 le_rfl

/-- The sum of what was received. -/
def sumSeq : P F :=
  loadEach ldSlot 32 id fun v =>
  .op (.load redM (Rect.unit (s := S8x512) ![0, 0] S8x512.size inb_S8x512_S8x512_0_0).toLoadRect (View.loadsAt_vmem h_S8x512)) fun _ =>
  .op (.store redM (Rect.unit (s := S8x512) ![0, 0] S8x512.size inb_S8x512_S8x512_0_0) (sumVal v) Finset.univ
    (View.stores_vmem h_S8x512 (red_whole.storeExact_slice rfl _ packedbf16_S8x512_S8x512_0_0) (fun _ => rfl)) (.inl rfl)) fun _ =>
  gatherSeq a5 c

/-- The scatter: the own rows to the own slot, the others' to theirs, and the rows from every other device awaited. -/
def scatterSeq : P F :=
  .op (.enqueueDma (ownRows c) (.here (ownM recvM c)) (.dma locS) (part_whole.wordExact_slice rfl _ (k0_off2_wordsbf16 c)) ((recv_whole.wordExact_slice rfl _ (k0_off1_wordsbf16 c)).reshape _ _) ⟨Or.inl rfl, trivial⟩) fun _ =>
  each (rsSend c) (
    .op (.waitDma2 locS (ownRows c) (ownM recvM c) (part_whole.wordExact_slice rfl _ (k0_off2_wordsbf16 c)) ((recv_whole.wordExact_slice rfl _ (k0_off1_wordsbf16 c)).reshape _ _)) fun _ =>
    each (rsWait c) (sumSeq a5 c) 31 le_rfl) 31 le_rfl

/-- The partial product, then the wait for every other device's signal. -/
def partSeq : P F :=
  .op (.enqueueDma xH (.here xV) (.dma (ldSem ![0] inb_S3_S1_0)) (Memref.isWhole_whole _).wordExact (Memref.isWhole_whole _).wordExact ⟨Or.inl rfl, trivial⟩) fun _ =>
  .op (.enqueueDma wqH (.here wqV) (.dma (ldSem ![1] inb_S3_S1_1)) (Memref.isWhole_whole _).wordExact (Memref.isWhole_whole _).wordExact ⟨Or.inl rfl, trivial⟩) fun _ =>
  .op (.enqueueDma woH (.here woV) (.dma (ldSem ![2] inb_S3_S1_2)) (Memref.isWhole_whole _).wordExact (Memref.isWhole_whole _).wordExact ⟨Or.inl rfl, trivial⟩) fun _ =>
  .op (.waitDma2 (ldSem ![0] inb_S3_S1_0) xH xV (Memref.isWhole_whole _).wordExact (Memref.isWhole_whole _).wordExact) fun _ =>
  .op (.load xV (Rect.unit (s := S256x512) ![0, 0] S256x512.size inb_S256x512_S256x512_0_0).toLoadRect (View.loadsAt_vmem h_S256x512)) fun x =>
  .op (.waitDma2 (ldSem ![1] inb_S3_S1_1) wqH wqV (Memref.isWhole_whole _).wordExact (Memref.isWhole_whole _).wordExact) fun _ =>
  .op (.load wqV (Rect.unit (s := S512x512) ![0, 0] S512x512.size inb_S512x512_S512x512_0_0).toLoadRect (View.loadsAt_vmem h_S512x512)) fun wq =>
  .op (.load a3 (Rect.unit (s := S512x128) ![0, 0] S512x128.size inb_S512x128_S512x128_0_0).toLoadRect (View.loadsAt_vmem h_S512x128)) fun wk =>
  .op (.load a4 (Rect.unit (s := S512x128) ![0, 0] S512x128.size inb_S512x128_S512x128_0_0).toLoadRect (View.loadsAt_vmem h_S512x128)) fun wv =>
  .op (.waitDma2 (ldSem ![2] inb_S3_S1_2) woH woV (Memref.isWhole_whole _).wordExact (Memref.isWhole_whole _).wordExact) fun _ =>
  .op (.load woV (Rect.unit (s := S512x512) ![0, 0] S512x512.size inb_S512x512_S512x512_0_0).toLoadRect (View.loadsAt_vmem h_S512x512)) fun wo =>
  .op (.load partM (Rect.unit (s := S256x512) ![0, 0] S256x512.size inb_S256x512_S256x512_0_0).toLoadRect (View.loadsAt_vmem h_S256x512)) fun _ =>
  .op (.store partM (Rect.unit (s := S256x512) ![0, 0] S256x512.size inb_S256x512_S256x512_0_0) (partVal x wq wk wv wo) Finset.univ
    (View.stores_vmem h_S256x512 (part_whole.storeExact_slice rfl _ packedbf16_S256x512_S256x512_0_0) (fun _ => rfl)) (.inl rfl)) fun _ =>
  .op (.semWait barrier0 (31#32).toInt) fun _ =>
  scatterSeq a5 c

/-- The whole body. -/
def bodySeq : P F :=
  .op .deviceId fun c => each (sigOp c) (partSeq a3 a4 a5 c) 31 le_rfl

end Seq

-- The body is one sequence of several hundred steps, compared in one go.
set_option maxRecDepth 100000 in
/-- The printed body is the sequence. -/
theorem body_eq (a3 : Memref sig .tc .vmem S512x128 .f32) (h3 : a3.IsWhole) (a4 : Memref sig .tc .vmem S512x128 .f32) (h4 : a4.IsWhole)
    (a5 : Memref sig .tc .vmem S256x512 .f32) (h5 : a5.IsWhole) :
    cc0_body (F := F) xH (Memref.isWhole_whole _) wqH (Memref.isWhole_whole _) woH (Memref.isWhole_whole _) a3 h3 a4 h4 a5 h5
      xV (Memref.isWhole_whole _) wqV (Memref.isWhole_whole _) woV (Memref.isWhole_whole _) partM (Memref.isWhole_whole _) recvM (Memref.isWhole_whole _)
      redM (Memref.isWhole_whole _) stageM (Memref.isWhole_whole _) cc0_scratch7 cc0_scratch8 cc0_scratch9 cc0_scratch10 cc0_scratch11 cc0_scratch12
      = bodySeq a3 a4 a5 := rfl

end Cert.KernelIdeal.Exchange
-- ==== Proof.Slots.lean ====
/-
  Where the exchange's copies go: the device at a distance, the slots of the two receive buffers, the row blocks of the partial
  product, the numbers of the semaphores — each named by the device or the index it belongs to, and the kernel's own spellings
  shown to be these.
-/
module

public import proofs.«01_k».proof.Proof.Straight
public import Idealize.ShloMosaic.Lib.Tactic
public import Idealize.ShloMosaic.Lib.Pipeline.RegionTalk
public import Idealize.ShloMosaic.Lib.ShareLeaves

@[expose] public section

noncomputable section

namespace Cert.KernelIdeal.Exchange

open Idealize.ShloMosaic Idealize.SL Idealize.SL.RA Idealize.SL.BI Idealize.SL.Sem Idealize.ShloMosaic.TcCoe
open scoped Idealize.SL.BI
open Idealize.SL.BI.BIBase Idealize.SL.BI.Laws Idealize.SL.ProofMode
open Cert.KernelIdeal.Gen

/-! ## Devices -/

/-- The device at the distance `i + 1` from `c`. -/
def peer (c : Dev nD) (i : Fin 31) : Dev nD := (show Fin 32 from c) + (i.succ : Fin 32)

theorem peer_ne (c : Dev nD) (i : Fin 31) : peer c i ≠ c := by revert c i; decide +kernel
theorem ne_peer (c : Dev nD) (i : Fin 31) : c ≠ peer c i := (peer_ne c i).symm
theorem peer_val (c : Dev nD) (i : Fin 31) : (peer c i).val = (c.val + (1 + i.val)) % 32 := by revert c i; decide +kernel
theorem peer_inj (c : Dev nD) : Function.Injective (peer c) := by revert c; decide +kernel

theorem sigDev_eq (c : Dev nD) (i : Fin 31) : sigDev c i = peer c i := by revert c i; decide +kernel
theorem rsDev_eq (c : Dev nD) (i : Fin 31) : rsDev c i = peer c i := by revert c i; decide +kernel
theorem agDev_eq (c : Dev nD) (i : Fin 31) : agDev c i = peer c i := by revert c i; decide +kernel

/-- The other devices are the 31 at a distance. -/
theorem erase_eq_map (c : Dev nD) : (Finset.univ.erase c : Finset (Dev nD)) = Finset.univ.map ⟨peer c, peer_inj c⟩ := by
  revert c; decide +kernel

section Split

variable {M : Type} [URA M]

/-- One proposition per device: the own one and those of the devices at a distance. -/
theorem bigSep_others (c : Dev nD) (Φ : Dev nD → sProp M) :
    bigSep (Finset.univ.erase c) Φ = bigSep Finset.univ fun i : Fin 31 => Φ (peer c i) := by
  rw [erase_eq_map, bigSep_map]; rfl
theorem bigSep_dev (c : Dev nD) (Φ : Dev nD → sProp M) :
    bigSep Finset.univ Φ = iprop(Φ c ∗ bigSep Finset.univ fun i : Fin 31 => Φ (peer c i)) := by
  rw [bigSep_univ_split c, bigSep_others]; rfl
/-- One proposition per index of an array of 32: the first and the 31 others. -/
theorem bigSep_ix (Φ : Fin 32 → sProp M) :
    bigSep Finset.univ Φ = iprop(Φ 0 ∗ bigSep Finset.univ fun i : Fin 31 => Φ i.succ) := by
  have h : (Finset.univ.erase (0 : Fin 32)) = Finset.univ.map ⟨Fin.succ, Fin.succ_injective 31⟩ := by decide
  rw [bigSep_univ_split (0 : Fin 32), h, bigSep_map]; rfl

/-- The indices from `n` on, and those before. -/
def rem (n : ℕ) : Finset (Fin 31) := Finset.univ.filter fun j => n ≤ j.val
def done (n : ℕ) : Finset (Fin 31) := Finset.univ.filter fun j => j.val < n

theorem rem_zero : rem 0 = Finset.univ := by decide
theorem rem_last : rem 31 = ∅ := by decide
theorem done_zero : done 0 = ∅ := by decide
theorem done_last : done 31 = Finset.univ := by decide
theorem mem_rem (i : Fin 31) : i ∈ rem i.val := by revert i; decide
theorem rem_step (i : Fin 31) : rem i.val = insert i (rem (i.val + 1)) := by revert i; decide
theorem notMem_rem (i : Fin 31) : i ∉ rem (i.val + 1) := by revert i; decide
theorem done_step (i : Fin 31) : done (i.val + 1) = insert i (done i.val) := by revert i; decide
theorem notMem_done (i : Fin 31) : i ∉ done i.val := by revert i; decide

end Split

/-! ## Slots and rows -/

theorem slotAt_congr (a : Memref sig .tc .vmem S32x8x512 .bf16) {off off' : Fin 3 → ℕ} (h) (h') (e : off = off') :
    slotAt a off h = slotAt a off' h' := by subst e; rfl
theorem rowsAt_congr {off off' : Fin 2 → ℕ} (h) (h') (e : off = off') : rowsAt off h = rowsAt off' h' := by subst e; rfl
theorem semAt_congr (a : DmaSems sig S32) {off off' : Fin 1 → ℕ} (h) (h') (e : off = off') : semAt a off h = semAt a off' h' := by
  subst e; rfl

/-- The slot of `a` for what comes from the device `s`. -/
abbrev slotM (a : Memref sig .tc .vmem S32x8x512 .bf16) (s : Dev nD) := slotAt a ![s.val, 0, 0] (slot_inb s)

theorem rows_inb (p : Dev nD) : ∀ x, (![8 * p.val, 0] : Fin 2 → ℕ) x + S8x512.size x ≤ S256x512.size x := by revert p; decide
/-- The rows of the partial product the device `p` sums. -/
abbrev rowsM (p : Dev nD) := rowsAt ![8 * p.val, 0] (rows_inb p)

theorem ownM_eq (a) (c : Dev nD) : ownM a c = slotM a c := slotAt_congr a _ _ (k0_off1_eq c)
theorem peerM_eq (a) (c : Dev nD) (i : Fin 31) : peerM a c i = slotM a (peer c i) :=
  slotAt_congr a _ _ (by revert c i; decide +kernel)
theorem ownRows_eq (c : Dev nD) : ownRows c = rowsM c := rowsAt_congr _ _ (by revert c; decide +kernel)
theorem peerRows_eq (c : Dev nD) (i : Fin 31) : peerRows c i = rowsM (peer c i) := rowsAt_congr _ _ (by revert c i; decide +kernel)

/-- The element of an array of 32 blocks at the block `s` and the block's index `y`. -/
def inSlot (s : Dev nD) (y : S8x512.Idx) : S32x8x512.Idx := fun b => match b with
  | ⟨0, _⟩ => s
  | ⟨1, _⟩ => y 0
  | ⟨2, _⟩ => y 1
/-- The block's index of an element of an array of 32 blocks. -/
def offSlot (x : S32x8x512.Idx) : S8x512.Idx := fun b => match b with
  | ⟨0, _⟩ => x 1
  | ⟨1, _⟩ => x 2

/-- An array of 32 blocks, by its blocks. -/
def stack {α : Type} (w : Dev nD → S8x512.Idx → α) : S32x8x512.Idx → α := fun x => w (x 0) (offSlot x)

theorem offSlot_inSlot (s : Dev nD) (y : S8x512.Idx) : offSlot (inSlot s y) = y := by
  funext b; fin_cases b <;> rfl
theorem inSlot_offSlot (x : S32x8x512.Idx) : inSlot (x 0) (offSlot x) = x := by
  funext b; fin_cases b <;> rfl
theorem stack_inSlot {α : Type} (w : Dev nD → S8x512.Idx → α) (s : Dev nD) (y : S8x512.Idx) : stack w (inSlot s y) = w s y := by
  unfold stack; rw [offSlot_inSlot]; rfl

theorem slot_rect_emb (s : Dev nD) (y : S8x512.Idx) :
    (Rect.unit (s := S32x8x512) ![s.val, 0, 0] S1x8x512.size (slot_inb s)).emb (Shape.reshapeEquiv (squeezes_S1x8x512_S8x512).numel_eq y) = inSlot s y := by
  rw [Shape.reshapeEquiv_cons_one (d := ![8, 512])]
  funext b
  apply Fin.ext
  fin_cases b
  · show s.val + 1 * 0 = s.val; omega
  · show 0 + 1 * (y 0).val = (y 0).val; omega
  · show 0 + 1 * (y 1).val = (y 1).val; omega

/-- Where the slot of `s` sits. -/
theorem recv_emb (s : Dev nD) (y : S8x512.Idx) : (slotM recvM s).view.emb y = inSlot s y := slot_rect_emb s y
theorem stage_emb (s : Dev nD) (y : S8x512.Idx) : (slotM stageM s).view.emb y = inSlot s y := slot_rect_emb s y

theorem mem_slot (s : Dev nD) (x : S32x8x512.Idx) (e : S8x512.Idx ↪ S32x8x512.Idx) (he : ∀ y, e y = inSlot s y) :
    x ∈ Finset.univ.map e ↔ x 0 = s := by
  rw [Finset.mem_map]
  constructor
  · rintro ⟨y, -, rfl⟩; rw [he]; rfl
  · rintro rfl; exact ⟨offSlot x, Finset.mem_univ _, by rw [he, inSlot_offSlot]⟩
theorem mem_recv (s : Dev nD) (x : S32x8x512.Idx) : x ∈ (slotM recvM s).view.set ↔ x 0 = s := mem_slot s x _ (recv_emb s)
theorem mem_stage (s : Dev nD) (x : S32x8x512.Idx) : x ∈ (slotM stageM s).view.set ↔ x 0 = s := mem_slot s x _ (stage_emb s)

/-- The row of the partial product the row `r` of the device `p`'s block is. -/
def inRows (p : Dev nD) (y : S8x512.Idx) : S256x512.Idx := fun b => match b with
  | ⟨0, _⟩ => ⟨8 * p.val + (y 0).val, by have h : (y 0).val < 8 := (y 0).isLt; have hp : p.val < 32 := p.isLt; show _ < 256; omega⟩
  | ⟨1, _⟩ => y 1

theorem rows_emb (p : Dev nD) (y : S8x512.Idx) : (rowsM p).view.emb y = inRows p y := by
  funext b
  apply Fin.ext
  fin_cases b
  · show 8 * p.val + 1 * (y 0).val = 8 * p.val + (y 0).val; omega
  · show 0 + 1 * (y 1).val = (y 1).val; omega

theorem mem_rows (p : Dev nD) (x : S256x512.Idx) : x ∈ (rowsM p).view.set ↔ (x 0).val / 8 = p.val := by
  unfold View.set
  rw [Finset.mem_map]
  constructor
  · rintro ⟨y, -, rfl⟩; rw [rows_emb]
    have h : (y 0).val < 8 := (y 0).isLt
    show (8 * p.val + (y 0).val) / 8 = p.val
    omega
  · intro h
    refine ⟨fun b => match b with | ⟨0, _⟩ => (⟨(x 0).val % 8, Nat.mod_lt _ (by decide)⟩ : Fin 8) | ⟨1, _⟩ => x 1, Finset.mem_univ _, ?_⟩
    rw [rows_emb]
    funext b
    apply Fin.ext
    fin_cases b
    · show 8 * p.val + (x 0).val % 8 = (x 0).val; omega
    · rfl

/-! ## Semaphores, by number -/

def rsS (o : Fin 32) : DmaSem sig := (⟨6 + o.val, by omega⟩ : Fin 135)
def rsR (s : Dev nD) : DmaSem sig := (⟨38 + s.val, by have h : s.val < 32 := s.isLt; omega⟩ : Fin 135)
def agS (o : Fin 32) : DmaSem sig := (⟨70 + o.val, by omega⟩ : Fin 135)
def agR (s : Dev nD) : DmaSem sig := (⟨102 + s.val, by have h : s.val < 32 := s.isLt; omega⟩ : Fin 135)
def ldS (k : Fin 3) : DmaSem sig := (⟨3 + k.val, by omega⟩ : Fin 135)

theorem sendS_rs (i : Fin 31) : sendS cc0_scratch8 i = rsS i.succ := by revert i; decide +kernel
theorem sendS_ag (i : Fin 31) : sendS cc0_scratch10 i = agS i.succ := by revert i; decide +kernel
theorem ownS_rs (c : Dev nD) : ownS cc0_scratch9 c = rsR c := by revert c; decide +kernel
theorem ownS_ag (c : Dev nD) : ownS cc0_scratch11 c = agR c := by revert c; decide +kernel
theorem peerS_rs (c : Dev nD) (i : Fin 31) : peerS cc0_scratch9 c i = rsR (peer c i) := by revert c i; decide +kernel
theorem peerS_ag (c : Dev nD) (i : Fin 31) : peerS cc0_scratch11 c i = agR (peer c i) := by revert c i; decide +kernel
theorem ld0_eq : ldSem ![0] inb_S3_S1_0 = ldS 0 := by decide +kernel
theorem ld1_eq : ldSem ![1] inb_S3_S1_1 = ldS 1 := by decide +kernel
theorem ld2_eq : ldSem ![2] inb_S3_S1_2 = ldS 2 := by decide +kernel

/-- What a semaphore of the kernel is for. -/
inductive Role
  | none | bar | loc | ld (k : Fin 3) | rsS (o : Fin 32) | rsR (s : Fin 32) | agS (o : Fin 32) | agR (s : Fin 32)
deriving DecidableEq

def dmaRole (d : Fin 135) : Role :=
  if h : d.val < 3 then .none else if h3 : d.val < 6 then .ld ⟨d.val - 3, by omega⟩
  else if h4 : d.val < 38 then .rsS ⟨d.val - 6, by omega⟩ else if h5 : d.val < 70 then .rsR ⟨d.val - 38, by omega⟩
  else if h6 : d.val < 102 then .agS ⟨d.val - 70, by omega⟩ else if h7 : d.val < 134 then .agR ⟨d.val - 102, by omega⟩ else .loc

def role : SemLoc sig → Role
  | .reg _ => .bar
  | .dma d => dmaRole d

theorem role_bar : role (.reg barrier0) = .bar := rfl
theorem role_loc : role (.dma locS) = .loc := by decide +kernel
theorem role_ld (k : Fin 3) : role (.dma (ldS k)) = .ld k := by revert k; decide +kernel
theorem role_rsS (o : Fin 32) : role (.dma (rsS o)) = .rsS o := by revert o; decide +kernel
theorem role_rsR (s : Dev nD) : role (.dma (rsR s)) = .rsR s := by revert s; decide +kernel
theorem role_agS (o : Fin 32) : role (.dma (agS o)) = .agS o := by revert o; decide +kernel
theorem role_agR (s : Dev nD) : role (.dma (agR s)) = .agR s := by revert s; decide +kernel

end Cert.KernelIdeal.Exchange
-- ==== Proof.Protocol.lean ====
/-
  The exchange's protocol. Every device's barrier cell is paid once by every other device, with the payer's slots for the cell's
  owner; the copies into those slots pay the owner's receive cells with the slots rewritten, and the sender's own send cells
  with what was read; the local copies pay their own cells with both ends. Every cell's payments carry named contents: those of
  the buffers are functions of the devices' operands.
-/
module

public import proofs.«01_k».proof.Proof.Slots

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-- The pipeline library's copy and the exchange's: its duties are numbered by 32. -/
abbrev UU : Type := UR sig nD τ × URounds (GSem nD τ sig) (Fin 32)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 32)) (MT nD τ sig Unit (Elt F) ℕ UU ℕ) := embR

abbrev cell (c : Dev nD) (sm : SemLoc sig) : GSem nD τ sig := ((c : Thread nD τ), sm)
abbrev barCell (c : Dev nD) : GSem nD τ sig := cell c (.reg barrier0)
abbrev dcell (c : Dev nD) (d : DmaSem sig) : GSem nD τ sig := cell c (.dma d)

/-! ## Contents -/

variable (V : Dev nD → Valuation τ sig (Elt F))

/-- The partial product of the device `c`. -/
def partC (c : Dev nD) : S256x512.Idx → Elt F .bf16 :=
  partVal (V c main_v5) (V c main_arg1) (V c main_v11) (V c main_v17) (V c main_arg2)
/-- What the device `p` has received once every copy has landed: its rows of every device's partial product. -/
def recvC (p : Dev nD) : S32x8x512.Idx → Elt F .bf16 := stack fun s y => partC V s (inRows p y)
/-- One block of what was received, as the load of it has it. -/
def recvBlk (p : Dev nD) (j : Fin 32) : Vec F S1x8x512 .bf16 :=
  fun x => recvC V p (inSlot j (fun b => match b with | ⟨0, _⟩ => x 1 | ⟨1, _⟩ => x 2))
/-- The device `p`'s sum. -/
def redC (p : Dev nD) : S8x512.Idx → Elt F .bf16 := sumVal (recvBlk V p)
/-- What every device has gathered: every device's sum. -/
def stageC : S32x8x512.Idx → Elt F .bf16 := stack fun s y => redC V s y

/-! ## Points-tos -/

abbrev recvPt (c s : Dev nD) (f : Buf (Elt F) ((slotM recvM s).view.loc (c : Thread nD τ))) : sProp 𝕄 :=
  (slotM recvM s).view.loc (c : Thread nD τ) ↦[(slotM recvM s).view.set]{fullShare} f
abbrev stagePt (c s : Dev nD) (f : Buf (Elt F) ((slotM stageM s).view.loc (c : Thread nD τ))) : sProp 𝕄 :=
  (slotM stageM s).view.loc (c : Thread nD τ) ↦[(slotM stageM s).view.set]{fullShare} f
abbrev rowsPt (c p : Dev nD) (f : Buf (Elt F) ((rowsM p).view.loc (c : Thread nD τ))) : sProp 𝕄 :=
  (rowsM p).view.loc (c : Thread nD τ) ↦[(rowsM p).view.set]{fullShare} f
abbrev redPt (c : Dev nD) (q : PosShare TreeShare) (f : Buf (Elt F) ((redM).view.loc (c : Thread nD τ))) : sProp 𝕄 :=
  (redM).view.loc (c : Thread nD τ) ↦[(redM).view.set]{q} f
/-- A buffer, whole. -/
abbrev wholePt (c : Dev nD) (b : Ref sig .tc) (f : b.ty.Contents (Elt F)) : sProp 𝕄 :=
  (Memref.whole b).view.loc (c : Thread nD τ) ↦[(Memref.whole b).view.set]{fullShare} f
/-- The share of the sum the gather's copy `o` reads (the local copy reads the share 0). -/
abbrev leafQ (o : Fin 32) : PosShare TreeShare := ShareLeaves.leaf 5 fullShare o

/-- The amounts: of a copy of one block, of the activations, of one weight. -/
abbrev N : ℕ := (slotM recvM 0).view.dmaCredit
abbrev Nx : ℕ := (xV : Memref sig .tc .vmem S256x512 .f32).view.dmaCredit
abbrev Nw : ℕ := (wqV : Memref sig .tc .vmem S512x512 .f32).view.dmaCredit
theorem N_pos : 0 < N := View.dmaCredit_pos _ (by decide)
theorem Nx_pos : 0 < Nx := View.dmaCredit_pos _ (by decide)
theorem Nw_pos : 0 < Nw := View.dmaCredit_pos _ (by decide)

/-! ## The schedule -/

/-- Paid to `c`'s barrier cell by the device `p`: `p`'s two slots for `c`, and that `p`'s cells for `c` are open. -/
def barPay (c p : Dev nD) : sProp 𝕄 :=
  iprop((∃ f, recvPt p c f) ∗ (∃ f, stagePt p c f) ∗ reached ER (dcell p (rsR c)) 0 ∗ reached ER (dcell p (agR c)) 0)
/-- Paid by the copies of the operands. -/
def ldPay (c : Dev nD) (k : Fin 3) : sProp 𝕄 :=
  if k = 0 then iprop(wholePt c cc0_scratch0 (V c main_v5) ∗ wholePt c main_v5 (V c main_v5))
  else if k = 1 then iprop(wholePt c cc0_scratch1 (V c main_arg1) ∗ wholePt c main_arg1 (V c main_arg1))
  else iprop(wholePt c cc0_scratch2 (V c main_arg2) ∗ wholePt c main_arg2 (V c main_arg2))
/-- Paid by the two local copies: of the own rows, of the own sum. -/
def locPay (c : Dev nD) (r : ℕ) : sProp 𝕄 :=
  if r = 0 then iprop(recvPt c c (recvC V c) ∗ rowsPt c c (partC V c))
  else iprop(stagePt c c (stageC V) ∗ redPt c (leafQ 0) (redC V c))

def dutiesOf (c : Dev nD) : Role → ℕ → Finset (Fin 32)
  | .bar, r => if r = 0 then Finset.univ.erase c else ∅
  | .loc, r => if r < 2 then {0} else ∅
  | .ld _, r => if r = 0 then {0} else ∅
  | .rsS o, r => if r = 0 ∧ o ≠ 0 then {0} else ∅
  | .agS o, r => if r = 0 ∧ o ≠ 0 then {0} else ∅
  | .rsR s, r => if r = 0 ∧ s ≠ c then {0} else ∅
  | .agR s, r => if r = 0 ∧ s ≠ c then {0} else ∅
  | .none, _ => ∅
def amountAt : Role → ℕ
  | .bar => 1
  | .ld k => if k = 0 then Nx else Nw
  | _ => N
def payAt (c : Dev nD) : Role → ℕ → Fin 32 → sProp 𝕄
  | .bar, _, d => barPay c d
  | .loc, r, _ => locPay V c r
  | .ld k, _, _ => ldPay V c k
  | .rsS o, _, _ => rowsPt c ((show Fin 32 from c) + o) (partC V c)
  | .rsR s, _, _ => recvPt c s (recvC V c)
  | .agS o, _, _ => redPt c (leafQ o) (redC V c)
  | .agR s, _, _ => stagePt c s (stageC V)
  | .none, _, _ => iprop(emp)

theorem amountAt_pos (k : Role) : 0 < amountAt k := by
  cases k
  case bar => exact Nat.one_pos
  case ld k => unfold amountAt; dsimp only; split; exacts [Nx_pos, Nw_pos]
  all_goals exact N_pos

/-- The exchange's schedule. -/
def sched : Rounds.Schedule (GSem nD τ sig) (Fin 32) 𝕄 where
  duties g r := if g.1.2 = .tc then dutiesOf g.1.1 (role g.2) r else ∅
  unitless _ := False
  amount g _ _ := amountAt (role g.2)
  payload g r d := payAt V g.1.1 (role g.2) r d
  amount_pos g _ _ _ := amountAt_pos _

-- The search goes through every conjunct of a payload.
set_option synthInstance.maxHeartbeats 400000 in
instance barPay_storable (c p : Dev nD) : BI.Storable (upEmb : UEmb _ 𝕄) (barPay (F := F) c p) := by
  unfold barPay
  have h₁ : BI.Storable (upEmb : UEmb _ 𝕄) iprop(∃ f, recvPt (F := F) p c f) := inferInstance
  have h₂ : BI.Storable (upEmb : UEmb _ 𝕄) iprop(∃ f, stagePt (F := F) p c f) := inferInstance
  infer_instance

-- As above, for every kind of cell.
set_option synthInstance.maxHeartbeats 400000 in
instance sched_storable (g : GSem nD τ sig) (r : ℕ) (d : Fin 32) : BI.Storable (upEmb : UEmb _ 𝕄) ((sched V).payload g r d) := by
  show BI.Storable upEmb (payAt V g.1.1 (role g.2) r d)
  cases role g.2 <;> unfold payAt <;> dsimp only <;> (try unfold ldPay) <;> (try unfold locPay) <;>
    (repeat' split) <;> infer_instance

theorem sched_duties (c : Dev nD) (sm : SemLoc sig) (r : ℕ) : (sched V).duties (cell c sm) r = dutiesOf c (role sm) r := by
  dsimp only [sched]; exact if_pos rfl
theorem sched_amount (c : Dev nD) (sm : SemLoc sig) (r : ℕ) (d : Fin 32) : (sched V).amount (cell c sm) r d = amountAt (role sm) := rfl
theorem sched_payload (c : Dev nD) (sm : SemLoc sig) (r : ℕ) (d : Fin 32) : (sched V).payload (cell c sm) r d = payAt V c (role sm) r d := rfl

/-- A round of one duty. -/
theorem sched_expect_one (c : Dev nD) (sm : SemLoc sig) (r : ℕ) (h : dutiesOf c (role sm) r = {0}) :
    (sched V).expect (cell c sm) r = amountAt (role sm) := by
  unfold Schedule.expect Schedule.amountOf; rw [sched_duties, h, Finset.sum_singleton, sched_amount]
theorem sched_rest_one (c : Dev nD) (sm : SemLoc sig) (r : ℕ) (h : dutiesOf c (role sm) r = {0}) :
    bigSep ((sched V).duties (cell c sm) r \ ∅) (fun u => (sched V).payload (cell c sm) r u) = payAt V c (role sm) r 0 := by
  rw [Finset.sdiff_empty, sched_duties, h, bigSep_singleton, sched_payload]

/-- The barrier's round. -/
theorem sched_expect_bar (c : Dev nD) : (sched V).expect (barCell c) 0 = 31 := by
  unfold Schedule.expect Schedule.amountOf
  rw [sched_duties]
  simp only [sched_amount]
  rw [Finset.sum_const, role_bar]
  show (Finset.univ.erase c : Finset (Fin 32)).card • 1 = 31
  rw [Finset.card_erase_of_mem (Finset.mem_univ _)]; rfl
theorem sched_rest_bar (c : Dev nD) :
    bigSep ((sched V).duties (barCell c) 0 \ ∅) (fun u => (sched V).payload (barCell c) 0 u)
      = bigSep Finset.univ fun i : Fin 31 => barPay c (peer c i) := by
  rw [Finset.sdiff_empty, sched_duties, role_bar, show dutiesOf c .bar 0 = Finset.univ.erase c from rfl]
  exact bigSep_others c _

/-! ## What is owed; the levels -/

/-- Owed of the barrier's units, the scatter's and the gather's copies, from the index `n` on. -/
def barDue (c : Dev nD) (n : ℕ) : CellTallies nD τ sig Unit := ∑ i ∈ rem n, tallyAt (barCell (peer c i)) () 1
def rsDue (c : Dev nD) (n : ℕ) : CellTallies nD τ sig Unit := ∑ i ∈ rem n, tallyAt (dcell (peer c i) (rsR c)) () N
def agDue (c : Dev nD) (n : ℕ) : CellTallies nD τ sig Unit := ∑ i ∈ rem n, tallyAt (dcell (peer c i) (agR c)) () N
/-- Owed at launch. -/
def O₀ (c : Dev nD) : CellTallies nD τ sig Unit := barDue c 0 + (rsDue c 0 + agDue c 0)

theorem barDue_step (c : Dev nD) (i : Fin 31) : barDue c i.val = tallyAt (barCell (peer c i)) () 1 + barDue c (i.val + 1) := by
  unfold barDue; rw [rem_step, Finset.sum_insert (notMem_rem i)]
theorem rsDue_step (c : Dev nD) (i : Fin 31) : rsDue c i.val = tallyAt (dcell (peer c i) (rsR c)) () N + rsDue c (i.val + 1) := by
  unfold rsDue; rw [rem_step, Finset.sum_insert (notMem_rem i)]
theorem agDue_step (c : Dev nD) (i : Fin 31) : agDue c i.val = tallyAt (dcell (peer c i) (agR c)) () N + agDue c (i.val + 1) := by
  unfold agDue; rw [rem_step, Finset.sum_insert (notMem_rem i)]
theorem barDue_last (c : Dev nD) : barDue c 31 = 0 := by unfold barDue; rw [rem_last, Finset.sum_empty]
theorem rsDue_last (c : Dev nD) : rsDue c 31 = 0 := by unfold rsDue; rw [rem_last, Finset.sum_empty]
theorem agDue_last (c : Dev nD) : agDue c 31 = 0 := by unfold agDue; rw [rem_last, Finset.sum_empty]

def level : Role → ℕ
  | .bar => 1
  | .rsR _ => 2
  | .agR _ => 3
  | _ => 0
def L (g : GSem nD τ sig) : Finset Unit := if g.1.2 = .tc then {()} else ∅
/-- The barrier below the scatter's arrivals, those below the gather's, every other cell lowest. -/
def lv (g : GSem nD τ sig) (_ : Unit) : ℕ := level (role g.2)

theorem L_tc (c : Dev nD) (sm : SemLoc sig) : L (cell c sm) = {()} := if_pos rfl

/-- Every cell owed is a tensor core's, above the level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < level (role sm)) : Above n (tallyAt (cell c sm) () k) := by
  intro g u hg
  obtain ⟨rfl, -⟩ := Pipeline.tallyAt_pos hg
  exact ⟨by rw [L_tc]; exact Finset.mem_singleton_self _, h⟩
theorem above_sum {n : ℕ} (s : Finset (Fin 31)) (O : Fin 31 → CellTallies nD τ sig Unit) (h : ∀ i, Above n (O i)) : Above n (∑ i ∈ s, O i) := by
  induction s using Finset.induction_on with
  | empty => rw [Finset.sum_empty]; exact above_zero n
  | insert a s ha ih => rw [Finset.sum_insert ha]; exact above_add (h a) ih

theorem above_bar {n : ℕ} (hn : n < 1) (c : Dev nD) (k : ℕ) : Above n (barDue c k) := above_sum _ _ fun _ => above_tally _ _ _ hn
theorem above_rs {n : ℕ} (hn : n < 2) (c : Dev nD) (k : ℕ) : Above n (rsDue c k) :=
  above_sum _ _ fun _ => above_tally _ _ _ (by rw [role_rsR]; exact hn)
theorem above_ag {n : ℕ} (hn : n < 3) (c : Dev nD) (k : ℕ) : Above n (agDue c k) :=
  above_sum _ _ fun _ => above_tally _ _ _ (by rw [role_agR]; exact hn)
theorem above_O₀ (c : Dev nD) : Above 0 (O₀ c) :=
  above_add (above_bar (by decide) c 0) (above_add (above_rs (by decide) c 0) (above_ag (by decide) c 0))

theorem mayWait (c : Dev nD) (sm : SemLoc sig) {n : ℕ} (hn : level (role sm) = n) {O : CellTallies nD τ sig Unit} (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1) (fun p hp => by rw [Finset.mem_singleton.mp hp]; exact le_of_eq hn) (fun g u hg => (h g u hg).2)

/-! ## The ghost state -/

/-- The kernel's own (scoped) semaphores: of the operands' copies, of the local copies, the four arrays. -/
abbrev Own : Type := Fin 3 ⊕ Unit ⊕ Fin 32 ⊕ Fin 32 ⊕ Fin 32 ⊕ Fin 32
def osem : Own → DmaSem sig :=
  Sum.elim ldS (Sum.elim (fun _ => locS) (Sum.elim rsS (Sum.elim rsR (Sum.elim agS agR))))

theorem bigSep_own {M : Type} [URA M] (Φ : DmaSem sig → sProp M) :
    (bigSep Finset.univ fun k : Own => Φ (osem k))
      = iprop((bigSep Finset.univ fun k : Fin 3 => Φ (ldS k)) ∗ Φ locS ∗ (bigSep Finset.univ fun o : Fin 32 => Φ (rsS o))
        ∗ (bigSep Finset.univ fun s : Fin 32 => Φ (rsR s)) ∗ (bigSep Finset.univ fun o : Fin 32 => Φ (agS o))
        ∗ (bigSep Finset.univ fun s : Fin 32 => Φ (agR s))) := by
  rw [BI.bigSep_univ_sum, BI.bigSep_univ_sum, BI.bigSep_univ_sum, BI.bigSep_univ_sum, BI.bigSep_univ_sum, bigSep_univ_of_subsingleton ()]
  rfl

theorem osem_inj : Function.Injective osem := by
  have h : ∀ a b : Own, osem a = osem b → a = b := by decide +kernel
  exact fun a b => h a b

def barEmb : Dev nD ↪ GSem nD τ sig := ⟨barCell, fun a b h => by have := congrArg (fun g : GSem nD τ sig => g.1.1) h; exact this⟩
def ownEmb : Dev nD × Own ↪ GSem nD τ sig :=
  ⟨fun x => dcell x.1 (osem x.2), fun a b h => Prod.ext (congrArg (fun g : GSem nD τ sig => g.1.1) h)
    (osem_inj (by have := congrArg (fun g : GSem nD τ sig => g.2) h; exact SemLoc.dma.inj this))⟩
/-- The barrier cells; the scoped cells. -/
def barCells : Finset (GSem nD τ sig) := Finset.univ.map barEmb
def ownCells : Finset (GSem nD τ sig) := Finset.univ.map ownEmb

variable (K : GSem nD τ sig → ℕ)

/-- Every cell's invariant. -/
def invs : sProp 𝕄 := bigSep (barCells ∪ ownCells) fun g => cellInv ER (sched V) (K g) g
instance invs_persistent : BI.Persistent (invs V K) := by unfold invs; infer_instance

theorem inv_bar (c : Dev nD) : invs V K ⊢ cellInv ER (sched V) (K (barCell c)) (barCell c) :=
  BI.bigSep_elim (Finset.mem_union_left _ (Finset.mem_map_of_mem barEmb (Finset.mem_univ c)))
theorem inv_own (c : Dev nD) (k : Own) : invs V K ⊢ cellInv ER (sched V) (K (dcell c (osem k))) (dcell c (osem k)) :=
  BI.bigSep_elim (Finset.mem_union_right _ (Finset.mem_map_of_mem ownEmb (Finset.mem_univ (c, k))))
theorem inv_ld (c : Dev nD) (k : Fin 3) : invs V K ⊢ cellInv ER (sched V) (K (dcell c (ldS k))) (dcell c (ldS k)) := inv_own V K c (.inl k)
theorem inv_loc (c : Dev nD) : invs V K ⊢ cellInv ER (sched V) (K (dcell c locS)) (dcell c locS) := inv_own V K c (.inr (.inl ()))
theorem inv_rsS (c : Dev nD) (o : Fin 32) : invs V K ⊢ cellInv ER (sched V) (K (dcell c (rsS o))) (dcell c (rsS o)) := inv_own V K c (.inr (.inr (.inl o)))
theorem inv_rsR (c s : Dev nD) : invs V K ⊢ cellInv ER (sched V) (K (dcell c (rsR s))) (dcell c (rsR s)) := inv_own V K c (.inr (.inr (.inr (.inl s))))
theorem inv_agS (c : Dev nD) (o : Fin 32) : invs V K ⊢ cellInv ER (sched V) (K (dcell c (agS o))) (dcell c (agS o)) := inv_own V K c (.inr (.inr (.inr (.inr (.inl o)))))
theorem inv_agR (c s : Dev nD) : invs V K ⊢ cellInv ER (sched V) (K (dcell c (agR s))) (dcell c (agR s)) := inv_own V K c (.inr (.inr (.inr (.inr (.inr s)))))

/-- That round 0 of every barrier cell is reached. -/
def barsReached : sProp 𝕄 := bigSep Finset.univ fun d : Dev nD => reached ER (barCell d) 0
instance barsReached_persistent : BI.Persistent (barsReached (F := F)) := by unfold barsReached; infer_instance
/-- That round 0 of the device's own scoped cells is reached. -/
def ownReached (c : Dev nD) : sProp 𝕄 := bigSep Finset.univ fun k : Own => reached ER (dcell c (osem k)) 0
instance ownReached_persistent (c : Dev nD) : BI.Persistent (ownReached (F := F) c) := by unfold ownReached; infer_instance

theorem reached_bar (d : Dev nD) : barsReached (F := F) ⊢ reached ER (barCell d) 0 := BI.bigSep_elim (Finset.mem_univ d)
theorem reached_own (c : Dev nD) (k : Own) : ownReached (F := F) c ⊢ reached ER (dcell c (osem k)) 0 := BI.bigSep_elim (Finset.mem_univ k)
theorem reached_ld (c : Dev nD) (k : Fin 3) : ownReached (F := F) c ⊢ reached ER (dcell c (ldS k)) 0 := reached_own c (.inl k)
theorem reached_loc (c : Dev nD) : ownReached (F := F) c ⊢ reached ER (dcell c locS) 0 := reached_own c (.inr (.inl ()))
theorem reached_rsS (c : Dev nD) (o : Fin 32) : ownReached (F := F) c ⊢ reached ER (dcell c (rsS o)) 0 := reached_own c (.inr (.inr (.inl o)))
theorem reached_rsR (c s : Dev nD) : ownReached (F := F) c ⊢ reached ER (dcell c (rsR s)) 0 := reached_own c (.inr (.inr (.inr (.inl s))))
theorem reached_agS (c : Dev nD) (o : Fin 32) : ownReached (F := F) c ⊢ reached ER (dcell c (agS o)) 0 := reached_own c (.inr (.inr (.inr (.inr (.inl o)))))
theorem reached_agR (c s : Dev nD) : ownReached (F := F) c ⊢ reached ER (dcell c (agR s)) 0 := reached_own c (.inr (.inr (.inr (.inr (.inr s)))))

/-- The duty tokens of the device `c`'s payments. -/
def toks (c : Dev nD) : sProp 𝕄 :=
  iprop((bigSep Finset.univ fun i : Fin 31 => dutyTok ER (barCell (peer c i)) 0 c)
    ∗ (bigSep Finset.univ fun i : Fin 31 => dutyTok ER (dcell (peer c i) (rsR c)) 0 0)
    ∗ (bigSep Finset.univ fun i : Fin 31 => dutyTok ER (dcell (peer c i) (agR c)) 0 0)
    ∗ (bigSep Finset.univ fun i : Fin 31 => dutyTok ER (dcell c (rsS i.succ)) 0 0)
    ∗ (bigSep Finset.univ fun i : Fin 31 => dutyTok ER (dcell c (agS i.succ)) 0 0)
    ∗ (dutyTok ER (dcell c locS) 0 0 ∗ dutyTok ER (dcell c locS) 1 0)
    ∗ (bigSep Finset.univ fun k : Fin 3 => dutyTok ER (dcell c (ldS k)) 0 0))
/-- The credits of the device `c`'s waits for the other devices. -/
def creds (c : Dev nD) : sProp 𝕄 :=
  iprop(cred (tallyAt (barCell c) () 31)
    ∗ (bigSep Finset.univ fun i : Fin 31 => cred (tallyAt (dcell c (rsR (peer c i))) () N))
    ∗ (bigSep Finset.univ fun i : Fin 31 => cred (tallyAt (dcell c (agR (peer c i))) () N)))

/-- What the device carries from the launch to the kernel: the invariants, its position on its barrier cell, the right to open its
    scoped cells, the tokens. -/
def ghost (c : Dev nD) : sProp 𝕄 :=
  iprop(invs V K ∗ barsReached ∗ atPos ER (barCell c) 0 ∅ 0 ∗ (bigSep Finset.univ fun k : Own => openTok ER (dcell c (osem k))) ∗ toks c)
/-- The same once its scoped cells are open. -/
def opened (c : Dev nD) : sProp 𝕄 :=
  iprop(invs V K ∗ barsReached ∗ ownReached c ∗ atPos ER (barCell c) 0 ∅ 0
    ∗ (bigSep Finset.univ fun k : Own => atPos ER (dcell c (osem k)) 0 ∅ 0) ∗ toks c)

abbrev 𝒱₀ : Variants := Variants.none

end Cert.KernelIdeal.Exchange
-- ==== Proof.Steps.lean ====
/-
  One operation of the exchange at a time: what each signal, copy, wait and load of the kernel takes and gives, at one index of
  its run; and that a run of like operations takes and gives what its operations do.
-/
module

public import proofs.«01_k».proof.Proof.Protocol

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- The kernel's program `k` on the device `c` reaches `Q`. -/
abbrev run (c : Dev nD) (k : P F) (Q : PUnit → sProp 𝕄) : sProp 𝕄 := wp frame (wpE (defs₀ (F := F)) 𝒱₀ (c : Thread nD τ) none) Set.univ k Q

/-- Owing `O`, whatever was waited for. -/
abbrev owing (c : Dev nD) (O : CellTallies nD τ sig Unit) : sProp 𝕄 := iprop(∃ W, owes (c : Thread nD τ) O W)

/-! ## Runs -/

theorem bigSep_rem {M : Type} [URA M] (X : Fin 31 → sProp M) (i : Fin 31) :
    bigSep (rem i.val) X = iprop(X i ∗ bigSep (rem (i.val + 1)) X) := by
  rw [rem_step, bigSep_insert (notMem_rem i)]; rfl
theorem bigSep_done {M : Type} [URA M] (X : Fin 31 → sProp M) (i : Fin 31) :
    bigSep (done (i.val + 1)) X = iprop(X i ∗ bigSep (done i.val) X) := by
  rw [done_step, bigSep_insert (notMem_done i)]; rfl

theorem run_each (c : Dev nD) (Q : PUnit → sProp 𝕄) (f : Fin 31 → P F → P F) (k : P F) (R : sProp 𝕄) [BI.Persistent R] (A : ℕ → sProp 𝕄)
    (X Y : Fin 31 → sProp 𝕄)
    (hstep : ∀ (i : Fin 31) (k : P F), iprop(R ∗ A i.val ∗ X i) ⊢ iprop(((A (i.val + 1) ∗ Y i) -∗ run c k Q) -∗ run c (f i k) Q)) :
    iprop(R ∗ A 0 ∗ bigSep Finset.univ X) ⊢ iprop(((A 31 ∗ bigSep Finset.univ Y) -∗ run c k Q) -∗ run c (each f k 31 le_rfl) Q) := by
  have aux : ∀ (n : ℕ) (h : n ≤ 31), iprop(R ∗ A (31 - n) ∗ bigSep (rem (31 - n)) X ∗ bigSep (done (31 - n)) Y)
      ⊢ iprop(((A 31 ∗ bigSep Finset.univ Y) -∗ run c k Q) -∗ run c (each f k n h) Q) := by
    intro n
    induction n with
    | zero =>
      intro h
      rw [Nat.sub_zero, rem_last, done_last, bigSep_empty]
      iintro ⟨#HR, HA, -, HY⟩ Hk
      iapply Hk
      isplitl [HA]; · iexact HA
      iexact HY
    | succ n ih =>
      intro h
      have e : 31 - n = (31 - (n + 1)) + 1 := by omega
      have ih' := ih (by omega)
      rw [e] at ih'
      have hr := bigSep_rem X ⟨31 - (n + 1), by omega⟩
      have hd := bigSep_done Y ⟨31 - (n + 1), by omega⟩
      have hs := hstep ⟨31 - (n + 1), by omega⟩ (each f k n (by omega))
      dsimp only at hr hd hs
      rw [hd] at ih'
      rw [hr]
      unfold each
      iintro ⟨#HR, HA, ⟨HX, HXs⟩, HY⟩ Hk
      iapply hs $$ [HA HX]
      · isplitr; · iexact HR
        isplitl [HA]; · iexact HA
        iexact HX
      iintro ⟨HA, HYi⟩
      iapply ih' $$ [HA HXs HY HYi]
      · isplitr; · iexact HR
        isplitl [HA]; · iexact HA
        isplitl [HXs]; · iexact HXs
        isplitl [HYi]; · iexact HYi
        iexact HY
      iexact Hk
  have h := aux 31 le_rfl
  rw [Nat.sub_self, rem_zero, done_zero, bigSep_empty] at h
  iintro ⟨#HR, HA, HX⟩
  iapply h
  isplitr; · iexact HR
  isplitl [HA]; · iexact HA
  isplitl [HX]; · iexact HX
  iempintro

theorem run_loadEach (c : Dev nD) (Q : PUnit → sProp 𝕄) (S : sProp 𝕄) (ld : Fin 32 → (Vec F S1x8x512 .bf16 → P F) → P F) (v : Fin 32 → Vec F S1x8x512 .bf16)
    (hstep : ∀ (j : Fin 32) (k : Vec F S1x8x512 .bf16 → P F), S ⊢ iprop((S -∗ run c (k (v j)) Q) -∗ run c (ld j k) Q)) :
    ∀ (n : ℕ) (at_ : Fin n → Fin 32) (k : (Fin n → Vec F S1x8x512 .bf16) → P F),
      S ⊢ iprop((S -∗ run c (k fun i => v (at_ i)) Q) -∗ run c (loadEach ld n at_ k) Q) := by
  intro n
  induction n with
  | zero =>
    intro at_ k
    rw [loadEach, show (fun i : Fin 0 => v (at_ i)) = Fin.elim0 from funext fun i => i.elim0]
    iintro HS Hk
    iapply Hk
    iexact HS
  | succ n ih =>
    intro at_ k
    rw [loadEach]
    iintro HS Hk
    iapply (hstep (at_ 0) _) $$ HS
    iintro HS
    iapply (ih (fun i => at_ i.succ) fun ws => k (Fin.cons (v (at_ 0)) ws)) $$ HS
    iintro HS
    rw [show (Fin.cons (v (at_ 0)) fun i => v (at_ (Fin.succ i))) = fun i => v (at_ i) from
      funext fun i => Fin.cases rfl (fun _ => rfl) i]
    iapply Hk
    iexact HS

/-! ## The barrier -/

variable (V : Dev nD → Valuation τ sig (Elt F)) (K : GSem nD τ sig → ℕ) (c : Dev nD)

/-- What every step may use: the invariants, that the cells are open, the levels. -/
def known : sProp 𝕄 := iprop(invs V K ∗ barsReached ∗ ownReached c ∗ levAts L lv)
instance known_persistent : BI.Persistent (known V K c) := by unfold known; infer_instance

theorem sig_step (Q : PUnit → sProp 𝕄) (i : Fin 31) (k : P F) :
    iprop(known V K c ∗ owing c (barDue c i.val + (rsDue c 0 + agDue c 0))
        ∗ (dutyTok ER (barCell (peer c i)) 0 c ∗ (∃ f, recvPt c (peer c i) f) ∗ ∃ f, stagePt c (peer c i) f))
      ⊢ iprop(((owing c (barDue c (i.val + 1) + (rsDue c 0 + agDue c 0)) ∗ emp) -∗ run c k Q) -∗ run c (sigOp c i k) Q) := by
  rw [sigOp, sigDev_eq, show (1#32 : BitVec 32).toInt = ((1 : ℕ) : ℤ) from by decide]
  unfold known
  iintro ⟨⟨#HI, #HB, #HW, #HL⟩, ⟨%W, HO⟩, HT, Hr, Hs⟩ Hk
  ihave #HIp := (inv_bar V K (peer c i)) $$ HI
  ihave #HRp := (reached_bar (peer c i)) $$ HB
  ihave #HR1 := (reached_rsR c (peer c i)) $$ HW
  ihave #HR2 := (reached_agR c (peer c i)) $$ HW
  iapply (Rounds.wp_signal 𝒱₀ ER (sched V) (c : Thread nD τ) none (dst := (peer c i : Thread nD τ)) (sem := barrier0) (r := 0) (d := c) (k' := 1)
      (κ := K (barCell (peer c i)))
      (by rw [sched_duties, role_bar]; exact Finset.mem_erase.mpr ⟨ne_peer c i, Finset.mem_univ _⟩) rfl () (O₀ := barDue c i.val + (rsDue c 0 + agDue c 0)) (barDue c (i.val + 1) + (rsDue c 0 + agDue c 0))
      (by rw [barDue_step]; ac_rfl)) $$ [HO HT Hr Hs]
  · isplitr; · iexact HIp
    isplitl [HO]; · iexact HO
    isplitl [HT]; · iexact HT
    isplitl [Hr Hs]
    · rw [sched_payload, role_bar, show payAt V (peer c i) .bar 0 c = barPay (peer c i) c from rfl]
      unfold barPay
      isplitl [Hr]; · iexact Hr
      isplitl [Hs]; · iexact Hs
      isplitr; · iexact HR1
      iexact HR2
    · iexact HRp
  iintro HO
  iapply Hk
  isplitl [HO]; · iexists W; iexact HO
  iempintro

theorem bar_wait (Q : PUnit → sProp 𝕄) (k : P F) :
    iprop(known V K c ∗ owing c (rsDue c 0 + agDue c 0) ∗ cred (tallyAt (barCell c) () 31) ∗ atPos ER (barCell c) 0 ∅ 0)
      ⊢ iprop(((owing c (rsDue c 0 + agDue c 0) ∗ atPos ER (barCell c) 1 ∅ 0 ∗ bigSep Finset.univ fun i : Fin 31 => barPay c (peer c i)) -∗ run c k Q)
        -∗ run c (.op (.semWait barrier0 (31#32).toInt) fun _ => k) Q) := by
  rw [show (31#32 : BitVec 32).toInt = ((31 : ℕ) : ℤ) from by decide]
  unfold known
  iintro ⟨⟨#HI, #HB, #HW, #HL⟩, ⟨%W, HO⟩, HC, HA⟩ Hk
  ihave #HIp := (inv_bar V K c) $$ HI
  iapply (Rounds.wp_wait_rest_token 𝒱₀ ER (sched V) (c : Thread nD τ) none (κ := K (barCell c))
      (wpE_semWait_eq 𝒱₀ (c : Thread nD τ) none Set.univ) (Set.mem_univ _) () (O := rsDue c 0 + agDue c 0) (W := W) (R := 0) (m := 0) (T := ∅)
      ((Nat.zero_add _).trans (sched_expect_bar V c).symm)) $$ [HC HO HA]
  · isplitr; · iexact HIp
    isplitl [HC]; · iexact HC
    isplitl [HO]; · iexact HO
    isplitr
    · iapply (mayWait c (.reg barrier0) (n := 1) rfl (above_add (above_rs (by decide) c 0) (above_ag (by decide) c 0))); iexact HL
    iexact HA
  iintro ⟨HO, HA, -, Hp⟩
  ihave Hp := (Entails.of_eq (sched_rest_bar V c)) $$ Hp
  iapply Hk
  isplitl [HO]; · iexists _; iexact HO
  isplitl [HA]; · iexact HA
  iexact Hp

/-! ## Waits for copies -/

/-- A wait for the one copy of a round. -/
theorem copy_wait (Q : PUnit → sProp 𝕄) {d : DmaSem sig} (κ : ℕ) (r : ℕ) (Pay : sProp 𝕄) {O : CellTallies nD τ sig Unit} (n : ℕ) (hduty : dutiesOf c (role (.dma d)) r = {0})
    (hlev : level (role (.dma d)) = n) (hO : Above n O) (hpay : payAt V c (role (.dma d)) r 0 = Pay)
    {sp₁ sp₂ : Space} {s₁ s₂ : Shape} {e₁ e₂ : EltTy} {src : Memref sig .tc sp₁ s₁ e₁} {dst : Memref sig .tc sp₂ s₂ e₂} {h₁ h₂}
    (hdst : dst.view.dmaCredit = amountAt (role (.dma d))) (k : P F) :
    iprop(cellInv ER (sched V) κ (dcell c d) ∗ levAts L lv ∗ owing c O ∗ cred (tallyAt (dcell c d) () dst.view.dmaCredit) ∗ atPos ER (dcell c d) r ∅ 0)
      ⊢ iprop(((owing c O ∗ atPos ER (dcell c d) (r + 1) ∅ 0 ∗ reached ER (dcell c d) (r + 1) ∗ Pay) -∗ run c k Q)
        -∗ run c (.op (.waitDma2 d src dst h₁ h₂) fun _ => k) Q) := by
  iintro ⟨#HI, #HL, ⟨%W, HO⟩, HC, HA⟩ Hk
  iapply (Rounds.wp_wait_rest_token 𝒱₀ ER (sched V) (c : Thread nD τ) none (κ := κ)
      (wpE_waitDma2_eq (src := src) (dst := dst) 𝒱₀ (c : Thread nD τ) none Set.univ) (Set.mem_univ _) () (O := O) (W := W) (R := r) (m := 0) (T := ∅)
      ((Nat.zero_add _).trans (hdst.trans (sched_expect_one V c (.dma d) r hduty).symm))) $$ [HC HO HA]
  · isplitr; · iexact HI
    isplitl [HC]; · iexact HC
    isplitl [HO]; · iexact HO
    isplitr; · iapply (mayWait c (.dma d) hlev hO); iexact HL
    iexact HA
  iintro ⟨HO, HA, #HR, Hp⟩
  ihave Hp := (Entails.of_eq ((sched_rest_one V c (.dma d) r hduty).trans hpay)) $$ Hp
  iapply Hk
  isplitl [HO]; · iexists _; iexact HO
  isplitl [HA]; · iexact HA
  isplitr; · iexact HR
  iexact Hp

end Cert.KernelIdeal.Exchange
-- ==== Proof.Copies.lean ====
/-
  The kernel's copies, one at a time: what a local copy and what a copy to a peer takes and gives, that what lands is the content
  the schedule names, and the loads of the slots.
-/
module

public import proofs.«01_k».proof.Proof.Steps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-! ## A copy, by its duties -/

/-- A local copy paying the one duty of a round of its cell. -/
theorem copy_here (Q : PUnit → sProp 𝕄) {d : DmaSem sig} (κ : ℕ) (r : ℕ) (hduty : dutiesOf c (role (.dma d)) r = {0})
    {sp₁ sp₂ : Space} {s : Shape} {e : EltTy} {src : Memref sig .tc sp₁ s e} {dst : Memref sig .tc sp₂ s e} {h₁ h₂ h₃}
    {q : PosShare TreeShare} {fs : Buf (Elt F) (src.view.loc (c : Thread nD τ))} {fd : Buf (Elt F) (dst.view.loc (c : Thread nD τ))}
    (hN : dst.view.dmaCredit = amountAt (role (.dma d)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ payAt V c (role (.dma d)) r 0) (k : P F) :
    iprop(cellInv ER (sched V) κ (dcell c d) ∗ (src.view.loc (c : Thread nD τ) ↦[src.view.set]{q} fs)
        ∗ (dst.view.loc (c : Thread nD τ) ↦[dst.view.set]{fullShare} fd) ∗ dutyTok ER (dcell c d) r 0 ∗ reached ER (dcell c d) r)
      ⊢ iprop((cred (tallyAt (dcell c d) () dst.view.dmaCredit) -∗ run c k Q)
        -∗ run c (.op (.enqueueDma src (.here dst) (.dma d) h₁ h₂ h₃) fun _ => k) Q) :=
  Rounds.wp_copy_pointsTo 𝒱₀ ER (sched V) (c : Thread nD τ) none (k := fun _ => k)
    (by rw [sched_duties, hduty]; exact Finset.mem_singleton_self _) () _ rfl hN.symm hpay

/-- A copy to a peer, paying the one duty of the sender's cell and the one of the peer's. -/
theorem copy_to (Q : PUnit → sProp 𝕄) (p : Dev nD) {dS dR : DmaSem sig} (κ₁ κ₂ : ℕ) (hd₁ : dutiesOf c (role (.dma dS)) 0 = {0})
    (hd₂ : dutiesOf p (role (.dma dR)) 0 = {0})
    {sp₁ sp₂ : Space} {s : Shape} {e : EltTy} {src : Memref sig .tc sp₁ s e} {dst : Memref sig .tc sp₂ s e} {h₀ h₁ h₂ h₃}
    {q : PosShare TreeShare} {fs : Buf (Elt F) (src.view.loc (c : Thread nD τ))} {fd : Buf (Elt F) (dst.view.loc (p : Thread nD τ))}
    (hN₁ : dst.view.dmaCredit = amountAt (role (.dma dS))) (hN₂ : dst.view.dmaCredit = amountAt (role (.dma dR)))
    {O' O : CellTallies nD τ sig Unit} (hO : O' = O + tallyAt (dcell p dR) () dst.view.dmaCredit)
    (hpay₁ : (src.view.loc (c : Thread nD τ) ↦[src.view.set]{q} fs) ⊢ payAt V c (role (.dma dS)) 0 0)
    (hpay₂ : (dst.view.loc (p : Thread nD τ) ↦[dst.view.set]{fullShare} (dst.view.write (Elt F) fd (src.view.read (Elt F) fs) Finset.univ))
        ⊢ payAt V p (role (.dma dR)) 0 0) (k : P F) :
    iprop((cellInv ER (sched V) κ₁ (dcell c dS) ∗ cellInv ER (sched V) κ₂ (dcell p dR) ∗ reached ER (dcell c dS) 0 ∗ reached ER (dcell p dR) 0)
        ∗ owing c O' ∗ (src.view.loc (c : Thread nD τ) ↦[src.view.set]{q} fs) ∗ (dst.view.loc (p : Thread nD τ) ↦[dst.view.set]{fullShare} fd)
        ∗ dutyTok ER (dcell c dS) 0 0 ∗ dutyTok ER (dcell p dR) 0 0)
      ⊢ iprop(((owing c O ∗ cred (tallyAt (dcell c dS) () dst.view.dmaCredit)) -∗ run c k Q)
        -∗ run c (.op (.enqueueDma src (.remote (p : Thread nD τ) dst (.dma dS) h₀) (.dma dR) h₁ h₂ h₃) fun _ => k) Q) := by
  have h := fun W => Rounds.wp_send_pointsTo (κ₁ := κ₁) (κ₂ := κ₂) (W := W) (Q := Q) (defs := defs₀ (F := F)) (Γ := PendingWaitsCtx.empty) (Es := Set.univ)
    (hsc := h₀) (hsrc := h₁) (hdst := h₂) (hsem := h₃) 𝒱₀ ER (sched V) (c : Thread nD τ) none (k := fun _ => k) (c' := (p : Thread nD τ)) (src := src) (dst := dst) (sS := .dma dS)
    (sem := .dma dR) (q := q) (fs := fs) (fd := fd) (r₁ := 0) (r₂ := 0) (d₁ := 0) (d₂ := 0)
    (by rw [sched_duties, hd₁]; exact Finset.mem_singleton_self _)
    (by rw [sched_duties, hd₂]; exact Finset.mem_singleton_self _) () () dst.view.dmaCredit rfl hN₁.symm hN₂.symm O hO hpay₁ hpay₂
  iintro ⟨⟨#HI1, #HI2, #HR1, #HR2⟩, ⟨%W, HO⟩, Hs, Hd, HT1, HT2⟩ Hk
  iapply (h W) $$ [HO Hs Hd HT1 HT2]
  · isplitr; · iexact HI1
    isplitr; · iexact HI2
    isplitl [Hs]; · iexact Hs
    isplitl [Hd]; · iexact Hd
    isplitl [HO]; · iexact HO
    isplitl [HT1]; · iexact HT1
    isplitr; · iexact HR1
    isplitl [HT2]; · iexact HT2
    iexact HR2
  iintro ⟨HC, HO⟩
  iapply Hk
  isplitl [HO]; · iexists W; iexact HO
  iexact HC

/-! ## What lands -/

/-- The rows of `c`'s partial product the device `p` sums, landed in `p`'s slot for `c`: what `p` receives there. -/
theorem land_recv (p : Dev nD) (fd : Buf (Elt F) ((slotM recvM c).view.loc (p : Thread nD τ))) :
    ((slotM recvM c).view.loc (p : Thread nD τ) ↦[(slotM recvM c).view.set]{fullShare}
        ((slotM recvM c).view.write (Elt F) fd ((rowsM p).view.read (Elt F) (partC V c)) Finset.univ) : sProp 𝕄)
      = recvPt p c (recvC V p) := by
  refine pointsTo_congr fun x hx => ?_
  obtain ⟨y, -, rfl⟩ := Finset.mem_map.mp hx
  rw [View.write_emb_of_mem _ _ (Finset.mem_univ y), View.read_apply, rows_emb p y]
  show partC V c (inRows p y) = recvC V p ((slotM recvM c).view.emb y)
  rw [recv_emb]
  exact (stack_inSlot (fun s y => partC V s (inRows p y)) c y).symm

/-- The sum of `c`, landed in `p`'s slot for `c`: what every device gathers there. -/
theorem land_stage (p : Dev nD) (fd : Buf (Elt F) ((slotM stageM c).view.loc (p : Thread nD τ))) :
    ((slotM stageM c).view.loc (p : Thread nD τ) ↦[(slotM stageM c).view.set]{fullShare}
        ((slotM stageM c).view.write (Elt F) fd ((redM).view.read (Elt F) (redC V c)) Finset.univ) : sProp 𝕄)
      = stagePt p c (stageC V) := by
  refine pointsTo_congr fun x hx => ?_
  obtain ⟨y, -, rfl⟩ := Finset.mem_map.mp hx
  rw [View.write_emb_of_mem _ _ (Finset.mem_univ y)]
  show redC V c y = stageC V ((slotM stageM c).view.emb y)
  rw [stage_emb]
  exact (stack_inSlot (fun s y => redC V s y) c y).symm

/-! ## The scatter -/

theorem duty_rsS (i : Fin 31) : dutiesOf c (role (.dma (rsS i.succ))) 0 = {0} := by
  rw [role_rsS]; unfold dutiesOf; exact if_pos ⟨rfl, Fin.succ_ne_zero i⟩
theorem duty_agS (i : Fin 31) : dutiesOf c (role (.dma (agS i.succ))) 0 = {0} := by
  rw [role_agS]; unfold dutiesOf; exact if_pos ⟨rfl, Fin.succ_ne_zero i⟩
theorem duty_rsR {p s : Dev nD} (h : s ≠ p) : dutiesOf p (role (.dma (rsR s))) 0 = {0} := by
  rw [role_rsR]; unfold dutiesOf; exact if_pos ⟨rfl, h⟩
theorem duty_agR {p s : Dev nD} (h : s ≠ p) : dutiesOf p (role (.dma (agR s))) 0 = {0} := by
  rw [role_agR]; unfold dutiesOf; exact if_pos ⟨rfl, h⟩
theorem duty_loc (r : ℕ) (h : r < 2) : dutiesOf c (role (.dma locS)) r = {0} := by
  rw [role_loc]; unfold dutiesOf; exact if_pos h
theorem duty_ld (k : Fin 3) : dutiesOf c (role (.dma (ldS k))) 0 = {0} := by
  rw [role_ld]; unfold dutiesOf; exact if_pos rfl
theorem amount_rsS (o : Fin 32) : amountAt (role (.dma (rsS o))) = N := by rw [role_rsS]; rfl
theorem amount_agS (o : Fin 32) : amountAt (role (.dma (agS o))) = N := by rw [role_agS]; rfl
theorem amount_rsR (s : Dev nD) : amountAt (role (.dma (rsR s))) = N := by rw [role_rsR]; rfl
theorem amount_agR (s : Dev nD) : amountAt (role (.dma (agR s))) = N := by rw [role_agR]; rfl
theorem amount_loc : amountAt (role (.dma locS)) = N := by rw [role_loc]; rfl
theorem pay_rsS (i : Fin 31) : payAt V c (role (.dma (rsS i.succ))) 0 0 = rowsPt c (peer c i) (partC V c) := by rw [role_rsS]; rfl
theorem pay_agS (o : Fin 32) : payAt V c (role (.dma (agS o))) 0 0 = redPt c (leafQ o) (redC V c) := by rw [role_agS]; rfl
theorem pay_rsR (s : Dev nD) : payAt V c (role (.dma (rsR s))) 0 0 = recvPt c s (recvC V c) := by rw [role_rsR]; rfl
theorem pay_agR (s : Dev nD) : payAt V c (role (.dma (agR s))) 0 0 = stagePt c s (stageC V) := by rw [role_agR]; rfl
theorem pay_loc (r : ℕ) : payAt V c (role (.dma locS)) r 0 = locPay V c r := by rw [role_loc]; rfl
theorem pay_ld (k : Fin 3) : payAt V c (role (.dma (ldS k))) 0 0 = ldPay V c k := by rw [role_ld]; rfl

/-- The credit of a slot, of rows, of the sum: `N`. -/
theorem credit_recv (s : Dev nD) : (slotM recvM s).view.dmaCredit = N := rfl
theorem credit_stage (s : Dev nD) : (slotM stageM s).view.dmaCredit = N := rfl
theorem credit_rows (s : Dev nD) : (rowsM s).view.dmaCredit = N := rfl
theorem credit_red : (redM : Memref sig .tc .vmem S8x512 .bf16).view.dmaCredit = N := rfl

/-- A copy of rows to the slot of a peer, at any two cells of the same amount. -/
theorem rsSend_at (Q : PUnit → sProp 𝕄) (i : Fin 31) {src dst : Memref sig .tc .vmem S8x512 .bf16} {p : Dev nD} {dS dR : DmaSem sig} {h₀ h₁ h₂ h₃}
    (e₁ : src = rowsM (peer c i)) (e₂ : dst = slotM recvM c) (e₃ : p = peer c i) (e₄ : dS = rsS i.succ) (e₅ : dR = rsR c) (k : P F) :
    iprop(known V K c ∗ owing c (rsDue c i.val + agDue c 0)
        ∗ (rowsPt c (peer c i) (partC V c) ∗ (∃ f, recvPt (peer c i) c f) ∗ reached ER (dcell (peer c i) (rsR c)) 0
          ∗ dutyTok ER (dcell c (rsS i.succ)) 0 0 ∗ dutyTok ER (dcell (peer c i) (rsR c)) 0 0))
      ⊢ iprop(((owing c (rsDue c (i.val + 1) + agDue c 0) ∗ cred (tallyAt (dcell c (rsS i.succ)) () N)) -∗ run c k Q)
        -∗ run c (.op (.enqueueDma src (.remote (p : Thread nD τ) dst (.dma dS) h₀) (.dma dR) h₁ h₂ h₃) fun _ => k) Q) := by
  subst e₁ e₂ e₃ e₄ e₅
  have h := fun fd => copy_to V c Q (peer c i) (K (dcell c (rsS i.succ))) (K (dcell (peer c i) (rsR c))) (duty_rsS c i) (duty_rsR (ne_peer c i))
    (src := rowsM (peer c i)) (dst := slotM recvM c) (h₀ := h₀) (h₁ := h₁) (h₂ := h₂) (h₃ := h₃) (q := fullShare) (fs := partC V c) (fd := fd)
    ((credit_recv c).trans (amount_rsS i.succ).symm) ((credit_recv c).trans (amount_rsR c).symm)
    (O' := rsDue c i.val + agDue c 0) (O := rsDue c (i.val + 1) + agDue c 0) (by rw [rsDue_step, credit_recv]; ac_rfl)
    (Entails.of_eq (pay_rsS V c i).symm) (Entails.of_eq ((land_recv V c (peer c i) fd).trans (pay_rsR V (peer c i) c).symm)) k
  unfold known
  iintro ⟨⟨#HI, #HB, #HW, #HL⟩, HO, Hs, ⟨%fd, Hd⟩, #HR2, HT1, HT2⟩ Hk
  ihave #HI1 := (inv_rsS V K c i.succ) $$ HI
  ihave #HI2 := (inv_rsR V K (peer c i) c) $$ HI
  ihave #HR1 := (reached_rsS c i.succ) $$ HW
  iapply (h fd) $$ [HO Hs Hd HT1 HT2]
  · isplitr
    · isplitr; · iexact HI1
      isplitr; · iexact HI2
      isplitr; · iexact HR1
      iexact HR2
    isplitl [HO]; · iexact HO
    isplitl [Hs]; · iexact Hs
    isplitl [Hd]; · iexact Hd
    isplitl [HT1]; · iexact HT1
    iexact HT2
  iexact Hk

theorem rsSend_step (Q : PUnit → sProp 𝕄) (i : Fin 31) (k : P F) :
    iprop(known V K c ∗ owing c (rsDue c i.val + agDue c 0)
        ∗ (rowsPt c (peer c i) (partC V c) ∗ (∃ f, recvPt (peer c i) c f) ∗ reached ER (dcell (peer c i) (rsR c)) 0
          ∗ dutyTok ER (dcell c (rsS i.succ)) 0 0 ∗ dutyTok ER (dcell (peer c i) (rsR c)) 0 0))
      ⊢ iprop(((owing c (rsDue c (i.val + 1) + agDue c 0) ∗ cred (tallyAt (dcell c (rsS i.succ)) () N)) -∗ run c k Q) -∗ run c (rsSend c i k) Q) :=
  rsSend_at V K c Q i (peerRows_eq c i) (ownM_eq recvM c) (rsDev_eq c i) (sendS_rs i) (ownS_rs c) k

/-! ## The gather -/

/-- A copy of the sum to the slot of a peer. -/
theorem agSend_at (Q : PUnit → sProp 𝕄) (i : Fin 31) {dst : Memref sig .tc .vmem S8x512 .bf16} {p : Dev nD} {dS dR : DmaSem sig} {h₀ h₁ h₂ h₃}
    (e₂ : dst = slotM stageM c) (e₃ : p = peer c i) (e₄ : dS = agS i.succ) (e₅ : dR = agR c) (k : P F) :
    iprop(known V K c ∗ owing c (agDue c i.val)
        ∗ (redPt c (leafQ i.succ) (redC V c) ∗ (∃ f, stagePt (peer c i) c f) ∗ reached ER (dcell (peer c i) (agR c)) 0
          ∗ dutyTok ER (dcell c (agS i.succ)) 0 0 ∗ dutyTok ER (dcell (peer c i) (agR c)) 0 0))
      ⊢ iprop(((owing c (agDue c (i.val + 1)) ∗ cred (tallyAt (dcell c (agS i.succ)) () N)) -∗ run c k Q)
        -∗ run c (.op (.enqueueDma redM (.remote (p : Thread nD τ) dst (.dma dS) h₀) (.dma dR) h₁ h₂ h₃) fun _ => k) Q) := by
  subst e₂ e₃ e₄ e₅
  have h := fun fd => copy_to V c Q (peer c i) (K (dcell c (agS i.succ))) (K (dcell (peer c i) (agR c))) (duty_agS c i) (duty_agR (ne_peer c i))
    (src := redM) (dst := slotM stageM c) (h₀ := h₀) (h₁ := h₁) (h₂ := h₂) (h₃ := h₃) (q := leafQ i.succ) (fs := redC V c) (fd := fd)
    ((credit_stage c).trans (amount_agS i.succ).symm) ((credit_stage c).trans (amount_agR c).symm)
    (O' := agDue c i.val) (O := agDue c (i.val + 1)) (by rw [agDue_step, credit_stage, add_comm])
    (Entails.of_eq (pay_agS V c i.succ).symm) (Entails.of_eq ((land_stage V c (peer c i) fd).trans (pay_agR V (peer c i) c).symm)) k
  unfold known
  iintro ⟨⟨#HI, #HB, #HW, #HL⟩, HO, Hs, ⟨%fd, Hd⟩, #HR2, HT1, HT2⟩ Hk
  ihave #HI1 := (inv_agS V K c i.succ) $$ HI
  ihave #HI2 := (inv_agR V K (peer c i) c) $$ HI
  ihave #HR1 := (reached_agS c i.succ) $$ HW
  iapply (h fd) $$ [HO Hs Hd HT1 HT2]
  · isplitr
    · isplitr; · iexact HI1
      isplitr; · iexact HI2
      isplitr; · iexact HR1
      iexact HR2
    isplitl [HO]; · iexact HO
    isplitl [Hs]; · iexact Hs
    isplitl [Hd]; · iexact Hd
    isplitl [HT1]; · iexact HT1
    iexact HT2
  iexact Hk

theorem agSend_step (Q : PUnit → sProp 𝕄) (i : Fin 31) (k : P F) :
    iprop(known V K c ∗ owing c (agDue c i.val)
        ∗ (redPt c (leafQ i.succ) (redC V c) ∗ (∃ f, stagePt (peer c i) c f) ∗ reached ER (dcell (peer c i) (agR c)) 0
          ∗ dutyTok ER (dcell c (agS i.succ)) 0 0 ∗ dutyTok ER (dcell (peer c i) (agR c)) 0 0))
      ⊢ iprop(((owing c (agDue c (i.val + 1)) ∗ cred (tallyAt (dcell c (agS i.succ)) () N)) -∗ run c k Q) -∗ run c (agSend c i k) Q) :=
  agSend_at V K c Q i (ownM_eq stageM c) (agDev_eq c i) (sendS_ag i) (ownS_ag c) k

/-! ## The waits -/

/-- A wait of the one duty of a round, at a semaphore under any of its spellings. -/
theorem wait_at (Q : PUnit → sProp 𝕄) {d d' : DmaSem sig} (e : d' = d) (r n : ℕ) {Pay : sProp 𝕄} {O : CellTallies nD τ sig Unit}
    (hinv : invs V K ⊢ cellInv ER (sched V) (K (dcell c d)) (dcell c d)) (hduty : dutiesOf c (role (.dma d)) r = {0})
    (hlev : level (role (.dma d)) = n) (hO : Above n O) (hpay : payAt V c (role (.dma d)) r 0 = Pay) {M : ℕ} (ham : amountAt (role (.dma d)) = M)
    {sp₁ sp₂ : Space} {s₁ s₂ : Shape} {e₁ e₂ : EltTy} {src : Memref sig .tc sp₁ s₁ e₁} {dst : Memref sig .tc sp₂ s₂ e₂} {h₁ h₂}
    (hdst : dst.view.dmaCredit = M) (k : P F) :
    iprop(known V K c ∗ owing c O ∗ (cred (tallyAt (dcell c d) () M) ∗ atPos ER (dcell c d) r ∅ 0))
      ⊢ iprop(((owing c O ∗ (atPos ER (dcell c d) (r + 1) ∅ 0 ∗ reached ER (dcell c d) (r + 1) ∗ Pay)) -∗ run c k Q)
        -∗ run c (.op (.waitDma2 d' src dst h₁ h₂) fun _ => k) Q) := by
  subst e hdst
  have h := copy_wait V c Q (K (dcell c d')) r Pay n hduty hlev hO hpay (src := src) (dst := dst) (h₁ := h₁) (h₂ := h₂) ham.symm k
  unfold known
  iintro ⟨⟨#HI, #HB, #HW, #HL⟩, HO, HC, HA⟩ Hk
  ihave #HI1 := hinv $$ HI
  iapply h $$ [HO HC HA]
  · isplitr; · iexact HI1
    isplitr; · iexact HL
    isplitl [HO]; · iexact HO
    isplitl [HC]; · iexact HC
    iexact HA
  iintro ⟨HO, HA, HR, HP⟩
  iapply Hk
  isplitl [HO]; · iexact HO
  isplitl [HA]; · iexact HA
  isplitl [HR]; · iexact HR
  iexact HP

theorem level_rsR (s : Dev nD) : level (role (.dma (rsR s))) = 2 := by rw [role_rsR]; rfl
theorem level_agR (s : Dev nD) : level (role (.dma (agR s))) = 3 := by rw [role_agR]; rfl
theorem level_rsS (o : Fin 32) : level (role (.dma (rsS o))) = 0 := by rw [role_rsS]; rfl
theorem level_agS (o : Fin 32) : level (role (.dma (agS o))) = 0 := by rw [role_agS]; rfl
theorem level_loc : level (role (.dma locS)) = 0 := by rw [role_loc]; rfl
theorem level_ld (k : Fin 3) : level (role (.dma (ldS k))) = 0 := by rw [role_ld]; rfl

/-- What a wait for the one duty of round 0 leaves of the cell `d` beside its payload. -/
abbrev past (c : Dev nD) (d : DmaSem sig) (r : ℕ) (Pay : sProp 𝕄) : sProp 𝕄 :=
  iprop(atPos ER (dcell c d) (r + 1) ∅ 0 ∗ reached ER (dcell c d) (r + 1) ∗ Pay)
/-- What a wait on the cell `d` takes: its credit and the position. -/
abbrev ahead (c : Dev nD) (d : DmaSem sig) (r M : ℕ) : sProp 𝕄 :=
  iprop(cred (tallyAt (dcell c d) () M) ∗ atPos ER (dcell c d) r ∅ 0)

theorem rsWait_step (Q : PUnit → sProp 𝕄) (i : Fin 31) (k : P F) :
    iprop(known V K c ∗ owing c (agDue c 0) ∗ ahead c (rsR (peer c i)) 0 N)
      ⊢ iprop(((owing c (agDue c 0) ∗ past c (rsR (peer c i)) 0 (recvPt c (peer c i) (recvC V c))) -∗ run c k Q) -∗ run c (rsWait c i k) Q) :=
  wait_at V K c Q (peerS_rs c i) 0 2 (inv_rsR V K c (peer c i)) (duty_rsR (peer_ne c i)) (level_rsR _) (above_ag (by decide) c 0)
    (pay_rsR V c (peer c i)) (amount_rsR _) ((congrArg (fun m : Memref sig .tc .vmem S8x512 .bf16 => m.view.dmaCredit) (peerM_eq recvM c i)).trans (credit_recv _)) k

theorem agWait_step (Q : PUnit → sProp 𝕄) (i : Fin 31) (k : P F) :
    iprop(known V K c ∗ owing c 0 ∗ ahead c (agR (peer c i)) 0 N)
      ⊢ iprop(((owing c 0 ∗ past c (agR (peer c i)) 0 (stagePt c (peer c i) (stageC V))) -∗ run c k Q) -∗ run c (agWait c i k) Q) :=
  wait_at V K c Q (peerS_ag c i) 0 3 (inv_agR V K c (peer c i)) (duty_agR (peer_ne c i)) (level_agR _) (above_zero 3)
    (pay_agR V c (peer c i)) (amount_agR _) ((congrArg (fun m : Memref sig .tc .vmem S8x512 .bf16 => m.view.dmaCredit) (peerM_eq stageM c i)).trans (credit_stage _)) k

theorem rsDone_step (Q : PUnit → sProp 𝕄) (i : Fin 31) (k : P F) :
    iprop(known V K c ∗ owing c 0 ∗ ahead c (rsS i.succ) 0 N)
      ⊢ iprop(((owing c 0 ∗ past c (rsS i.succ) 0 (rowsPt c (peer c i) (partC V c))) -∗ run c k Q) -∗ run c (rsDone c i k) Q) :=
  wait_at V K c Q (sendS_rs i) 0 0 (inv_rsS V K c i.succ) (duty_rsS c i) (level_rsS _) (above_zero 0)
    (pay_rsS V c i) (amount_rsS _) ((congrArg (fun m : Memref sig .tc .vmem S8x512 .bf16 => m.view.dmaCredit) (peerRows_eq c i)).trans (credit_rows _)) k

theorem agDone_step (Q : PUnit → sProp 𝕄) (i : Fin 31) (k : P F) :
    iprop(known V K c ∗ owing c 0 ∗ ahead c (agS i.succ) 0 N)
      ⊢ iprop(((owing c 0 ∗ past c (agS i.succ) 0 (redPt c (leafQ i.succ) (redC V c))) -∗ run c k Q) -∗ run c (agDone c i k) Q) :=
  wait_at V K c Q (sendS_ag i) 0 0 (inv_agS V K c i.succ) (duty_agS c i) (level_agS _) (above_zero 0)
    (pay_agS V c i.succ) (amount_agS _) credit_red k

/-! ## The local copies -/

/-- A local copy on the cell `locS` that pays its round `r`. -/
theorem loc_at (Q : PUnit → sProp 𝕄) (r : ℕ) (hr : r < 2) {src dst src' dst' : Memref sig .tc .vmem S8x512 .bf16} {h₁ h₂ h₃}
    (e₁ : src' = src) (e₂ : dst' = dst) (hN : dst.view.dmaCredit = N)
    {q : PosShare TreeShare} {fs : Buf (Elt F) (src.view.loc (c : Thread nD τ))}
    (hpay : ∀ fd, iprop((dst.view.loc (c : Thread nD τ) ↦[dst.view.set]{fullShare} (dst.view.write (Elt F) fd (src.view.read (Elt F) fs) Finset.univ))
        ∗ (src.view.loc (c : Thread nD τ) ↦[src.view.set]{q} fs)) ⊢ locPay V c r) (k : P F) :
    iprop(known V K c ∗ (src.view.loc (c : Thread nD τ) ↦[src.view.set]{q} fs)
        ∗ (∃ fd, dst.view.loc (c : Thread nD τ) ↦[dst.view.set]{fullShare} fd) ∗ dutyTok ER (dcell c locS) r 0 ∗ reached ER (dcell c locS) r)
      ⊢ iprop((cred (tallyAt (dcell c locS) () N) -∗ run c k Q)
        -∗ run c (.op (.enqueueDma src' (.here dst') (.dma locS) h₁ h₂ h₃) fun _ => k) Q) := by
  subst e₁ e₂
  have h := fun fd => copy_here V c Q (K (dcell c locS)) r (duty_loc c r hr) (src := src') (dst := dst') (h₁ := h₁) (h₂ := h₂) (h₃ := h₃) (q := q) (fs := fs) (fd := fd)
    (hN.trans amount_loc.symm) ((hpay fd).trans (Entails.of_eq (pay_loc V c r).symm)) k
  rw [hN] at h
  unfold known
  iintro ⟨⟨#HI, #HB, #HW, #HL⟩, Hs, ⟨%fd, Hd⟩, HT, #HR⟩ Hk
  ihave #HI1 := (inv_loc V K c) $$ HI
  iapply (h fd) $$ [Hs Hd HT]
  · isplitr; · iexact HI1
    isplitl [Hs]; · iexact Hs
    isplitl [Hd]; · iexact Hd
    isplitl [HT]; · iexact HT
    iexact HR
  iexact Hk

/-- The own rows into the own slot, -/
theorem locRows_step (Q : PUnit → sProp 𝕄) {h₁ h₂ h₃} (k : P F) :
    iprop(known V K c ∗ rowsPt c c (partC V c) ∗ (∃ f, recvPt c c f) ∗ dutyTok ER (dcell c locS) 0 0 ∗ reached ER (dcell c locS) 0)
      ⊢ iprop((cred (tallyAt (dcell c locS) () N) -∗ run c k Q)
        -∗ run c (.op (.enqueueDma (ownRows c) (.here (ownM recvM c)) (.dma locS) h₁ h₂ h₃) fun _ => k) Q) :=
  loc_at V K c Q 0 (by decide) (src := rowsM c) (dst := slotM recvM c) (ownRows_eq c) (ownM_eq recvM c) (credit_recv c) (fun fd => by rw [land_recv]; exact .rfl) k

/-- and the own sum. -/
theorem locSum_step (Q : PUnit → sProp 𝕄) {h₁ h₂ h₃} (k : P F) :
    iprop(known V K c ∗ redPt c (leafQ 0) (redC V c) ∗ (∃ f, stagePt c c f) ∗ dutyTok ER (dcell c locS) 1 0 ∗ reached ER (dcell c locS) 1)
      ⊢ iprop((cred (tallyAt (dcell c locS) () N) -∗ run c k Q)
        -∗ run c (.op (.enqueueDma redM (.here (ownM stageM c)) (.dma locS) h₁ h₂ h₃) fun _ => k) Q) :=
  loc_at V K c Q 1 (by decide) (src := redM) (dst := slotM stageM c) rfl (ownM_eq stageM c) (credit_stage c) (fun fd => by rw [land_stage]; exact .rfl) k

theorem locRowsWait_step (Q : PUnit → sProp 𝕄) {h₁ h₂} (k : P F) :
    iprop(known V K c ∗ owing c (agDue c 0) ∗ ahead c locS 0 N)
      ⊢ iprop(((owing c (agDue c 0) ∗ past c locS 0 (iprop(recvPt c c (recvC V c) ∗ rowsPt c c (partC V c)))) -∗ run c k Q)
        -∗ run c (.op (.waitDma2 locS (ownRows c) (ownM recvM c) h₁ h₂) fun _ => k) Q) :=
  wait_at V K c Q rfl 0 0 (inv_loc V K c) (duty_loc c 0 (by decide)) level_loc (above_ag (by decide) c 0) (pay_loc V c 0) amount_loc
    ((congrArg (fun m : Memref sig .tc .vmem S8x512 .bf16 => m.view.dmaCredit) (ownM_eq recvM c)).trans (credit_recv _)) k
theorem locSumWait_step (Q : PUnit → sProp 𝕄) {h₁ h₂} (k : P F) :
    iprop(known V K c ∗ owing c 0 ∗ ahead c locS 1 N)
      ⊢ iprop(((owing c 0 ∗ past c locS 1 (iprop(stagePt c c (stageC V) ∗ redPt c (leafQ 0) (redC V c)))) -∗ run c k Q)
        -∗ run c (.op (.waitDma2 locS redM (ownM stageM c) h₁ h₂) fun _ => k) Q) :=
  wait_at V K c Q rfl 1 0 (inv_loc V K c) (duty_loc c 1 (by decide)) level_loc (above_zero 0) (pay_loc V c 1) amount_loc
    ((congrArg (fun m : Memref sig .tc .vmem S8x512 .bf16 => m.view.dmaCredit) (ownM_eq stageM c)).trans (credit_stage _)) k

/-! ## The operands' copies -/

/-- A copy of an operand on the cell `ldS j`. -/
theorem ld_at (Q : PUnit → sProp 𝕄) (j : Fin 3) {d : DmaSem sig} (e : d = ldS j) {M : ℕ} (hM : amountAt (role (.dma (ldS j))) = M) {s : Shape} {el : EltTy}
    {src : Memref sig .tc .hbm s el} {dst : Memref sig .tc .vmem s el} {h₁ h₂ h₃} (hN : dst.view.dmaCredit = M) {fs : Buf (Elt F) (src.view.loc (c : Thread nD τ))}
    (hpay : ∀ fd, iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ ldPay V c j) (k : P F) :
    iprop(known V K c ∗ (src.view.loc (c : Thread nD τ) ↦[src.view.set]{fullShare} fs)
        ∗ (∃ fd, dst.view.loc (c : Thread nD τ) ↦[dst.view.set]{fullShare} fd) ∗ dutyTok ER (dcell c (ldS j)) 0 0)
      ⊢ iprop((cred (tallyAt (dcell c (ldS j)) () M) -∗ run c k Q)
        -∗ run c (.op (.enqueueDma src (.here dst) (.dma d) h₁ h₂ h₃) fun _ => k) Q) := by
  subst e
  have h := fun fd => copy_here V c Q (K (dcell c (ldS j))) 0 (duty_ld c j) (src := src) (dst := dst) (h₁ := h₁) (h₂ := h₂) (h₃ := h₃) (q := fullShare) (fs := fs) (fd := fd)
    (hN.trans hM.symm) ((hpay fd).trans (Entails.of_eq (pay_ld V c j).symm)) k
  rw [hN] at h
  unfold known
  iintro ⟨⟨#HI, #HB, #HW, #HL⟩, Hs, ⟨%fd, Hd⟩, HT⟩ Hk
  ihave #HI1 := (inv_ld V K c j) $$ HI
  ihave #HR := (reached_ld c j) $$ HW
  iapply (h fd) $$ [Hs Hd HT]
  · isplitr; · iexact HI1
    isplitl [Hs]; · iexact Hs
    isplitl [Hd]; · iexact Hd
    isplitl [HT]; · iexact HT
    iexact HR
  iexact Hk

end Cert.KernelIdeal.Exchange
-- ==== Proof.Buffers.lean ====
/-
  The kernel's buffers: a whole one as its slots, rows or shares; loads and stores of a whole one; the load of a slot; the
  operands' copies.
-/
module

public import proofs.«01_k».proof.Proof.Copies

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-! ## Splitting -/

/-- Elements split by what a function of them is. -/
theorem split_by {ℓ : Loc nD τ sig} {T : Type} [Fintype T] [DecidableEq T] {S : Finset (Idx ℓ)} (hS : S = Finset.univ) (A : T → Finset (Idx ℓ)) (t : Idx ℓ → T)
    (hA : ∀ a x, x ∈ A a ↔ t x = a) (f : Buf (Elt F) ℓ) :
    (ℓ ↦[S]{fullShare} f : sProp 𝕄) = bigSep Finset.univ fun a => ℓ ↦[A a]{fullShare} f := by
  have h : S = Finset.univ.biUnion A := by
    rw [hS]; symm
    exact Finset.eq_univ_iff_forall.mpr fun x => Finset.mem_biUnion.mpr ⟨t x, Finset.mem_univ _, (hA _ x).mpr rfl⟩
  rw [h]
  exact pointsTo_biUnion _ _ fun a _ b _ hab => Finset.disjoint_left.mpr fun x ha hb => hab (((hA a x).mp ha).symm.trans ((hA b x).mp hb))

/-- The device whose slot an element of a receive buffer is in. -/
def slotOwner (x : S32x8x512.Idx) : Dev nD := x 0
theorem recv_split (f : cc0_scratch4.ty.Contents (Elt F)) :
    wholePt c cc0_scratch4 f = bigSep Finset.univ fun s : Dev nD => recvPt c s f :=
  split_by (ℓ := (Memref.whole cc0_scratch4).view.loc (c : Thread nD τ)) (T := Dev nD) (View.set_whole _) (fun s : Dev nD => (slotM recvM s).view.set) slotOwner mem_recv f
theorem stage_split (f : cc0_scratch6.ty.Contents (Elt F)) :
    wholePt c cc0_scratch6 f = bigSep Finset.univ fun s : Dev nD => stagePt c s f :=
  split_by (ℓ := (Memref.whole cc0_scratch6).view.loc (c : Thread nD τ)) (T := Dev nD) (View.set_whole _) (fun s : Dev nD => (slotM stageM s).view.set) slotOwner mem_stage f

/-- The device whose rows an element of the partial product is in. -/
def rowOwner (x : S256x512.Idx) : Dev nD := (⟨(x 0).val / 8, by have h : (x 0).val < 256 := (x 0).isLt; omega⟩ : Fin 32)
theorem mem_rowOwner (p : Dev nD) (x : S256x512.Idx) : x ∈ (rowsM p).view.set ↔ rowOwner x = p :=
  (mem_rows p x).trans ⟨fun h => Fin.ext h, fun h => congrArg Fin.val h⟩
theorem part_split (f : cc0_scratch3.ty.Contents (Elt F)) :
    wholePt c cc0_scratch3 f = bigSep Finset.univ fun p : Dev nD => rowsPt c p f :=
  split_by (ℓ := (Memref.whole cc0_scratch3).view.loc (c : Thread nD τ)) (T := Dev nD) (View.set_whole _) (fun s : Dev nD => (rowsM s).view.set) rowOwner mem_rowOwner f

theorem red_split (f : cc0_scratch5.ty.Contents (Elt F)) :
    wholePt c cc0_scratch5 f = bigSep Finset.univ fun o : Fin 32 => redPt c (leafQ o) f :=
  ShareLeaves.pointsTo_leaves (ℓ := (redM : Memref sig .tc .vmem S8x512 .bf16).view.loc (c : Thread nD τ)) (redM : Memref sig .tc .vmem S8x512 .bf16).view.set f 5 fullShare

theorem recv_dev (f : cc0_scratch4.ty.Contents (Elt F)) :
    wholePt c cc0_scratch4 f = iprop(recvPt c c f ∗ bigSep Finset.univ fun i : Fin 31 => recvPt c (peer c i) f) := by
  rw [recv_split, bigSep_dev c]
theorem stage_dev (f : cc0_scratch6.ty.Contents (Elt F)) :
    wholePt c cc0_scratch6 f = iprop(stagePt c c f ∗ bigSep Finset.univ fun i : Fin 31 => stagePt c (peer c i) f) := by
  rw [stage_split, bigSep_dev c]
theorem part_dev (f : cc0_scratch3.ty.Contents (Elt F)) :
    wholePt c cc0_scratch3 f = iprop(rowsPt c c f ∗ bigSep Finset.univ fun i : Fin 31 => rowsPt c (peer c i) f) := by
  rw [part_split, bigSep_dev c]
theorem red_ix (f : cc0_scratch5.ty.Contents (Elt F)) :
    wholePt c cc0_scratch5 f = iprop(redPt c (leafQ 0) f ∗ bigSep Finset.univ fun i : Fin 31 => redPt c (leafQ i.succ) f) := by
  rw [red_split, bigSep_ix]

theorem exists_each {α : Type} (Φ : Fin 31 → α → sProp 𝕄) (f : α) :
    (bigSep Finset.univ fun i => Φ i f) ⊢ (bigSep Finset.univ fun i => iprop(∃ f, Φ i f) : sProp 𝕄) :=
  BI.bigSep_mono fun i _ => BI.BIClass.exists_intro (Φ := Φ i) f

/-- The receive buffers, at any contents, as their slots. -/
theorem recv_give : iprop(∃ f, wholePt (F := F) c cc0_scratch4 f) ⊢ iprop((∃ f, recvPt c c f) ∗ bigSep Finset.univ fun i : Fin 31 => iprop(∃ f, recvPt c (peer c i) f)) := by
  iintro ⟨%f, H⟩
  ihave ⟨H1, H2⟩ := (Entails.of_eq (recv_dev c f)) $$ H
  isplitl [H1]; · iexists f; iexact H1
  iapply (exists_each (fun (i : Fin 31) f => recvPt (F := F) c (peer c i) f) f) $$ H2
theorem stage_give : iprop(∃ f, wholePt (F := F) c cc0_scratch6 f) ⊢ iprop((∃ f, stagePt c c f) ∗ bigSep Finset.univ fun i : Fin 31 => iprop(∃ f, stagePt c (peer c i) f)) := by
  iintro ⟨%f, H⟩
  ihave ⟨H1, H2⟩ := (Entails.of_eq (stage_dev c f)) $$ H
  isplitl [H1]; · iexists f; iexact H1
  iapply (exists_each (fun (i : Fin 31) f => stagePt (F := F) c (peer c i) f) f) $$ H2

/-! ## Loads and stores of whole buffers -/

theorem zero2 : (![0, 0] : Fin 2 → ℕ) = fun _ => 0 := by decide
theorem zero3 : (![0, 0, 0] : Fin 3 → ℕ) = fun _ => 0 := by decide

/-- A load of a buffer held whole, where what it reads is known; -/
theorem load_full (Q : PUnit → sProp 𝕄) {cs : CoreSpace} {s : Shape} {e : EltTy} {m : Memref sig .tc cs s e} {r : LoadRect s} {hl : m.view.LoadsAt r}
    {f : Buf (Elt F) (m.view.loc (c : Thread nD τ))} {v : r.shape.Idx → Elt F e} (hv : m.view.readAt (Elt F) r f = v) (k : (r.shape.Idx → Elt F e) → P F) :
    (m.view.loc (c : Thread nD τ) ↦[m.view.set]{fullShare} f)
      ⊢ iprop(((m.view.loc (c : Thread nD τ) ↦[m.view.set]{fullShare} f) -∗ run c (k v) Q) -∗ run c (.op (.load m r hl) k) Q) := by
  subst hv
  exact wp_load 𝒱₀ (c : Thread nD τ) none Set.univ (Finset.map_subset_map.mpr (Finset.subset_univ _))
/-- a store to it, where what it leaves is. -/
theorem store_full (Q : PUnit → sProp 𝕄) {cs : CoreSpace} {s : Shape} {e : EltTy} {m : Memref sig .tc cs s e} {r : Rect s} {w : r.shape.Idx → Elt F e} {hx hm}
    {f w' : Buf (Elt F) (m.view.loc (c : Thread nD τ))} (hw : (m.access r).write (Elt F) f w Finset.univ = w') (k : P F) :
    (m.view.loc (c : Thread nD τ) ↦[m.view.set]{fullShare} f)
      ⊢ iprop(((m.view.loc (c : Thread nD τ) ↦[m.view.set]{fullShare} w') -∗ run c k Q) -∗ run c (.op (.store m r w Finset.univ hx hm) fun _ => k) Q) := by
  subst hw
  exact wp_store 𝒱₀ (c : Thread nD τ) none Set.univ (m := m) (r := r) (S := m.view.set) (k := fun _ => k) (View.set_slice_subset m.view r)

/-- The load of one slot of what was received. -/
theorem ldSlot_step (Q : PUnit → sProp 𝕄) (j : Fin 32) (k : Vec F S1x8x512 .bf16 → P F) :
    wholePt c cc0_scratch4 (recvC V c) ⊢ iprop((wholePt c cc0_scratch4 (recvC V c) -∗ run c (k (recvBlk V c j)) Q) -∗ run c (ldSlot j k) Q) := by
  refine load_full c Q (m := recvM) (r := (Rect.unit (s := S32x8x512) ![j.val, 0, 0] S1x8x512.size (slot_inb j)).toLoadRect) (f := recvC V c) (v := recvBlk V c j) ?_ k
  funext x
  rw [View.readAt_apply]
  show recvC V c ((Rect.unit (s := S32x8x512) ![j.val, 0, 0] S1x8x512.size (slot_inb j)).toLoadRect.idx x) = recvC V c _
  congr 1
  funext b
  apply Fin.ext
  have h0 : (x 0).val < 1 := (x 0).isLt
  fin_cases b
  · show j.val + 1 * (x 0).val = j.val; omega
  · show 0 + 1 * (x 1).val = (x 1).val; omega
  · show 0 + 1 * (x 2).val = (x 2).val; omega

/-! ## The operands' copies -/

theorem ldX_step (Q : PUnit → sProp 𝕄) {h₁ h₂ h₃} (k : P F) :
    iprop(known V K c ∗ wholePt c main_v5 (V c main_v5) ∗ (∃ f, wholePt c cc0_scratch0 f) ∗ dutyTok ER (dcell c (ldS 0)) 0 0)
      ⊢ iprop((cred (tallyAt (dcell c (ldS 0)) () Nx) -∗ run c k Q)
        -∗ run c (.op (.enqueueDma xH (.here xV) (.dma (ldSem ![0] inb_S3_S1_0)) h₁ h₂ h₃) fun _ => k) Q) :=
  ld_at V K c Q 0 ld0_eq (by rw [role_ld]; rfl) (src := xH) (dst := xV) rfl (fs := V c main_v5)
    (fun fd => by rw [show (xV : Memref sig .tc .vmem S256x512 .f32).view.write (Elt F) fd ((xH : Memref sig .tc .hbm S256x512 .f32).view.read (Elt F) (V c main_v5)) Finset.univ = V c main_v5 from View.write_whole_univ cc0_scratch0 fd _]; exact .rfl) k
theorem ldWq_step (Q : PUnit → sProp 𝕄) {h₁ h₂ h₃} (k : P F) :
    iprop(known V K c ∗ wholePt c main_arg1 (V c main_arg1) ∗ (∃ f, wholePt c cc0_scratch1 f) ∗ dutyTok ER (dcell c (ldS 1)) 0 0)
      ⊢ iprop((cred (tallyAt (dcell c (ldS 1)) () Nw) -∗ run c k Q)
        -∗ run c (.op (.enqueueDma wqH (.here wqV) (.dma (ldSem ![1] inb_S3_S1_1)) h₁ h₂ h₃) fun _ => k) Q) :=
  ld_at V K c Q 1 ld1_eq (by rw [role_ld]; rfl) (src := wqH) (dst := wqV) rfl (fs := V c main_arg1)
    (fun fd => by rw [show (wqV : Memref sig .tc .vmem S512x512 .f32).view.write (Elt F) fd ((wqH : Memref sig .tc .hbm S512x512 .f32).view.read (Elt F) (V c main_arg1)) Finset.univ = V c main_arg1 from View.write_whole_univ cc0_scratch1 fd _]; exact .rfl) k
theorem ldWo_step (Q : PUnit → sProp 𝕄) {h₁ h₂ h₃} (k : P F) :
    iprop(known V K c ∗ wholePt c main_arg2 (V c main_arg2) ∗ (∃ f, wholePt c cc0_scratch2 f) ∗ dutyTok ER (dcell c (ldS 2)) 0 0)
      ⊢ iprop((cred (tallyAt (dcell c (ldS 2)) () Nw) -∗ run c k Q)
        -∗ run c (.op (.enqueueDma woH (.here woV) (.dma (ldSem ![2] inb_S3_S1_2)) h₁ h₂ h₃) fun _ => k) Q) :=
  ld_at V K c Q 2 ld2_eq (by rw [role_ld]; rfl) (src := woH) (dst := woV) rfl (fs := V c main_arg2)
    (fun fd => by rw [show (woV : Memref sig .tc .vmem S512x512 .f32).view.write (Elt F) fd ((woH : Memref sig .tc .hbm S512x512 .f32).view.read (Elt F) (V c main_arg2)) Finset.univ = V c main_arg2 from View.write_whole_univ cc0_scratch2 fd _]; exact .rfl) k

/-- The waits for them, while the copies to the peers are owed. -/
theorem ldWait_step (Q : PUnit → sProp 𝕄) (j : Fin 3) {d : DmaSem sig} (e : d = ldS j) {M : ℕ} (hM : amountAt (role (.dma (ldS j))) = M) {Pay : sProp 𝕄} (hp : ldPay V c j = Pay)
    {s : Shape} {el : EltTy} {src : Memref sig .tc .hbm s el} {dst : Memref sig .tc .vmem s el} {h₁ h₂} (hN : dst.view.dmaCredit = M) (k : P F) :
    iprop(known V K c ∗ owing c (rsDue c 0 + agDue c 0) ∗ ahead c (ldS j) 0 M)
      ⊢ iprop(((owing c (rsDue c 0 + agDue c 0) ∗ past c (ldS j) 0 Pay) -∗ run c k Q)
        -∗ run c (.op (.waitDma2 d src dst h₁ h₂) fun _ => k) Q) :=
  wait_at V K c Q e 0 0 (inv_ld V K c j) (duty_ld c j) (level_ld j) (above_add (above_rs (by decide) c 0) (above_ag (by decide) c 0))
    ((pay_ld V c j).trans hp) hM hN k

end Cert.KernelIdeal.Exchange
-- ==== Proof.Body.lean ====
/-
  The kernel body run on one device, stage by stage: the signals, the partial product, the scatter, the sum, the gather, the
  result, the waits for the own copies; and the whole.
-/
module

public import proofs.«01_k».proof.Proof.Buffers

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-- The staging buffers of the two weights' blocks and of the result. -/
abbrev kS : Memref sig .tc .vmem S512x128 .f32 := Memref.whole cc0_stg0_0
abbrev vS : Memref sig .tc .vmem S512x128 .f32 := Memref.whole cc0_stg1_0
abbrev oS : Memref sig .tc .vmem S256x512 .f32 := Memref.whole cc0_stg2_0

/-- One proposition for each of the 31 others. -/
abbrev all (Φ : Fin 31 → sProp 𝕄) : sProp 𝕄 := bigSep Finset.univ Φ

/-! ## The waits for the own copies -/

theorem tail_run (Q : PUnit → sProp 𝕄) :
    iprop(known V K c ∗ owing c 0 ∗ all (fun i => ahead c (rsS i.succ) 0 N) ∗ all (fun i => ahead c (agS i.succ) 0 N))
      ⊢ iprop(((owing c 0 ∗ all (fun i => past c (rsS i.succ) 0 (rowsPt c (peer c i) (partC V c))) ∗ all (fun i => past c (agS i.succ) 0 (redPt c (leafQ i.succ) (redC V c))))
          -∗ run c (.ret ⟨⟩) Q) -∗ run c (tailSeq c) Q) := by
  have h1 := run_each c Q (agDone c) (.ret ⟨⟩) (known V K c) (fun _ => owing c 0) _ _ (fun i k => agDone_step V K c Q i k)
  have h2 := run_each c Q (rsDone c) (each (agDone c) (.ret ⟨⟩) 31 le_rfl) (known V K c) (fun _ => owing c 0) _ _ (fun i k => rsDone_step V K c Q i k)
  unfold tailSeq
  iintro ⟨#HK, HO, HR, HG⟩ Hk
  iapply h2 $$ [HO HR]
  · isplitr; · iexact HK
    isplitl [HO]; · iexact HO
    iexact HR
  iintro ⟨HO, HR⟩
  iapply h1 $$ [HO HG]
  · isplitr; · iexact HK
    isplitl [HO]; · iexact HO
    iexact HG
  iintro ⟨HO, HG⟩
  iapply Hk
  isplitl [HO]; · iexact HO
  isplitl [HR]; · iexact HR
  iexact HG

/-! ## The result -/

theorem out_run (Q : PUnit → sProp 𝕄) :
    iprop(wholePt c cc0_scratch6 (stageC V) ∗ ∃ f, wholePt c cc0_stg2_0 f)
      ⊢ iprop(((wholePt c cc0_scratch6 (stageC V) ∗ wholePt c cc0_stg2_0 (k0_pay45 (stageC V))) -∗ run c (tailSeq c) Q) -∗ run c (outSeq oS c) Q) := by
  unfold outSeq
  iintro ⟨HS, ⟨%f, HF⟩⟩ Hk
  iapply (load_full c Q (m := stageM) (f := stageC V) (Memref.readAt_unit_zero (Elt F) cc0_scratch6 zero3 _ _) _) $$ HS
  iintro HS
  iapply (load_full c Q (m := oS) (f := f) (Memref.readAt_unit_zero (Elt F) cc0_stg2_0 zero2 _ _) _) $$ HF
  iintro HF
  iapply (store_full c Q (m := oS) (f := f) (Memref.write_access_unit_zero_univ (Elt F) cc0_stg2_0 zero2 _ _ _) _) $$ HF
  iintro HF
  iapply Hk
  isplitl [HS]; · iexact HS
  iexact HF

/-! ## The sum -/

theorem sum_run (Q : PUnit → sProp 𝕄) (a5 : Memref sig .tc .vmem S256x512 .f32) :
    iprop(wholePt c cc0_scratch4 (recvC V c) ∗ ∃ f, wholePt c cc0_scratch5 f)
      ⊢ iprop(((wholePt c cc0_scratch4 (recvC V c) ∗ wholePt c cc0_scratch5 (redC V c)) -∗ run c (gatherSeq a5 c) Q) -∗ run c (sumSeq a5 c) Q) := by
  have hl := fun k => run_loadEach c Q (wholePt c cc0_scratch4 (recvC V c)) ldSlot (recvBlk V c) (fun j k => ldSlot_step V c Q j k) 32 id k
  unfold sumSeq
  iintro ⟨HS, ⟨%f, HF⟩⟩ Hk
  iapply (hl _) $$ HS
  iintro HS
  iapply (load_full c Q (m := redM) (f := f) (Memref.readAt_unit_zero (Elt F) cc0_scratch5 zero2 _ _) _) $$ HF
  iintro HF
  iapply (store_full c Q (m := redM) (f := f) (Memref.write_access_unit_zero_univ (Elt F) cc0_scratch5 zero2 _ _ _) _) $$ HF
  iintro HF
  iapply Hk
  isplitl [HS]; · iexact HS
  iexact HF

/-! ## The scatter -/

/-- What a copy of the scatter takes. -/
abbrev rsTake (i : Fin 31) : sProp 𝕄 :=
  iprop(rowsPt c (peer c i) (partC V c) ∗ (∃ f, recvPt (peer c i) c f) ∗ reached ER (dcell (peer c i) (rsR c)) 0
          ∗ dutyTok ER (dcell c (rsS i.succ)) 0 0 ∗ dutyTok ER (dcell (peer c i) (rsR c)) 0 0)
/-- What a copy of the gather takes. -/
abbrev agTake (i : Fin 31) : sProp 𝕄 :=
  iprop(redPt c (leafQ i.succ) (redC V c) ∗ (∃ f, stagePt (peer c i) c f) ∗ reached ER (dcell (peer c i) (agR c)) 0
          ∗ dutyTok ER (dcell c (agS i.succ)) 0 0 ∗ dutyTok ER (dcell (peer c i) (agR c)) 0 0)

theorem scatter_run (Q : PUnit → sProp 𝕄) (a5 : Memref sig .tc .vmem S256x512 .f32) :
    iprop(known V K c ∗ owing c (rsDue c 0 + agDue c 0) ∗ rowsPt c c (partC V c) ∗ (∃ f, recvPt c c f)
        ∗ dutyTok ER (dcell c locS) 0 0 ∗ reached ER (dcell c locS) 0 ∗ atPos ER (dcell c locS) 0 ∅ 0
        ∗ all (rsTake V c) ∗ all (fun i => ahead c (rsR (peer c i)) 0 N))
      ⊢ iprop(((owing c (agDue c 0) ∗ all (fun i => cred (tallyAt (dcell c (rsS i.succ)) () N))
            ∗ past c locS 0 (iprop(recvPt c c (recvC V c) ∗ rowsPt c c (partC V c)))
            ∗ all (fun i => past c (rsR (peer c i)) 0 (recvPt c (peer c i) (recvC V c))))
          -∗ run c (sumSeq a5 c) Q) -∗ run c (scatterSeq a5 c) Q) := by
  have h1 := run_each c Q (rsWait c) (sumSeq a5 c) (known V K c) (fun _ => owing c (agDue c 0)) _ _ (fun i k => rsWait_step V K c Q i k)
  have h2 := fun k => run_each c Q (rsSend c) k (known V K c) (fun n => owing c (rsDue c n + agDue c 0)) _ _ (fun i k => rsSend_step V K c Q i k)
  rw [rsDue_last, zero_add] at h2
  unfold scatterSeq
  iintro ⟨#HK, HO, Hrow, Hslot, HT, HR, HA, HX, HY⟩ Hk
  iapply (locRows_step V K c Q _) $$ [Hrow Hslot HT HR]
  · isplitr; · iexact HK
    isplitl [Hrow]; · iexact Hrow
    isplitl [Hslot]; · iexact Hslot
    isplitl [HT]; · iexact HT
    iexact HR
  iintro HC
  iapply (h2 _) $$ [HO HX]
  · isplitr; · iexact HK
    isplitl [HO]; · iexact HO
    iexact HX
  iintro ⟨HO, HS⟩
  iapply (locRowsWait_step V K c Q _) $$ [HO HC HA]
  · isplitr; · iexact HK
    isplitl [HO]; · iexact HO
    isplitl [HC]; · iexact HC
    iexact HA
  iintro ⟨HO, HP⟩
  iapply h1 $$ [HO HY]
  · isplitr; · iexact HK
    isplitl [HO]; · iexact HO
    iexact HY
  iintro ⟨HO, HY⟩
  iapply Hk
  isplitl [HO]; · iexact HO
  isplitl [HS]; · iexact HS
  isplitl [HP]; · iexact HP
  iexact HY

/-! ## The gather -/

theorem gather_run (Q : PUnit → sProp 𝕄) (a5 : Memref sig .tc .vmem S256x512 .f32) :
    iprop(known V K c ∗ owing c (agDue c 0) ∗ redPt c (leafQ 0) (redC V c) ∗ (∃ f, stagePt c c f)
        ∗ dutyTok ER (dcell c locS) 1 0 ∗ reached ER (dcell c locS) 1 ∗ atPos ER (dcell c locS) 1 ∅ 0
        ∗ all (agTake V c) ∗ all (fun i => ahead c (agR (peer c i)) 0 N))
      ⊢ iprop(((owing c 0 ∗ all (fun i => cred (tallyAt (dcell c (agS i.succ)) () N))
            ∗ past c locS 1 (iprop(stagePt c c (stageC V) ∗ redPt c (leafQ 0) (redC V c)))
            ∗ all (fun i => past c (agR (peer c i)) 0 (stagePt c (peer c i) (stageC V))))
          -∗ run c (outSeq a5 c) Q) -∗ run c (gatherSeq a5 c) Q) := by
  have h1 := run_each c Q (agWait c) (outSeq a5 c) (known V K c) (fun _ => owing c 0) _ _ (fun i k => agWait_step V K c Q i k)
  have h2 := fun k => run_each c Q (agSend c) k (known V K c) (fun n => owing c (agDue c n)) _ _ (fun i k => agSend_step V K c Q i k)
  rw [agDue_last] at h2
  unfold gatherSeq
  iintro ⟨#HK, HO, Hrow, Hslot, HT, HR, HA, HX, HY⟩ Hk
  iapply (locSum_step V K c Q _) $$ [Hrow Hslot HT HR]
  · isplitr; · iexact HK
    isplitl [Hrow]; · iexact Hrow
    isplitl [Hslot]; · iexact Hslot
    isplitl [HT]; · iexact HT
    iexact HR
  iintro HC
  iapply (h2 _) $$ [HO HX]
  · isplitr; · iexact HK
    isplitl [HO]; · iexact HO
    iexact HX
  iintro ⟨HO, HS⟩
  iapply (locSumWait_step V K c Q _) $$ [HO HC HA]
  · isplitr; · iexact HK
    isplitl [HO]; · iexact HO
    isplitl [HC]; · iexact HC
    iexact HA
  iintro ⟨HO, HP⟩
  iapply h1 $$ [HO HY]
  · isplitr; · iexact HK
    isplitl [HO]; · iexact HO
    iexact HY
  iintro ⟨HO, HY⟩
  iapply Hk
  isplitl [HO]; · iexact HO
  isplitl [HS]; · iexact HS
  isplitl [HP]; · iexact HP
  iexact HY

/-! ## The partial product -/

theorem part_run (Q : PUnit → sProp 𝕄) (a5 : Memref sig .tc .vmem S256x512 .f32) :
    iprop(known V K c ∗ owing c (rsDue c 0 + agDue c 0)
        ∗ (wholePt c main_v5 (V c main_v5) ∗ wholePt c main_arg1 (V c main_arg1) ∗ wholePt c main_arg2 (V c main_arg2))
        ∗ ((∃ f, wholePt c cc0_scratch0 f) ∗ (∃ f, wholePt c cc0_scratch1 f) ∗ (∃ f, wholePt c cc0_scratch2 f) ∗ ∃ f, wholePt c cc0_scratch3 f)
        ∗ (wholePt c cc0_stg0_0 (V c main_v11) ∗ wholePt c cc0_stg1_0 (V c main_v17))
        ∗ (dutyTok ER (dcell c (ldS 0)) 0 0 ∗ dutyTok ER (dcell c (ldS 1)) 0 0 ∗ dutyTok ER (dcell c (ldS 2)) 0 0)
        ∗ (atPos ER (dcell c (ldS 0)) 0 ∅ 0 ∗ atPos ER (dcell c (ldS 1)) 0 ∅ 0 ∗ atPos ER (dcell c (ldS 2)) 0 ∅ 0)
        ∗ cred (tallyAt (barCell c) () 31) ∗ atPos ER (barCell c) 0 ∅ 0)
      ⊢ iprop(((owing c (rsDue c 0 + agDue c 0)
            ∗ past c (ldS 0) 0 (iprop(wholePt c cc0_scratch0 (V c main_v5) ∗ wholePt c main_v5 (V c main_v5)))
            ∗ past c (ldS 1) 0 (iprop(wholePt c cc0_scratch1 (V c main_arg1) ∗ wholePt c main_arg1 (V c main_arg1)))
            ∗ past c (ldS 2) 0 (iprop(wholePt c cc0_scratch2 (V c main_arg2) ∗ wholePt c main_arg2 (V c main_arg2)))
            ∗ wholePt c cc0_scratch3 (partC V c)
            ∗ (wholePt c cc0_stg0_0 (V c main_v11) ∗ wholePt c cc0_stg1_0 (V c main_v17))
            ∗ atPos ER (barCell c) 1 ∅ 0 ∗ all (fun i => barPay c (peer c i)))
          -∗ run c (scatterSeq a5 c) Q) -∗ run c (partSeq kS vS a5 c) Q) := by
  unfold partSeq
  iintro ⟨#HK, HO, ⟨Hx, Hq, Ho⟩, ⟨H0, H1, H2, ⟨%f3, H3⟩⟩, ⟨Hsk, Hsv⟩, ⟨HT0, HT1, HT2⟩, ⟨HA0, HA1, HA2⟩, HCb, HAb⟩ Hk
  iapply (ldX_step V K c Q _) $$ [Hx H0 HT0]
  · isplitr; · iexact HK
    isplitl [Hx]; · iexact Hx
    isplitl [H0]; · iexact H0
    iexact HT0
  iintro HC0
  iapply (ldWq_step V K c Q _) $$ [Hq H1 HT1]
  · isplitr; · iexact HK
    isplitl [Hq]; · iexact Hq
    isplitl [H1]; · iexact H1
    iexact HT1
  iintro HC1
  iapply (ldWo_step V K c Q _) $$ [Ho H2 HT2]
  · isplitr; · iexact HK
    isplitl [Ho]; · iexact Ho
    isplitl [H2]; · iexact H2
    iexact HT2
  iintro HC2
  iapply (ldWait_step V K c Q 0 ld0_eq (M := Nx) (by rw [role_ld]; rfl) (Pay := iprop(wholePt c cc0_scratch0 (V c main_v5) ∗ wholePt c main_v5 (V c main_v5))) rfl (dst := xV) rfl _) $$ [HO HC0 HA0]
  · isplitr; · iexact HK
    isplitl [HO]; · iexact HO
    isplitl [HC0]; · iexact HC0
    iexact HA0
  iintro ⟨HO, HA0, HR0, H0, Hx⟩
  iapply (load_full c Q (m := xV) (f := V c main_v5) (Memref.readAt_unit_zero (Elt F) cc0_scratch0 zero2 _ _) _) $$ H0
  iintro H0
  iapply (ldWait_step V K c Q 1 ld1_eq (M := Nw) (by rw [role_ld]; rfl) (Pay := iprop(wholePt c cc0_scratch1 (V c main_arg1) ∗ wholePt c main_arg1 (V c main_arg1))) rfl (dst := wqV) rfl _) $$ [HO HC1 HA1]
  · isplitr; · iexact HK
    isplitl [HO]; · iexact HO
    isplitl [HC1]; · iexact HC1
    iexact HA1
  iintro ⟨HO, HA1, HR1, H1, Hq⟩
  iapply (load_full c Q (m := wqV) (f := V c main_arg1) (Memref.readAt_unit_zero (Elt F) cc0_scratch1 zero2 _ _) _) $$ H1
  iintro H1
  iapply (load_full c Q (m := kS) (f := V c main_v11) (Memref.readAt_unit_zero (Elt F) cc0_stg0_0 zero2 _ _) _) $$ Hsk
  iintro Hsk
  iapply (load_full c Q (m := vS) (f := V c main_v17) (Memref.readAt_unit_zero (Elt F) cc0_stg1_0 zero2 _ _) _) $$ Hsv
  iintro Hsv
  iapply (ldWait_step V K c Q 2 ld2_eq (M := Nw) (by rw [role_ld]; rfl) (Pay := iprop(wholePt c cc0_scratch2 (V c main_arg2) ∗ wholePt c main_arg2 (V c main_arg2))) rfl (dst := woV) rfl _) $$ [HO HC2 HA2]
  · isplitr; · iexact HK
    isplitl [HO]; · iexact HO
    isplitl [HC2]; · iexact HC2
    iexact HA2
  iintro ⟨HO, HA2, HR2, H2, Ho⟩
  iapply (load_full c Q (m := woV) (f := V c main_arg2) (Memref.readAt_unit_zero (Elt F) cc0_scratch2 zero2 _ _) _) $$ H2
  iintro H2
  iapply (load_full c Q (m := partM) (f := f3) (Memref.readAt_unit_zero (Elt F) cc0_scratch3 zero2 _ _) _) $$ H3
  iintro H3
  iapply (store_full c Q (m := partM) (f := f3) (Memref.write_access_unit_zero_univ (Elt F) cc0_scratch3 zero2 _ _ _) _) $$ H3
  iintro H3
  iapply (bar_wait V K c Q _) $$ [HO HCb HAb]
  · isplitr; · iexact HK
    isplitl [HO]; · iexact HO
    isplitl [HCb]; · iexact HCb
    iexact HAb
  iintro ⟨HO, HAb, HB⟩
  iapply Hk
  isplitl [HO]; · iexact HO
  isplitl [HA0 HR0 H0 Hx]
  · isplitl [HA0]; · iexact HA0
    isplitl [HR0]; · iexact HR0
    isplitl [H0]; · iexact H0
    iexact Hx
  isplitl [HA1 HR1 H1 Hq]
  · isplitl [HA1]; · iexact HA1
    isplitl [HR1]; · iexact HR1
    isplitl [H1]; · iexact H1
    iexact Hq
  isplitl [HA2 HR2 H2 Ho]
  · isplitl [HA2]; · iexact HA2
    isplitl [HR2]; · iexact HR2
    isplitl [H2]; · iexact H2
    iexact Ho
  isplitl [H3]; · iexact H3
  isplitl [Hsk Hsv]
  · isplitl [Hsk]; · iexact Hsk
    iexact Hsv
  isplitl [HAb]; · iexact HAb
  iexact HB

/-! ## The signals -/

abbrev sigTake (i : Fin 31) : sProp 𝕄 :=
  iprop(dutyTok ER (barCell (peer c i)) 0 c ∗ (∃ f, recvPt (F := F) c (peer c i) f) ∗ ∃ f, stagePt (F := F) c (peer c i) f)

theorem sig_run (Q : PUnit → sProp 𝕄) (k : P F) :
    iprop(known V K c ∗ owing c (O₀ c) ∗ all (sigTake (F := F) c))
      ⊢ iprop((owing c (rsDue c 0 + agDue c 0) -∗ run c k Q) -∗ run c (each (sigOp c) k 31 le_rfl) Q) := by
  have h := run_each c Q (sigOp c) k (known V K c) (fun n => owing c (barDue c n + (rsDue c 0 + agDue c 0))) _ _ (fun i k => sig_step V K c Q i k)
  rw [barDue_last, zero_add] at h
  unfold O₀
  iintro H Hk
  iapply h $$ H
  iintro ⟨HO, -⟩
  iapply Hk
  iexact HO

/-! ## The cells, closed -/

/-- The cell `d` of `c` past its last round. -/
def spent (c : Dev nD) (d : DmaSem sig) : sProp 𝕄 := iprop(∃ R, ⌜∀ r, R ≤ r → dutiesOf c (role (.dma d)) r = ∅⌝ ∗ atPos ER (dcell c d) R ∅ 0)

theorem spent_of (d : DmaSem sig) (R : ℕ) (h : ∀ r, R ≤ r → dutiesOf c (role (.dma d)) r = ∅) : (atPos ER (dcell c d) R ∅ 0 : sProp 𝕄) ⊢ spent c d := by
  unfold spent
  iintro H
  iexists R
  isplitr; · ipureintro; exact h
  iexact H

theorem late_ld (k : Fin 3) (r : ℕ) (h : 1 ≤ r) : dutiesOf c (role (.dma (ldS k))) r = ∅ := by
  rw [role_ld]; unfold dutiesOf; exact if_neg (by omega)
theorem late_loc (r : ℕ) (h : 2 ≤ r) : dutiesOf c (role (.dma locS)) r = ∅ := by
  rw [role_loc]; unfold dutiesOf; exact if_neg (by omega)
theorem late_rsS (o : Fin 32) (r : ℕ) (h : 1 ≤ r) : dutiesOf c (role (.dma (rsS o))) r = ∅ := by
  rw [role_rsS]; unfold dutiesOf; exact if_neg (by omega)
theorem late_agS (o : Fin 32) (r : ℕ) (h : 1 ≤ r) : dutiesOf c (role (.dma (agS o))) r = ∅ := by
  rw [role_agS]; unfold dutiesOf; exact if_neg (by omega)
theorem late_rsR (s : Dev nD) (r : ℕ) (h : 1 ≤ r) : dutiesOf c (role (.dma (rsR s))) r = ∅ := by
  rw [role_rsR]; unfold dutiesOf; exact if_neg (by omega)
theorem late_agR (s : Dev nD) (r : ℕ) (h : 1 ≤ r) : dutiesOf c (role (.dma (agR s))) r = ∅ := by
  rw [role_agR]; unfold dutiesOf; exact if_neg (by omega)
theorem idle_rsS (r : ℕ) : dutiesOf c (role (.dma (rsS 0))) r = ∅ := by
  rw [role_rsS]; unfold dutiesOf; exact if_neg (fun h => h.2 rfl)
theorem idle_agS (r : ℕ) : dutiesOf c (role (.dma (agS 0))) r = ∅ := by
  rw [role_agS]; unfold dutiesOf; exact if_neg (fun h => h.2 rfl)
theorem idle_rsR (r : ℕ) : dutiesOf c (role (.dma (rsR c))) r = ∅ := by
  rw [role_rsR]; unfold dutiesOf; exact if_neg (fun h => h.2 rfl)
theorem idle_agR (r : ℕ) : dutiesOf c (role (.dma (agR c))) r = ∅ := by
  rw [role_agR]; unfold dutiesOf; exact if_neg (fun h => h.2 rfl)
theorem late_bar (r : ℕ) (h : 1 ≤ r) : (sched V).duties (barCell c) r = ∅ := by
  rw [sched_duties, role_bar]; unfold dutiesOf; exact if_neg (by omega)

theorem bigSep_three {M : Type} [URA M] (Φ : Fin 3 → sProp M) : bigSep Finset.univ Φ = iprop(Φ 0 ∗ Φ 1 ∗ Φ 2) := by
  rw [show (Finset.univ : Finset (Fin 3)) = insert 0 (insert 1 {2}) from by decide, bigSep_insert (by decide), bigSep_insert (by decide), bigSep_singleton]; rfl

/-- One proposition per scoped cell, the cells told apart by whom they are for. -/
theorem own_split (Φ : DmaSem sig → sProp 𝕄) :
    (bigSep Finset.univ fun k : Own => Φ (osem k))
      = iprop((Φ (ldS 0) ∗ Φ (ldS 1) ∗ Φ (ldS 2)) ∗ Φ locS ∗ (Φ (rsS 0) ∗ all fun i => Φ (rsS i.succ))
        ∗ (Φ (rsR c) ∗ all fun i => Φ (rsR (peer c i))) ∗ (Φ (agS 0) ∗ all fun i => Φ (agS i.succ)) ∗ (Φ (agR c) ∗ all fun i => Φ (agR (peer c i)))) := by
  rw [bigSep_own, bigSep_three, bigSep_ix fun o => Φ (rsS o), bigSep_ix fun o => Φ (agS o), bigSep_dev c fun s => Φ (rsR s), bigSep_dev c fun s => Φ (agR s)]

theorem own_close : iprop(invs V K ∗ bigSep Finset.univ fun k : Own => spent (F := F) c (osem k))
    ⊢ (iprop(|={Set.univ}=> bigSep Finset.univ fun k : Own => semVal (dcell c (osem k)) 0) : sProp 𝕄) := by
  refine (BI.bigSep_with_persistent (fun k _ => ?_)).trans (BI.bigSep_fupd _ _)
  unfold spent
  iintro ⟨#HI, ⟨%R, %h, HA⟩⟩
  ihave #H1 := (inv_own V K c k) $$ HI
  iapply (Rounds.cell_close ER (sched V) (κ := K (dcell c (osem k))) (Set.mem_univ _) id (R := R) (fun r hr => (sched_duties V c _ r).trans (h r hr)))
  isplitr; · iexact H1
  iexact HA

theorem bar_close : iprop(invs V K ∗ atPos ER (barCell c) 1 ∅ 0) ⊢ (iprop(|={Set.univ}=> semVal (barCell c) 0) : sProp 𝕄) := by
  iintro ⟨#HI, HA⟩
  ihave #H1 := (inv_bar V K c) $$ HI
  iapply (Rounds.cell_close ER (sched V) (κ := K (barCell c)) (Set.mem_univ _) id (R := 1) (fun r hr => late_bar V c r hr))
  isplitr; · iexact H1
  iexact HA

/-! ## The whole body -/

theorem all_sep (Φ Ψ : Fin 31 → sProp 𝕄) : all (fun i => iprop(Φ i ∗ Ψ i)) = iprop(all Φ ∗ all Ψ) := BI.bigSep_sep' _ Φ Ψ

/-- What the barrier pays: the slots of every peer for `c`, their cells for `c` open. -/
theorem bar_unzip : all (fun i => barPay (F := F) c (peer c i))
    = iprop(all (fun i => iprop(∃ f, recvPt (F := F) (peer c i) c f)) ∗ all (fun i => iprop(∃ f, stagePt (F := F) (peer c i) c f))
      ∗ all (fun i => reached ER (dcell (peer c i) (rsR c)) 0) ∗ all (fun i => reached ER (dcell (peer c i) (agR c)) 0)) := by
  unfold barPay
  rw [all_sep, all_sep, all_sep]
theorem rs_zip : all (rsTake V c)
    = iprop(all (fun i => rowsPt c (peer c i) (partC V c)) ∗ all (fun i => iprop(∃ f, recvPt (F := F) (peer c i) c f)) ∗ all (fun i => reached ER (dcell (peer c i) (rsR c)) 0)
      ∗ all (fun i => dutyTok ER (dcell c (rsS i.succ)) 0 0) ∗ all (fun i => dutyTok ER (dcell (peer c i) (rsR c)) 0 0)) := by
  rw [all_sep, all_sep, all_sep, all_sep]
theorem ag_zip : all (agTake V c)
    = iprop(all (fun i => redPt c (leafQ i.succ) (redC V c)) ∗ all (fun i => iprop(∃ f, stagePt (F := F) (peer c i) c f)) ∗ all (fun i => reached ER (dcell (peer c i) (agR c)) 0)
      ∗ all (fun i => dutyTok ER (dcell c (agS i.succ)) 0 0) ∗ all (fun i => dutyTok ER (dcell (peer c i) (agR c)) 0 0)) := by
  rw [all_sep, all_sep, all_sep, all_sep]
theorem sig_zip : all (sigTake (F := F) c)
    = iprop(all (fun i => dutyTok ER (barCell (peer c i)) 0 c) ∗ all (fun i => iprop(∃ f, recvPt (F := F) c (peer c i) f)) ∗ all (fun i => iprop(∃ f, stagePt (F := F) c (peer c i) f))) := by
  rw [all_sep, all_sep]
theorem ahead_zip (d : Fin 31 → DmaSem sig) (M : ℕ) : all (F := F) (fun i => ahead c (d i) 0 M)
    = iprop(all (fun i => cred (tallyAt (dcell c (d i)) () M)) ∗ all (fun i => atPos ER (dcell c (d i)) 0 ∅ 0)) := all_sep _ _
theorem past_unzip (d : Fin 31 → DmaSem sig) (Pay : Fin 31 → sProp 𝕄) : all (fun i => past c (d i) 0 (Pay i))
    = iprop(all (fun i => atPos ER (dcell c (d i)) 1 ∅ 0) ∗ all (fun i => reached ER (dcell c (d i)) 1) ∗ all Pay) := by
  rw [all_sep, all_sep]

theorem all_spent (d : Fin 31 → DmaSem sig) (h : ∀ i r, 1 ≤ r → dutiesOf c (role (.dma (d i))) r = ∅) :
    all (fun i => atPos ER (dcell c (d i)) 1 ∅ 0) ⊢ (all fun i => spent (F := F) c (d i)) :=
  BI.bigSep_mono fun i _ => spent_of c (d i) 1 (h i)

/-- The kernel's scratch buffers, at any contents. -/
def scratch (c : Dev nD) : sProp 𝕄 :=
  iprop((∃ f, wholePt c cc0_scratch0 f) ∗ (∃ f, wholePt c cc0_scratch1 f) ∗ (∃ f, wholePt c cc0_scratch2 f) ∗ (∃ f, wholePt c cc0_scratch3 f)
    ∗ (∃ f, wholePt c cc0_scratch4 f) ∗ (∃ f, wholePt c cc0_scratch5 f) ∗ ∃ f, wholePt c cc0_scratch6 f)
/-- The operands the kernel copies in itself. -/
def operands (c : Dev nD) : sProp 𝕄 :=
  iprop(wholePt c main_v5 (V c main_v5) ∗ wholePt c main_arg1 (V c main_arg1) ∗ wholePt c main_arg2 (V c main_arg2))
/-- The two weights' blocks in their staging buffers. -/
def staged (c : Dev nD) : sProp 𝕄 := iprop(wholePt c cc0_stg0_0 (V c main_v11) ∗ wholePt c cc0_stg1_0 (V c main_v17))

def bodyPre (c : Dev nD) : sProp 𝕄 :=
  iprop(opened V K c ∗ creds c ∗ levAts L lv ∗ owing c (O₀ c) ∗ operands V c ∗ staged V c ∗ (∃ f, wholePt c cc0_stg2_0 f) ∗ scratch c)
def bodyPost (c : Dev nD) : sProp 𝕄 :=
  iprop((semVal (barCell c) 0 ∗ bigSep Finset.univ fun k : Own => semVal (dcell c (osem k)) 0) ∗ owing c 0 ∗ operands V c ∗ staged V c
    ∗ wholePt c cc0_stg2_0 (k0_pay45 (stageC V)) ∗ scratch c)

theorem body_run (Q : PUnit → sProp 𝕄) :
    iprop(bodyPre V K c ∗ (bodyPost V c -∗ Q ⟨⟩)) ⊢ run c (bodySeq kS vS oS) Q := by
  unfold bodySeq
  simp only [wp_deviceId]
  unfold bodyPre opened creds toks operands staged scratch
  rw [own_split c (fun d => atPos ER (dcell c d) 0 ∅ 0), bigSep_three]
  iintro ⟨⟨⟨#HI, #HB, #HW, HAb, ⟨⟨HA0, HA1, HA2⟩, HAl, ⟨HAs0, HAs⟩, ⟨HAr0, HAr⟩, ⟨HGs0, HGs⟩, ⟨HGr0, HGr⟩⟩, HTb, HTr, HTg, HTrs, HTgs, ⟨HTl0, HTl1⟩, ⟨HT0, HT1, HT2⟩⟩,
    ⟨HCb, HCr, HCg⟩, #HL, HO, Hop, Hst, Ho, ⟨Hs0, Hs1, Hs2, Hs3, Hs4, Hs5, Hs6⟩⟩, Hk⟩
  ihave #HK : known V K c $$ []
  · unfold known
    isplitr; · iexact HI
    isplitr; · iexact HB
    isplitr; · iexact HW
    iexact HL
  ihave #HRl := (reached_loc c) $$ HW
  ihave ⟨Hr0, Hrs⟩ := (recv_give c) $$ Hs4
  ihave ⟨Hg0, Hgs⟩ := (stage_give c) $$ Hs6
  ihave Hsig := (Entails.of_eq (sig_zip (F := F) c).symm) $$ [HTb Hrs Hgs]
  · isplitl [HTb]; · iexact HTb
    isplitl [Hrs]; · iexact Hrs
    iexact Hgs
  iapply (sig_run V K c Q _) $$ [HO Hsig]
  · isplitr; · iexact HK
    isplitl [HO]; · iexact HO
    iexact Hsig
  iintro HO
  iapply (part_run V K c Q oS) $$ [HO Hop Hs0 Hs1 Hs2 Hs3 Hst HT0 HT1 HT2 HA0 HA1 HA2 HCb HAb]
  · isplitr; · iexact HK
    isplitl [HO]; · iexact HO
    isplitl [Hop]; · iexact Hop
    isplitl [Hs0 Hs1 Hs2 Hs3]
    · isplitl [Hs0]; · iexact Hs0
      isplitl [Hs1]; · iexact Hs1
      isplitl [Hs2]; · iexact Hs2
      iexact Hs3
    isplitl [Hst]; · iexact Hst
    isplitl [HT0 HT1 HT2]
    · isplitl [HT0]; · iexact HT0
      isplitl [HT1]; · iexact HT1
      iexact HT2
    isplitl [HA0 HA1 HA2]
    · isplitl [HA0]; · iexact HA0
      isplitl [HA1]; · iexact HA1
      iexact HA2
    isplitl [HCb]; · iexact HCb
    iexact HAb
  iintro ⟨HO, ⟨HA0, -, Hs0, Hx⟩, ⟨HA1, -, Hs1, Hq⟩, ⟨HA2, -, Hs2, Hw⟩, Hs3, Hst, HAb, HBp⟩
  ihave ⟨Hrp, Hgp, Hrr, Hgr⟩ := (Entails.of_eq (bar_unzip (F := F) c)) $$ HBp
  ihave ⟨Hp0, Hps⟩ := (Entails.of_eq (part_dev c (partC V c))) $$ Hs3
  ihave Hrt := (Entails.of_eq (rs_zip V c).symm) $$ [Hps Hrp Hrr HTrs HTr]
  · isplitl [Hps]; · iexact Hps
    isplitl [Hrp]; · iexact Hrp
    isplitl [Hrr]; · iexact Hrr
    isplitl [HTrs]; · iexact HTrs
    iexact HTr
  ihave Hra := (Entails.of_eq (ahead_zip (F := F) c (fun i => rsR (peer c i)) N).symm) $$ [HCr HAr]
  · isplitl [HCr]; · iexact HCr
    iexact HAr
  iapply (scatter_run V K c Q oS) $$ [HO Hp0 Hr0 HTl0 HAl Hrt Hra]
  · isplitr; · iexact HK
    isplitl [HO]; · iexact HO
    isplitl [Hp0]; · iexact Hp0
    isplitl [Hr0]; · iexact Hr0
    isplitl [HTl0]; · iexact HTl0
    isplitr; · iexact HRl
    isplitl [HAl]; · iexact HAl
    isplitl [Hrt]; · iexact Hrt
    iexact Hra
  iintro ⟨HO, HCs, ⟨HAl, HRl1, Hr0, Hp0⟩, Hrp⟩
  ihave ⟨HAr, -, Hrs⟩ := (Entails.of_eq (past_unzip c (fun i => rsR (peer c i)) _)) $$ Hrp
  ihave Hs4 := (Entails.of_eq (recv_dev c (recvC V c)).symm) $$ [Hr0 Hrs]
  · isplitl [Hr0]; · iexact Hr0
    iexact Hrs
  iapply (sum_run V c Q oS) $$ [Hs4 Hs5]
  · isplitl [Hs4]; · iexact Hs4
    iexact Hs5
  iintro ⟨Hs4, Hs5⟩
  ihave ⟨Hd0, Hds⟩ := (Entails.of_eq (red_ix c (redC V c))) $$ Hs5
  ihave Hgt := (Entails.of_eq (ag_zip V c).symm) $$ [Hds Hgp Hgr HTgs HTg]
  · isplitl [Hds]; · iexact Hds
    isplitl [Hgp]; · iexact Hgp
    isplitl [Hgr]; · iexact Hgr
    isplitl [HTgs]; · iexact HTgs
    iexact HTg
  ihave Hga := (Entails.of_eq (ahead_zip (F := F) c (fun i => agR (peer c i)) N).symm) $$ [HCg HGr]
  · isplitl [HCg]; · iexact HCg
    iexact HGr
  iapply (gather_run V K c Q oS) $$ [HO Hd0 Hg0 HTl1 HAl HRl1 Hgt Hga]
  · isplitr; · iexact HK
    isplitl [HO]; · iexact HO
    isplitl [Hd0]; · iexact Hd0
    isplitl [Hg0]; · iexact Hg0
    isplitl [HTl1]; · iexact HTl1
    isplitl [HRl1]; · iexact HRl1
    isplitl [HAl]; · iexact HAl
    isplitl [Hgt]; · iexact Hgt
    iexact Hga
  iintro ⟨HO, HCgs, ⟨HAl, -, Hg0, Hd0⟩, Hgp⟩
  ihave ⟨HGr, -, Hgs⟩ := (Entails.of_eq (past_unzip c (fun i => agR (peer c i)) _)) $$ Hgp
  ihave Hs6 := (Entails.of_eq (stage_dev c (stageC V)).symm) $$ [Hg0 Hgs]
  · isplitl [Hg0]; · iexact Hg0
    iexact Hgs
  iapply (out_run V c Q) $$ [Hs6 Ho]
  · isplitl [Hs6]; · iexact Hs6
    iexact Ho
  iintro ⟨Hs6, Ho⟩
  ihave Hra := (Entails.of_eq (ahead_zip (F := F) c (fun i => rsS i.succ) N).symm) $$ [HCs HAs]
  · isplitl [HCs]; · iexact HCs
    iexact HAs
  ihave Hga := (Entails.of_eq (ahead_zip (F := F) c (fun i => agS i.succ) N).symm) $$ [HCgs HGs]
  · isplitl [HCgs]; · iexact HCgs
    iexact HGs
  iapply (tail_run V K c Q) $$ [HO Hra Hga]
  · isplitr; · iexact HK
    isplitl [HO]; · iexact HO
    isplitl [Hra]; · iexact Hra
    iexact Hga
  iintro ⟨HO, Hrp, Hgp⟩
  ihave ⟨HAs, -, Hps⟩ := (Entails.of_eq (past_unzip c (fun i => rsS i.succ) _)) $$ Hrp
  ihave ⟨HGs, -, Hds⟩ := (Entails.of_eq (past_unzip c (fun i => agS i.succ) _)) $$ Hgp
  ihave Hs3 := (Entails.of_eq (part_dev c (partC V c)).symm) $$ [Hp0 Hps]
  · isplitl [Hp0]; · iexact Hp0
    iexact Hps
  ihave Hs5 := (Entails.of_eq (red_ix c (redC V c)).symm) $$ [Hd0 Hds]
  · isplitl [Hd0]; · iexact Hd0
    iexact Hds
  ihave Hown := (Entails.of_eq (own_split c (spent (F := F) c)).symm) $$ [HA0 HA1 HA2 HAl HAs0 HAs HAr0 HAr HGs0 HGs HGr0 HGr]
  · isplitl [HA0 HA1 HA2]
    · isplitl [HA0]; · iapply (spent_of c (ldS 0) 1 (late_ld c 0)); iexact HA0
      isplitl [HA1]; · iapply (spent_of c (ldS 1) 1 (late_ld c 1)); iexact HA1
      iapply (spent_of c (ldS 2) 1 (late_ld c 2)); iexact HA2
    isplitl [HAl]; · iapply (spent_of c locS 2 (late_loc c)); iexact HAl
    isplitl [HAs0 HAs]
    · isplitl [HAs0]; · iapply (spent_of c (rsS 0) 0 (fun r _ => idle_rsS c r)); iexact HAs0
      iapply (all_spent c (fun i => rsS i.succ) (fun i => late_rsS c i.succ)); iexact HAs
    isplitl [HAr0 HAr]
    · isplitl [HAr0]; · iapply (spent_of c (rsR c) 0 (fun r _ => idle_rsR c r)); iexact HAr0
      iapply (all_spent c (fun i => rsR (peer c i)) (fun i => late_rsR c (peer c i))); iexact HAr
    isplitl [HGs0 HGs]
    · isplitl [HGs0]; · iapply (spent_of c (agS 0) 0 (fun r _ => idle_agS c r)); iexact HGs0
      iapply (all_spent c (fun i => agS i.succ) (fun i => late_agS c i.succ)); iexact HGs
    isplitl [HGr0]; · iapply (spent_of c (agR c) 0 (fun r _ => idle_agR c r)); iexact HGr0
    iapply (all_spent c (fun i => agR (peer c i)) (fun i => late_agR c (peer c i))); iexact HGr
  iapply (Entails.of_eq (wp_ret (Fr := frame) (wpE := wpE (defs₀ (F := F)) 𝒱₀ (c : Thread nD τ) none) (E := Set.univ) PUnit.unit Q).symm)
  imod (own_close V K c) $$ [Hown] with Hown
  · isplitr; · iexact HI
    iexact Hown
  imod (bar_close V K c) $$ [HAb] with Hbar
  · isplitr; · iexact HI
    iexact HAb
  imodintro
  iapply Hk
  unfold bodyPost operands staged scratch
  isplitl [Hbar Hown]
  · isplitl [Hbar]; · iexact Hbar
    iexact Hown
  isplitl [HO]; · iexact HO
  isplitl [Hx Hq Hw]
  · isplitl [Hx]; · iexact Hx
    isplitl [Hq]; · iexact Hq
    iexact Hw
  isplitl [Hst]; · iexact Hst
  isplitl [Ho]; · iexact Ho
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  iexists _; iexact Hs6

end Cert.KernelIdeal.Exchange
-- ==== Proof.Region.lean ====
/-
  The kernel's region: the windows' contents, the invariant before and after the kernel's one point, the kernel's run as the
  pipeline asks for it, and the region entered with the exchange's ghost state and left with the barrier's counter at zero.
-/
module

public import proofs.«01_k».proof.Proof.Body
public import proofs.«01_k».proof.Proof.Gen.KernelIdeal.Regions
public import Idealize.ShloMosaic.Lib.Pipeline.ValueKit

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- What the kernel leaves in its result. -/
def result : S256x512.Idx → Elt F .f32 := k0_pay45 (stageC (V1 m))

/-- What the region leaves in the buffers it may change. -/
def left : Outs (F := F) := fun _ r c => Function.update (V1 m c) (Proc.devRef .tc main_v18) (result m) (Proc.devRef .tc r)

theorem V2_eq (c : Dev nD) : V2 m (left m) c = Function.update (V1 m c) (Proc.devRef .tc main_v18) (result m) := by
  have h18 : left m 2 main_v18 c = result m := Function.update_self _ _ _
  have h5 : left m 2 main_v5 c = V1 m c main_v5 := Function.update_of_ne (StableHlo.devRef_ne_of_ne (by decide)) _ _
  funext b
  unfold V2
  rw [h18, h5]
  by_cases hb : b = Proc.devRef .tc main_v5
  · subst hb
    rw [Function.update_self, Function.update_of_ne (StableHlo.devRef_ne_of_ne (by decide))]
  · rw [Function.update_of_ne hb]
theorem V2_result (c : Dev nD) : V2 m (left m) c main_v18 = result m := by rw [V2_eq]; exact Function.update_self _ _ _
theorem V2_other (c : Dev nD) (b : DevRef τ sig) (h : b ≠ Proc.devRef .tc main_v18) : V2 m (left m) c b = V1 m c b := by
  rw [V2_eq]; exact Function.update_of_ne h _ _

/-! ## The proof data -/

/-- Before the kernel's point, the scratch buffers and the register aside; after it. -/
def before (c : Dev nD) : sProp 𝕄 := iprop((∃ K, opened (V1 m) K c) ∗ creds c ∗ levAts L lv ∗ operands (V1 m) c)
def after (c : Dev nD) : sProp 𝕄 :=
  iprop((semVal (barCell c) 0 ∗ bigSep Finset.univ fun k : Own => semVal (dcell c (osem k)) 0) ∗ operands (V1 m) c)

def dat (c : Dev nD) : Dat τ (Elt F) Unit ℕ UU ℕ cfg0 c where
  A w := V1 m c (Proc.devRef .tc (Pipeline.arrRef spec0 w))
  after w _ := match w with
    | ⟨0, _⟩ => V1 m c main_v11
    | ⟨1, _⟩ => V1 m c main_v17
    | ⟨2, _⟩ => result m
    | ⟨_ + 3, h⟩ => absurd h (Nat.not_lt.2 (Nat.le_add_left _ _))
  Φ t := if t.val = 0 then iprop(before m c ∗ scratch c ∗ ∃ r, prngReg c r) else iprop(after m c ∗ scratch c ∗ ∃ r, prngReg c r)
  q _ := fullShare
  owed t := if t.val = 0 then O₀ c else 0

def dats : (p : Fin 1) → (c : Dev nD) → Dat τ (Elt F) Unit ℕ UU ℕ (cfgs p) c := fun _ => dat m

theorem inv_first (c : Dev nD) : (dat m c).Φ t0_0.castSucc = iprop(before m c ∗ scratch c ∗ ∃ r, prngReg c r) := rfl
theorem inv_last (c : Dev nD) : (dat m c).Φ t0_0.succ = iprop(after m c ∗ scratch c ∗ ∃ r, prngReg c r) := rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (by decide)
theorem share_full (c : Dev nD) (w : Fin cfg0.W) : (dat m c).share w = fullShare := by unfold Dat.share; split <;> rfl

theorem owes_in (c : Dev nD) (t : Fin (cfg0.N + 1)) (O : CellTallies nD τ sig Unit) (h : (dat m c).owed t = O) :
    owing c O ⊢ ((dat m c).owesAt () t : sProp 𝕄) := by
  unfold Dat.owesAt Pipeline.owesWithin Dat.bound
  rw [h]
  iintro ⟨%W, HO⟩
  iexists W
  isplitr
  · ipureintro; exact fun _ _ => Or.inl trivial
  iexact HO
theorem owes_out (c : Dev nD) (t : Fin (cfg0.N + 1)) (O : CellTallies nD τ sig Unit) (h : (dat m c).owed t = O) :
    ((dat m c).owesAt () t : sProp 𝕄) ⊢ owing c O := by
  unfold Dat.owesAt Pipeline.owesWithin
  rw [h]
  iintro ⟨%W, -, HO⟩
  iexists W
  iexact HO

/-! ## The kernel's run as the pipeline asks for it -/

theorem whole_pt (c : Dev nD) (b : Ref sig .tc) (f : b.ty.Contents (Elt F)) :
    (wholePt c b f : sProp 𝕄) = (((c : Thread nD τ).loc b) ↦{fullShare} f) := by
  unfold wholePt; simp only [Memref.view_whole, View.set_whole]
theorem owns_pt (c : Dev nD) (b : Ref sig .tc) (f : b.ty.Contents (Elt F)) :
    (owns (c : Thread nD τ) (Memref.whole b) fullShare f : sProp 𝕄) = wholePt c b f := by rw [whole_pt]; exact owns_whole (c : Thread nD τ) b fullShare f

theorem index_k : ∀ (t : Fin grid0.N) (k : Fin 2), win0_0.index t k = 0 := by decide +kernel
theorem index_v : ∀ (t : Fin grid0.N) (k : Fin 2), win0_1.index t k = 0 := by decide +kernel
theorem index_o : ∀ (t : Fin grid0.N) (k : Fin 2), win0_2.index t k = 0 := by decide +kernel

theorem fetched_k (c : Dev nD) (d) : (dat m c).before (0 : Fin 3) t0_0 d = V1 m c main_v11 := by
  unfold Dat.before
  rw [if_pos (fetch0_0 t0_0)]
  show (fun y => V1 m c main_v11 (((cfg0.win 0).blk t0_0).view.emb y)) = _
  funext y
  blk_ext <;> rw [index_k, Nat.zero_mul, Nat.zero_add]
theorem fetched_v (c : Dev nD) (d) : (dat m c).before (1 : Fin 3) t0_0 d = V1 m c main_v17 := by
  unfold Dat.before
  rw [if_pos (fetch0_1 t0_0)]
  show (fun y => V1 m c main_v17 (((cfg0.win 1).blk t0_0).view.emb y)) = _
  funext y
  blk_ext <;> rw [index_v, Nat.zero_mul, Nat.zero_add]
theorem after_result (c : Dev nD) (t : Fin cfg0.N) : (dat m c).after (2 : Fin 3) t = result m := rfl

theorem written (c : Dev nD) : (dat m c).arrAt (2 : Fin 3) cfg0.N = result m := by
  refine (dat m c).arrAt_eq_of_covers 2 _ (by decide +kernel) fun t hf y => ?_
  blk_simp
  rw [after_result]
  blk_ext <;> rw [index_o, Nat.zero_mul, Nat.zero_add]

/-- The pipeline's obligation at the point, its windows one by one. -/
def pre (c : Dev nD) : sProp 𝕄 :=
  iprop((dat m c).Φ t0_0.castSucc ∗ (dat m c).owesAt () t0_0.castSucc
    ∗ (∃ d, owns (c : Thread nD τ) (Memref.whole cc0_stg0_0) fullShare ((dat m c).before (0 : Fin 3) t0_0 d))
    ∗ (∃ d, owns (c : Thread nD τ) (Memref.whole cc0_stg1_0) fullShare ((dat m c).before (1 : Fin 3) t0_0 d))
    ∗ (∃ d, owns (c : Thread nD τ) (Memref.whole cc0_stg2_0) fullShare ((dat m c).before (2 : Fin 3) t0_0 d)))
def post (c : Dev nD) : sProp 𝕄 :=
  iprop((dat m c).Φ t0_0.succ ∗ (dat m c).owesAt () t0_0.succ
    ∗ owns (c : Thread nD τ) (Memref.whole cc0_stg0_0) fullShare (V1 m c main_v11)
    ∗ owns (c : Thread nD τ) (Memref.whole cc0_stg1_0) fullShare (V1 m c main_v17)
    ∗ owns (c : Thread nD τ) (Memref.whole cc0_stg2_0) fullShare (result m))

theorem kernel_run (c : Dev nD) : pre m c ⊢ run c (bodySeq kS vS oS) fun _ => post m c := by
  unfold pre post
  rw [inv_first, inv_last, owns_pt, owns_pt, owns_pt]
  unfold before after
  iintro ⟨⟨⟨⟨%K, Hg⟩, Hc, Hl, Hop⟩, Hs, Hp⟩, HO, ⟨%d0, H0⟩, ⟨%d1, H1⟩, ⟨%d2, H2⟩⟩
  ihave HO := (owes_out m c t0_0.castSucc (O₀ c) (owed_first m c)) $$ HO
  ihave H0 := (Entails.of_eq (congrArg (fun X => owns (c : Thread nD τ) (Memref.whole cc0_stg0_0) fullShare X) (fetched_k m c d0))) $$ H0
  ihave H0 := (Entails.of_eq (owns_pt c cc0_stg0_0 _)) $$ H0
  ihave H1 := (Entails.of_eq (congrArg (fun X => owns (c : Thread nD τ) (Memref.whole cc0_stg1_0) fullShare X) (fetched_v m c d1))) $$ H1
  ihave H1 := (Entails.of_eq (owns_pt c cc0_stg1_0 _)) $$ H1
  ihave H2 := (Entails.of_eq (owns_pt c cc0_stg2_0 _)) $$ H2
  iapply (body_run (V1 m) K c fun _ => _)
  isplitr [Hp]
  · unfold bodyPre staged
    isplitl [Hg]; · iexact Hg
    isplitl [Hc]; · iexact Hc
    isplitl [Hl]; · iexact Hl
    isplitl [HO]; · iexact HO
    isplitl [Hop]; · iexact Hop
    isplitl [H0 H1]
    · isplitl [H0]; · iexact H0
      iexact H1
    isplitl [H2]; · iexists _; iexact H2
    iexact Hs
  unfold bodyPost staged
  iintro ⟨Hsem, HO, Hop, ⟨H0, H1⟩, H2, Hs⟩
  isplitl [Hsem Hop Hs Hp]
  · isplitl [Hsem Hop]
    · isplitl [Hsem]; · iexact Hsem
      iexact Hop
    isplitl [Hs]; · iexact Hs
    iexact Hp
  isplitl [HO]
  · iapply (owes_in m c t0_0.succ 0 (owed_last m c)); iexact HO
  isplitl [H0]; · iexact H0
  isplitl [H1]; · iexact H1
  iexact H2

-- the printed body, on its staging buffers, is met under the pipeline's table
set_option maxRecDepth 100000 in
theorem kernel_obligation (c : Dev nD) : BodyObligation (dat m c) (defs₀ (F := F)) 𝒱₀ () Set.univ := fun t => by
  obtain rfl := fin_N0 t
  rw [bigSep_W0, bigSep_W0]
  refine (kernel_run m c).trans ?_
  rw [← body_eq kS (Memref.isWhole_whole _) vS (Memref.isWhole_whole _) oS (Memref.isWhole_whole _)]
  exact .rfl

/-! ## The region -/

/-- The buffers the kernel copies from itself; the unscoped buffers that are no window's. -/
abbrev opList : List (DevRef τ sig) := [Proc.devRef .tc main_v5, Proc.devRef .tc main_arg1, Proc.devRef .tc main_arg2]
abbrev opBufs : Finset (DevRef τ sig) := opList.toFinset
abbrev winBufs : Finset (DevRef τ sig) := Pipeline.arrRefs spec0
abbrev restBufs : Finset (DevRef τ sig) := Pipeline.ucRefs τ sig \ winBufs

theorem opBufs_sub : opBufs ⊆ restBufs := by decide +kernel
theorem result_window : (Proc.devRef .tc main_v18 : DevRef τ sig) ∈ winBufs := by decide +kernel
theorem winBufs_sub : winBufs ⊆ Pipeline.ucRefs τ sig := Pipeline.arrRefs_sub_ucRefs spec0 winFacts0.arr_unscoped

theorem held_ops (c : Dev nD) (W : Valuation τ sig (Elt F)) : (StableHlo.held (c : Thread nD τ) opBufs W : sProp 𝕄)
    = iprop(wholePt c main_v5 (W main_v5) ∗ wholePt c main_arg1 (W main_arg1) ∗ wholePt c main_arg2 (W main_arg2)) := by
  rw [whole_pt, whole_pt, whole_pt]
  unfold StableHlo.held
  rw [bigSep_eq_bigSepL_of_eq opList (by decide) (by decide)]
  rfl
theorem held_operands (c : Dev nD) : (StableHlo.held (c : Thread nD τ) opBufs (V1 m c) : sProp 𝕄) = operands (V1 m) c := held_ops c _
theorem held_operands' (c : Dev nD) : (StableHlo.held (c : Thread nD τ) opBufs (V2 m (left m) c) : sProp 𝕄) = operands (V1 m) c := by
  rw [held_ops, V2_other m c _ (StableHlo.devRef_ne_of_ne (by decide)), V2_other m c _ (StableHlo.devRef_ne_of_ne (by decide)),
    V2_other m c _ (StableHlo.devRef_ne_of_ne (by decide))]
  rfl

theorem scratch_eq (c : Dev nD) : (Pipeline.scopedRest spec0 c : sProp 𝕄) = scratch c := by
  rw [scopedRest0_eq]
  unfold scratch
  simp only [whole_pt]

abbrev ownSem (k : Own) : SemLoc sig := .dma (osem k)
theorem ownFacts : Pipeline.OwnSemFacts spec0 ownSem where
  isScoped := by decide +kernel
  inj := fun a b h => osem_inj (SemLoc.dma.inj h)
  disj := by decide +kernel

def Tk (c : Dev nD) : sProp 𝕄 := iprop((∃ K, ghost (V1 m) K c) ∗ creds c)
def Xk (c : Dev nD) : sProp 𝕄 := iprop((∃ K, opened (V1 m) K c) ∗ creds c ∗ levAts L lv)
def Yk (c : Dev nD) : sProp 𝕄 := semVal (barCell c) 0

/-- The scoped cells opened. -/
theorem own_open (K : GSem nD τ sig → ℕ) (c : Dev nD) :
    iprop(invs (V1 m) K ∗ (bigSep Finset.univ fun k : Own => openTok ER (dcell c (osem k))) ∗ bigSep Finset.univ fun k : Own => semVal (dcell c (osem k)) 0)
      ⊢ (|={Set.univ}=> iprop((bigSep Finset.univ fun k : Own => atPos ER (dcell c (osem k)) 0 ∅ 0) ∗ ownReached c) : sProp 𝕄) := by
  unfold ownReached
  rw [← BI.bigSep_sep', ← BI.bigSep_sep' (Φ := fun k : Own => atPos ER (dcell c (osem k)) 0 ∅ 0)]
  refine (BI.bigSep_with_persistent (fun k _ => ?_)).trans (BI.bigSep_fupd _ _)
  iintro ⟨#HI, HT, HS⟩
  ihave #H1 := (inv_own (V1 m) K c k) $$ HI
  iapply (Rounds.cell_open ER (sched (V1 m)) (g := dcell c (osem k)) (Set.mem_univ (K (dcell c (osem k)))))
  isplitr; · iexact H1
  isplitl [HT]; · iexact HT
  iexact HS

theorem hopen (c : Dev nD) : iprop(Tk m c ∗ Pipeline.ownSems0 ownSem c ∗ levAts L lv) ⊢ (|={Set.univ}=> Xk m c : sProp 𝕄) := by
  unfold Tk Xk ghost opened Pipeline.ownSems0
  iintro ⟨⟨⟨%K, #HI, #HB, HA, Ho, Ht⟩, Hc⟩, Hs, Hl⟩
  imod (own_open m K c) $$ [Ho Hs] with ⟨Hat, Hr⟩
  · isplitr; · iexact HI
    isplitl [Ho]; · iexact Ho
    iexact Hs
  imodintro
  isplitl [HA Ht Hat Hr]
  · iexists K
    isplitr; · iexact HI
    isplitr; · iexact HB
    isplitl [Hr]; · iexact Hr
    isplitl [HA]; · iexact HA
    isplitl [Hat]; · iexact Hat
    iexact Ht
  isplitl [Hc]; · iexact Hc
  iexact Hl

theorem region_in (c : Dev nD) :
    iprop(Pipeline.scopedRest spec0 c ∗ (∃ r, prngReg c r) ∗ StableHlo.held (c : Thread nD τ) opBufs (V1 m c) ∗ Xk m c) ⊢ (dat m c).Φ t0_0.castSucc := by
  rw [inv_first, scratch_eq, held_operands]
  unfold before Xk
  iintro ⟨Hs, Hp, Hop, Hg, Hc, Hl⟩
  isplitl [Hop Hg Hc Hl]
  · isplitl [Hg]; · iexact Hg
    isplitl [Hc]; · iexact Hc
    isplitl [Hl]; · iexact Hl
    iexact Hop
  isplitl [Hs]; · iexact Hs
  iexact Hp

theorem region_out (c : Dev nD) : (dat m c).Φ t0_0.succ
    ⊢ iprop(Pipeline.scopedRest spec0 c ∗ (∃ r, prngReg c r) ∗ StableHlo.held (c : Thread nD τ) opBufs (V2 m (left m) c)
      ∗ Pipeline.ownSems0 ownSem c ∗ Yk (F := F) c) := by
  rw [inv_last, scratch_eq, held_operands']
  unfold after Yk Pipeline.ownSems0
  iintro ⟨⟨⟨Hb, Ho⟩, Hop⟩, Hs, Hp⟩
  isplitl [Hs]; · iexact Hs
  isplitl [Hp]; · iexact Hp
  isplitl [Hop]; · iexact Hop
  isplitl [Ho]; · iexact Ho
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem last_point : (Fin.last cfg0.N : Fin (cfg0.N + 1)) = t0_0.succ := by decide
theorem arrays_in (c : Dev nD) (w : Fin 3) : (dat m c).arrAt w 0 = V1 m c (Proc.devRef .tc (Pipeline.arrRef spec0 w)) := rfl
theorem arrays_out (c : Dev nD) : ∀ w : Fin 3, (dat m c).arrAt w cfg0.N = V2 m (left m) c (Proc.devRef .tc (Pipeline.arrRef spec0 w))
  | ⟨0, _⟩ => ((dat m c).arrAt_in (0 : Fin 3) rfl _).trans (V2_other m c (Proc.devRef .tc main_v11) (StableHlo.devRef_ne_of_ne (by decide))).symm
  | ⟨1, _⟩ => ((dat m c).arrAt_in (1 : Fin 3) rfl _).trans (V2_other m c (Proc.devRef .tc main_v17) (StableHlo.devRef_ne_of_ne (by decide))).symm
  | ⟨2, _⟩ => (written m c).trans (V2_result m c).symm
  | ⟨_ + 3, h⟩ => absurd h (Nat.not_lt.2 (Nat.le_add_left _ _))

theorem stage_level : ∀ (w : Fin 3) (s : Fin (win0 w).nbuf), level (role (.dma ((win0 w).sem s))) = 0 := by decide +kernel
theorem owed_above (c : Dev nD) (t : Fin (cfg0.N + 1)) : Above 0 ((dat m c).owed t) := by
  show Above 0 (if t.val = 0 then O₀ c else 0)
  split
  · exact above_O₀ c
  · exact above_zero 0

-- The types of the pipeline's tables agree only after their definitions are unfolded.
set_option backward.isDefEq.respectTransparency.types false in
def region : Pipeline.RegionSeg (pcfgs (F := F)) adm (dats m) () defs₀ 𝒱₀ L lv 0 :=
  Pipeline.RegionSeg.ofTalk (pcfgs (F := F)) adm (dats m) () defs₀ 𝒱₀ L lv 0 ownSem ownFacts
    opBufs restBufs opBufs_sub kit rfl (fun c => (kernel_obligation m c).loose)
    (fun _ => 0) O₀ (fun c => (owed_first m c).trans (zero_add _).symm) (fun c => (congrArg (dat m c).owed last_point).trans (owed_last m c))
    (fun _ => rfl) (share_full m) (V1 m) (V2 m (left m))
    (fun c b hb => V2_other m c b fun e => (Finset.mem_sdiff.mp (Finset.mem_sdiff.mp hb).1).2 (e ▸ result_window))
    (Tk m) Yk (Xk m) Yk (hopen m) (region_in m) (fun c => (Entails.of_eq (congrArg (dat m c).Φ last_point)).trans (region_out m c))
    (fun c => by iintro H; imodintro; iexact H)
    (fun _ => 0)
    ⟨fun c w s => by rw [L_tc]; exact Finset.mem_singleton_self _, fun c w s => le_of_eq (stage_level w s), fun c t g i h => owed_above m c t g i h⟩
    (fun _ => iprop(emp))
    (arrays_in m) (arrays_out m)

/-- What rides beside the buffers before the region, and after it. -/
def beside : Fin 2 → Dev nD → sProp 𝕄
  | 0, c => iprop(Tk m c ∗ (∃ r, prngReg c r) ∗ owing c (O₀ c))
  | 1, c => iprop(semVal (barCell c) 0 ∗ owing c 0)

theorem held_windows (c : Dev nD) (W : Valuation τ sig (Elt F)) : (StableHlo.held (c : Thread nD τ) (Pipeline.ucRefs τ sig) W : sProp 𝕄)
    = iprop(StableHlo.held (c : Thread nD τ) winBufs W ∗ StableHlo.held (c : Thread nD τ) restBufs W) :=
  StableHlo.held_sub_split (c : Thread nD τ) winBufs_sub W

theorem region_pre (c : Dev nD) : iprop(StableHlo.held (c : Thread nD τ) (Pipeline.ucRefs τ sig) (V1 m c) ∗ beside m 0 c) ⊢ (region m).pre c := by
  show _ ⊢ iprop(StableHlo.held (c : Thread nD τ) winBufs (V1 m c) ∗ (∃ r, prngReg c r)
    ∗ (StableHlo.held (c : Thread nD τ) restBufs (V1 m c) ∗ emp) ∗ Tk m c ∗ ∃ Wd, owes (c : Thread nD τ) (0 + O₀ c) Wd)
  rw [held_windows, zero_add]
  show iprop(_ ∗ (Tk m c ∗ (∃ r, prngReg c r) ∗ owing c (O₀ c))) ⊢ _
  iintro ⟨⟨Hw, Hr⟩, HT, Hp, HO⟩
  isplitl [Hw]; · iexact Hw
  isplitl [Hp]; · iexact Hp
  isplitl [Hr]
  · isplitl [Hr]; · iexact Hr
    iempintro
  isplitl [HT]; · iexact HT
  iexact HO

theorem region_post (c : Dev nD) : (region m).post c ⊢ iprop(StableHlo.held (c : Thread nD τ) (Pipeline.ucRefs τ sig) (V2 m (left m) c) ∗ beside m 1 c) := by
  show iprop(StableHlo.held (c : Thread nD τ) winBufs (V2 m (left m) c) ∗ (∃ r, prngReg c r)
    ∗ (StableHlo.held (c : Thread nD τ) restBufs (V2 m (left m) c) ∗ emp) ∗ semVal (barCell c) 0 ∗ ∃ Wd, owes (c : Thread nD τ) (0 : CellTallies nD τ sig Unit) Wd)
    ⊢ iprop(_ ∗ (semVal (barCell c) 0 ∗ owing c 0))
  rw [held_windows]
  iintro ⟨Hw, -, ⟨Hr, -⟩, Hb, HO⟩
  isplitl [Hw Hr]
  · isplitl [Hw]; · iexact Hw
    iexact Hr
  isplitl [Hb]; · iexact Hb
  iexact HO

end Cert.KernelIdeal.Exchange
-- ==== Proof.Launch.lean ====
/-
  The launch of the exchange and the whole program's run: every cell's invariant and token made at the launch, the tokens dealt to
  the devices that pay with them, the credits to the devices that wait; then the program's three items in order, its buffers read
  back at the end and every counter at zero.
-/
module

public import proofs.«01_k».proof.Proof.Region

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens, by the device that pays with them -/

/-- The payments of a device: to the barriers, of the scatter's and the gather's arrivals and departures, of the two local copies,
    of the operands' copies. -/
abbrev Pays : Type := Fin 31 ⊕ Fin 31 ⊕ Fin 31 ⊕ Fin 31 ⊕ Fin 31 ⊕ Fin 2 ⊕ Fin 3
def payee (c : Dev nD) : Pays → GSem nD τ sig × ℕ × Fin 32 :=
  Sum.elim (fun i => (barCell (peer c i), 0, c)) <| Sum.elim (fun i => (dcell (peer c i) (rsR c), 0, 0)) <|
    Sum.elim (fun i => (dcell (peer c i) (agR c), 0, 0)) <| Sum.elim (fun i => (dcell c (rsS i.succ), 0, 0)) <|
    Sum.elim (fun i => (dcell c (agS i.succ), 0, 0)) <| Sum.elim (fun r => (dcell c locS, r.val, 0)) fun k => (dcell c (ldS k), 0, 0)

/-- A payment's cell by its device and its role. -/
def kind (x : GSem nD τ sig × ℕ × Fin 32) : Dev nD × Role × ℕ × Fin 32 := (x.1.1.1, role x.1.2, x.2.1, x.2.2)
def kindOf (c : Dev nD) : Pays → Dev nD × Role × ℕ × Fin 32 :=
  Sum.elim (fun i => (peer c i, .bar, 0, c)) <| Sum.elim (fun i => (peer c i, .rsR c, 0, 0)) <|
    Sum.elim (fun i => (peer c i, .agR c, 0, 0)) <| Sum.elim (fun i => (c, .rsS i.succ, 0, 0)) <|
    Sum.elim (fun i => (c, .agS i.succ, 0, 0)) <| Sum.elim (fun r => (c, .loc, r.val, 0)) fun k => (c, .ld k, 0, 0)
theorem kind_payee (c : Dev nD) (k : Pays) : kind (payee c k) = kindOf c k := by
  rcases k with i | i | i | i | i | r | k
  · exact Prod.ext rfl (Prod.ext role_bar rfl)
  · exact Prod.ext rfl (Prod.ext (role_rsR c) rfl)
  · exact Prod.ext rfl (Prod.ext (role_agR c) rfl)
  · exact Prod.ext rfl (Prod.ext (role_rsS i.succ) rfl)
  · exact Prod.ext rfl (Prod.ext (role_agS i.succ) rfl)
  · exact Prod.ext rfl (Prod.ext role_loc rfl)
  · exact Prod.ext rfl (Prod.ext (role_ld k) rfl)

theorem kindOf_inj : Function.Injective fun x : Dev nD × Pays => kindOf x.1 x.2 := by
  rintro ⟨c, k⟩ ⟨c', k'⟩ h
  rcases k with i | i | i | i | i | r | k <;> rcases k' with i' | i' | i' | i' | i' | r' | k' <;>
    simp only [kindOf, Sum.elim_inl, Sum.elim_inr, Prod.mk.injEq, reduceCtorEq, false_and, and_false, Role.rsR.injEq, Role.agR.injEq,
      Role.rsS.injEq, Role.agS.injEq, Role.ld.injEq, Fin.succ_inj] at h
  · obtain ⟨h, -, -, rfl⟩ := h; rw [peer_inj c h]
  · obtain ⟨h, rfl, -⟩ := h; rw [peer_inj c h]
  · obtain ⟨h, rfl, -⟩ := h; rw [peer_inj c h]
  · obtain ⟨rfl, rfl, -⟩ := h; rfl
  · obtain ⟨rfl, rfl, -⟩ := h; rfl
  · obtain ⟨rfl, -, h, -⟩ := h; rw [Fin.ext h]
  · obtain ⟨rfl, rfl, -⟩ := h; rfl

/-- Every token. -/
def allToks : Finset (GSem nD τ sig × ℕ × Fin 32) :=
  Finset.univ.map ⟨fun x : Dev nD × Pays => payee x.1 x.2, fun x y h =>
    kindOf_inj (by show kindOf x.1 x.2 = kindOf y.1 y.2; rw [← kind_payee, ← kind_payee]; exact congrArg kind h)⟩

theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  unfold toks
  rw [BI.bigSep_univ_sum, BI.bigSep_univ_sum, BI.bigSep_univ_sum, BI.bigSep_univ_sum, BI.bigSep_univ_sum, BI.bigSep_univ_sum, BI.bigSep_fin_two]
  rfl

/-! ## The cells -/

theorem reg_ne_dma (r : Sem sig) (d : DmaSem sig) : (SemLoc.reg r : SemLoc sig) ≠ .dma d := nofun

theorem cells_disjoint : Disjoint barCells ownCells := by
  rw [Finset.disjoint_left]
  intro g h h'
  obtain ⟨c, -, rfl⟩ := Finset.mem_map.mp h
  obtain ⟨x, -, e⟩ := Finset.mem_map.mp h'
  exact reg_ne_dma _ _ (congrArg (fun g : GSem nD τ sig => g.2) e).symm

/-- The launch's element: the pipeline library's part and the exchange's. -/
def u₀ : UU :=
  (initOf (Pipeline.cells cfgs cellOf_inj) (Pipeline.launchToks cfgs cellOf_inj), launchOf barCells ownCells allToks)

/-- All of a resource, kept on the device 0 until every device's share is made. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Φ := parked X) (Ψ := fun _ => (BI.emp : sProp 𝕄))
    fun c hc => if_neg (Finset.ne_of_mem_erase hc), BI.bigSep_emp_const]
  exact BI.equiv_iff.mp sep_emp
abbrev G : Dev nD → sProp 𝕄 := parked (BI.own (ER (launchOf barCells ownCells allToks)))

theorem launch_split : (ownU u₀ : sProp 𝕄)
    ⊢ |={Set.univ}=> iprop(BI.own (EP (initOf (Pipeline.cells cfgs cellOf_inj) (Pipeline.launchToks cfgs cellOf_inj))) ∗ bigSep Finset.univ G) := by
  rw [bigSep_parked]
  unfold u₀
  iintro Hu
  ihave H := (ownU_pair _ _) $$ Hu
  icases H with ⟨HP, HX⟩
  imodintro
  isplitl [HP]; · iexact HP
  iexact HX

/-! ## The credits -/

theorem exists_peer (c d : Dev nD) (h : d ≠ c) : ∃ i, peer d i = c := by
  have hc : c ∈ (Finset.univ.erase d : Finset (Dev nD)) := Finset.mem_erase.mpr ⟨h.symm, Finset.mem_univ c⟩
  rw [erase_eq_map d] at hc
  obtain ⟨i, -, e⟩ := Finset.mem_map.mp hc
  exact ⟨i, e⟩
/-- `c` is one peer of each other device. -/
theorem count_peer (c d : Dev nD) (k : ℕ) : (∑ i : Fin 31, if peer d i = c then k else 0) = if d = c then 0 else k := by
  by_cases h : d = c
  · subst h
    rw [if_pos rfl]
    exact Finset.sum_eq_zero fun i _ => if_neg (peer_ne d i)
  · obtain ⟨i, hi⟩ := exists_peer c d h
    rw [if_neg h, Finset.sum_eq_single i (fun j _ hj => if_neg fun e => hj (peer_inj d (e.trans hi.symm))) (fun h => absurd (Finset.mem_univ i) h), if_pos hi]

theorem dcell_inj {c d : Dev nD} {a b : DmaSem sig} (h : dcell c a = dcell d b) : c = d ∧ a = b :=
  ⟨congrArg (fun g : GSem nD τ sig => g.1.1) h, by have := congrArg (fun g : GSem nD τ sig => g.2) h; exact SemLoc.dma.inj this⟩

theorem sum_apply (O : Fin 31 → CellTallies nD τ sig Unit) (g : GSem nD τ sig) : (∑ i ∈ rem 0, O i) g () = ∑ i, O i g () := by
  rw [rem_zero, Finset.sum_apply, Finsupp.finsetSum_apply]

theorem ne_bar (d c : Dev nD) (a : DmaSem sig) : barCell c ≠ dcell d a := fun h => reg_ne_dma _ _ (congrArg (fun g : GSem nD τ sig => g.2) h)

theorem owed_bar (d c : Dev nD) : O₀ d (barCell c) () = if d = c then 0 else 1 := by
  have e0 (i : Fin 31) : tallyAt (barCell (peer d i)) () 1 (barCell c) () = if peer d i = c then 1 else 0 := by
    rw [tallyAt_apply]
    refine if_congr ⟨fun h => (congrArg (fun g : GSem nD τ sig => g.1.1) h.1).symm, fun h => ⟨by rw [h], rfl⟩⟩ rfl rfl
  have e1 : rsDue d 0 (barCell c) () = 0 := by
    unfold rsDue; rw [sum_apply]; exact Finset.sum_eq_zero fun i _ => by rw [tallyAt_ne_cell (ne_bar _ c _)]; rfl
  have e2 : agDue d 0 (barCell c) () = 0 := by
    unfold agDue; rw [sum_apply]; exact Finset.sum_eq_zero fun i _ => by rw [tallyAt_ne_cell (ne_bar _ c _)]; rfl
  unfold O₀
  rw [Pi.add_apply, Finsupp.add_apply, Pi.add_apply, Finsupp.add_apply, e1, e2]
  unfold barDue
  rw [sum_apply, Finset.sum_congr rfl fun i _ => e0 i, count_peer]
  exact Nat.add_zero _

theorem rsR_ne_agR (s t : Dev nD) : rsR s ≠ agR t := fun h => by
  have := congrArg (fun d => role (.dma d)) h
  rw [role_rsR, role_agR] at this
  exact Role.noConfusion this
theorem rsR_inj {s t : Dev nD} (h : rsR s = rsR t) : s = t := by
  have := congrArg (fun d => role (.dma d)) h
  rw [role_rsR, role_rsR] at this
  exact Role.rsR.inj this
theorem agR_inj {s t : Dev nD} (h : agR s = agR t) : s = t := by
  have := congrArg (fun d => role (.dma d)) h
  rw [role_agR, role_agR] at this
  exact Role.agR.inj this

theorem owed_rs (d c s : Dev nD) (hs : s ≠ c) : O₀ d (dcell c (rsR s)) () = if d = s then N else 0 := by
  have e0 : barDue d 0 (dcell c (rsR s)) () = 0 := by
    unfold barDue; rw [sum_apply]; exact Finset.sum_eq_zero fun i _ => by rw [tallyAt_ne_cell (ne_bar _ _ _).symm]; rfl
  have e2 : agDue d 0 (dcell c (rsR s)) () = 0 := by
    unfold agDue; rw [sum_apply]
    exact Finset.sum_eq_zero fun i _ => by rw [tallyAt_ne_cell fun h => rsR_ne_agR _ _ (dcell_inj h).2]; rfl
  have e1 (i : Fin 31) : tallyAt (dcell (peer d i) (rsR d)) () N (dcell c (rsR s)) () = if peer d i = c then (if d = s then N else 0) else 0 := by
    rw [tallyAt_apply]
    by_cases h : peer d i = c
    · rw [if_pos h]
      exact if_congr ⟨fun e => (rsR_inj (dcell_inj e.1).2).symm, fun e => ⟨by rw [h, e], rfl⟩⟩ rfl rfl
    · rw [if_neg h, if_neg fun e => h (dcell_inj e.1).1.symm]
  unfold O₀
  rw [Pi.add_apply, Finsupp.add_apply, Pi.add_apply, Finsupp.add_apply, e0, e2]
  unfold rsDue
  rw [sum_apply, Finset.sum_congr rfl fun i _ => e1 i, count_peer, Nat.zero_add, Nat.add_zero]
  by_cases h : d = c
  · rw [if_pos h, if_neg (h ▸ hs.symm)]
  · rw [if_neg h]
theorem owed_ag (d c s : Dev nD) (hs : s ≠ c) : O₀ d (dcell c (agR s)) () = if d = s then N else 0 := by
  have e0 : barDue d 0 (dcell c (agR s)) () = 0 := by
    unfold barDue; rw [sum_apply]; exact Finset.sum_eq_zero fun i _ => by rw [tallyAt_ne_cell (ne_bar _ _ _).symm]; rfl
  have e2 : rsDue d 0 (dcell c (agR s)) () = 0 := by
    unfold rsDue; rw [sum_apply]
    exact Finset.sum_eq_zero fun i _ => by rw [tallyAt_ne_cell fun h => rsR_ne_agR _ _ (dcell_inj h).2.symm]; rfl
  have e1 (i : Fin 31) : tallyAt (dcell (peer d i) (agR d)) () N (dcell c (agR s)) () = if peer d i = c then (if d = s then N else 0) else 0 := by
    rw [tallyAt_apply]
    by_cases h : peer d i = c
    · rw [if_pos h]
      exact if_congr ⟨fun e => (agR_inj (dcell_inj e.1).2).symm, fun e => ⟨by rw [h, e], rfl⟩⟩ rfl rfl
    · rw [if_neg h, if_neg fun e => h (dcell_inj e.1).1.symm]
  unfold O₀
  rw [Pi.add_apply, Finsupp.add_apply, Pi.add_apply, Finsupp.add_apply, e0, e2]
  unfold agDue
  rw [sum_apply, Finset.sum_congr rfl fun i _ => e1 i, count_peer, Nat.zero_add, Nat.zero_add]
  by_cases h : d = c
  · rw [if_pos h, if_neg (h ▸ hs.symm)]
  · rw [if_neg h]

theorem credit_at (g : GSem nD τ sig) (k : ℕ) (h : ∑ d : Dev nD, O₀ d g () = k) :
    tallyOn g (launchCredit (Pipeline.owing O₀) 0 g) = (tallyAt g () k : CellTallies nD τ sig Unit) := by
  unfold tallyAt
  refine congrArg _ (Finsupp.ext fun u => ?_)
  cases u
  rw [Pipeline.launchCredit_owing, Finsupp.single_eq_same, h]

theorem sum_bar (c : Dev nD) : ∑ d : Dev nD, O₀ d (barCell c) () = 31 := by
  rw [Finset.sum_congr rfl fun d _ => owed_bar d c]; revert c; decide
theorem sum_rs (c s : Dev nD) (hs : s ≠ c) : ∑ d : Dev nD, O₀ d (dcell c (rsR s)) () = N := by
  rw [Finset.sum_congr rfl fun d _ => owed_rs d c s hs, Finset.sum_ite_eq' Finset.univ s fun _ => N, if_pos (Finset.mem_univ s)]
theorem sum_ag (c s : Dev nD) (hs : s ≠ c) : ∑ d : Dev nD, O₀ d (dcell c (agR s)) () = N := by
  rw [Finset.sum_congr rfl fun d _ => owed_ag d c s hs, Finset.sum_ite_eq' Finset.univ s fun _ => N, if_pos (Finset.mem_univ s)]

/-- The semaphores whose credits a device waits on. -/
def waited (c : Dev nD) : Unit ⊕ Fin 31 ⊕ Fin 31 → SemLoc sig :=
  Sum.elim (fun _ => .reg barrier0) <| Sum.elim (fun i => .dma (rsR (peer c i))) fun i => .dma (agR (peer c i))
theorem waited_inj (c : Dev nD) : Function.Injective (waited c) := by
  intro k k' h
  have h := congrArg role h
  rcases k with u | i | i <;> rcases k' with u' | i' | i' <;>
    simp only [waited, Sum.elim_inl, Sum.elim_inr, role_bar, role_rsR, role_agR, reduceCtorEq, Role.rsR.injEq, Role.agR.injEq] at h
  · rfl
  · rw [peer_inj c h]
  · rw [peer_inj c h]

theorem creds_intro (c : Dev nD) : (Pipeline.launchCred O₀ c : sProp 𝕄) ⊢ creds c := by
  refine ?_
  have e : bigSep (Finset.univ.map ⟨waited c, waited_inj c⟩) (fun sm => (cred (tallyOn ((c : Thread nD τ), sm)
      (launchCredit (Pipeline.owing O₀) 0 ((c : Thread nD τ), sm))) : sProp 𝕄)) = creds c := ?_
  · rw [← e]
    exact BI.bigSep_subset (Finset.subset_univ _)
  rw [bigSep_map, BI.bigSep_univ_sum, BI.bigSep_univ_sum, bigSep_univ_of_subsingleton ()]
  unfold creds
  have h0 : tallyOn (barCell c) (launchCredit (Pipeline.owing O₀) 0 (barCell c)) = (tallyAt (barCell c) () 31 : CellTallies nD τ sig Unit) :=
    credit_at _ _ (sum_bar c)
  have h1 (i : Fin 31) : tallyOn (dcell c (rsR (peer c i))) (launchCredit (Pipeline.owing O₀) 0 (dcell c (rsR (peer c i))))
      = (tallyAt (dcell c (rsR (peer c i))) () N : CellTallies nD τ sig Unit) := credit_at _ _ (sum_rs c _ (peer_ne c i))
  have h2 (i : Fin 31) : tallyOn (dcell c (agR (peer c i))) (launchCredit (Pipeline.owing O₀) 0 (dcell c (agR (peer c i))))
      = (tallyAt (dcell c (agR (peer c i))) () N : CellTallies nD τ sig Unit) := credit_at _ _ (sum_ag c _ (peer_ne c i))
  rw [← h0, ← bigSep_congr (s := Finset.univ) fun i _ => congrArg (fun T => (cred T : sProp 𝕄)) (h1 i),
    ← bigSep_congr (s := Finset.univ) fun i _ => congrArg (fun T => (cred T : sProp 𝕄)) (h2 i)]
  rfl

/-! ## What the launch leaves each device -/

/-- The persistent part: every invariant, and every cell's first round reached. -/
def records (K : GSem nD τ sig → ℕ) : sProp 𝕄 := iprop(invs (V1 m) K ∗ bigSep barCells fun g => reached ER g 0)
instance (K : GSem nD τ sig → ℕ) : BI.Persistent (records m K) := by unfold records invs; infer_instance
/-- A device's own part of the ghost state. -/
def linear (c : Dev nD) : sProp 𝕄 :=
  iprop(atPos ER (barCell c) 0 ∅ 0 ∗ (bigSep Finset.univ fun k : Own => openTok ER (dcell c (osem k))) ∗ toks c)
/-- The rest of its launch state. -/
def bundle (c : Dev nD) : sProp 𝕄 :=
  iprop(StableHlo.held (c : Thread nD τ) (Pipeline.ucRefs τ sig) (V0 m c) ∗ creds c ∗ (∃ r, prngReg c r) ∗ owing c (O₀ c))
def start (c : Dev nD) : sProp 𝕄 := iprop(StableHlo.held (c : Thread nD τ) (Pipeline.ucRefs τ sig) (V0 m c) ∗ beside m 0 c)

theorem start_intro (K : GSem nD τ sig → ℕ) (c : Dev nD) : iprop(records m K ∗ linear c ∗ bundle m c) ⊢ start m c := by
  unfold records linear bundle start beside Tk ghost barsReached
  rw [show barCells = Finset.univ.map barEmb from rfl, bigSep_map]
  iintro ⟨⟨#Hi, #Hr⟩, ⟨Hat, Hop, Htk⟩, Hh, Hc, Hp, HO⟩
  isplitl [Hh]; · iexact Hh
  isplitr [Hp HO]
  · isplitr [Hc]
    · iexists K
      isplitr; · iexact Hi
      isplitr; · iexact Hr
      isplitl [Hat]; · iexact Hat
      isplitl [Hop]; · iexact Hop
      iexact Htk
    · iexact Hc
  · isplitl [Hp]; · iexact Hp
    iexact HO

theorem unscoped_eq : ∀ sm : SemLoc sig, sm.isScoped .tc = false → sm = .reg barrier0 := by
  rintro (r | d) h
  · revert r; decide
  · revert d; decide +kernel
theorem unscoped_filter : (Finset.univ.filter fun sm : SemLoc sig => ¬ sm.isScoped .tc = true) = {SemLoc.reg barrier0} := by
  ext sm
  rw [Finset.mem_filter, Finset.mem_singleton]
  refine ⟨fun h => unscoped_eq sm (by simpa using h.2), ?_⟩
  rintro rfl
  exact ⟨Finset.mem_univ _, by decide⟩

theorem core_intro (c : Dev nD) : iprop(unscopedBufs c (fun b => m ((c : Thread nD τ).loc b)) ∗ unscopedSems0 c
    ∗ owes (c : Thread nD τ) (O₀ c) ∅ ∗ Pipeline.launchCred O₀ c ∗ prngReg c (ρ c) ∗ G c) ⊢ iprop(bundle m c ∗ (semVal (barCell c) 0 ∗ G c)) := by
  have e0 : (unscopedSems0 c : sProp 𝕄) = semVal (barCell c) 0 := by
    unfold unscopedSems0; rw [unscoped_filter, bigSep_singleton]
  have e1 : (unscopedBufs c (fun b => m ((c : Thread nD τ).loc b)) : sProp 𝕄)
      = StableHlo.held (c : Thread nD τ) (Pipeline.ucRefs τ sig) (V0 m c) :=
    Pipeline.unscopedBufs_held c (V0 m c)
  rw [e0, e1]
  unfold bundle owing
  iintro ⟨Hh, Hv, HO, Hc, Hp, HG⟩
  isplitr [Hv HG]
  · isplitl [Hh]; · iexact Hh
    isplitl [Hc]; · iapply (creds_intro c) $$ Hc
    isplitl [Hp]; · iexists (ρ c); iexact Hp
    iexists ∅; iexact HO
  · isplitl [Hv] <;> iassumption

theorem zip {Φ Ψ : Dev nD → sProp 𝕄} : iprop(bigSep Finset.univ Φ ∗ bigSep Finset.univ Ψ) ⊢ bigSep Finset.univ fun c => iprop(Φ c ∗ Ψ c) :=
  Entails.of_eq (BI.bigSep_sep' _ _ _).symm
theorem unzip {Φ Ψ : Dev nD → sProp 𝕄} : bigSep Finset.univ (fun c => iprop(Φ c ∗ Ψ c)) ⊢ iprop(bigSep Finset.univ Φ ∗ bigSep Finset.univ Ψ) :=
  Entails.of_eq (BI.bigSep_sep' _ _ _)

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ |={Set.univ}=> (bigSep Finset.univ (start m) : sProp 𝕄) := by
  have hv : (bigSep Finset.univ fun c : Dev nD => (semVal (barCell c) 0 : sProp 𝕄)) ⊢ bigSep barCells fun g => semVal g 0 :=
    Entails.of_eq (by rw [show barCells = Finset.univ.map barEmb from rfl, bigSep_map]; rfl)
  have hat : (bigSep barCells fun g => (atPos ER g 0 ∅ 0 : sProp 𝕄)) ⊢ bigSep Finset.univ fun c : Dev nD => atPos ER (barCell c) 0 ∅ 0 :=
    Entails.of_eq (by rw [show barCells = Finset.univ.map barEmb from rfl, bigSep_map]; rfl)
  have hopn : (bigSep ownCells fun g => (openTok ER g : sProp 𝕄))
      ⊢ bigSep Finset.univ fun c : Dev nD => bigSep Finset.univ fun k : Own => openTok ER (dcell c (osem k)) :=
    Entails.of_eq (by rw [show ownCells = Finset.univ.map ownEmb from rfl, bigSep_map, bigSep_univ_prod]; rfl)
  iintro ⟨H, -⟩
  ihave H1 := (show (bigSep Finset.univ fun c : Dev nD => iprop(unscopedBufs c (fun b => m ((c : Thread nD τ).loc b))
      ∗ unscopedSems0 c ∗ owes (c : Thread nD τ) (O₀ c) ∅ ∗ Pipeline.launchCred O₀ c ∗ prngReg c (ρ c) ∗ G c))
    ⊢ (bigSep Finset.univ fun c : Dev nD => iprop(bundle m c ∗ (semVal (barCell c) 0 ∗ G c)) : sProp 𝕄) from bigSep_mono fun c _ => core_intro m ρ c) $$ H
  ihave H2 := unzip $$ H1; icases H2 with ⟨HB, H3⟩
  ihave H4 := unzip $$ H3; icases H4 with ⟨Hv, HG⟩
  ihave Hu := (show (bigSep Finset.univ G : sProp 𝕄) ⊢ BI.own (ER (launchOf barCells ownCells allToks)) from
    Entails.of_eq (bigSep_parked (F := F) (BI.own (ER (launchOf barCells ownCells allToks))))) $$ HG
  imod (Rounds.fund_launch ER (sched (V1 m)) cells_disjoint (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => start_intro m K c)
  isplitr
  · unfold records invs
    isplitr; · iexact Hinv
    iexact Hr
  iapply zip
  isplitr [HB]
  · unfold linear
    iapply zip; isplitl [Hat]; · iapply hat $$ Hat
    iapply zip; isplitl [Hopen]; · iapply hopn $$ Hopen
    iapply (Entails.of_eq (toks_eq (F := F))) $$ Htok
  · iexact HB

/-! ## The run -/

/-- What a device holds at the end. -/
def finish (c : Dev nD) : sProp 𝕄 :=
  iprop(StableHlo.held (c : Thread nD τ) (Pipeline.ucRefs τ sig) (V3 m (left m) c) ∗ semVal (barCell c) 0)
def Read (c : Dev nD) (s : MemSt nD τ sig (Elt F)) : Prop :=
  (∀ b ∈ Pipeline.ucRefs τ sig, s.mem ((c : Thread nD τ).1, b) = V3 m (left m) c b) ∧ s.sem (barCell c) = 0

theorem finish_read (c : Dev nD) (s' : Phys nD τ sig (Elt F)) : iprop(finish m c ∗ SI s') ⊢ |={Set.univ}=> (iprop(⌜Read m c s'.mem⌝ ∗ SI s') : sProp 𝕄) := by
  unfold finish StableHlo.held
  iintro ⟨⟨Hh, Hb⟩, HSI⟩
  icombine HSI Hb gives %hb
  ihave Hr := (pointsTo_read_all (Pipeline.ucRefs τ sig) (fun b => ((c : Thread nD τ).1, b)) (V3 m (left m) c) s') $$ [Hh HSI]
  · isplitl [Hh] <;> iassumption
  icases Hr with ⟨%h, HSI⟩
  imodintro
  isplitr
  · ipureintro
    exact ⟨h, by simpa using hb⟩
  · iexact HSI

-- The types of the pipeline's tables agree only after their definitions are unfolded.
set_option backward.isDefEq.respectTransparency.types false in
/-- From any memory with every counter at zero, every execution of the program ends, each device's buffers hold the last
    valuation, and every counter is back at zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = V3 m (left m) c b) ∧ r.2.sem = fun _ => 0) := by
  refine Pipeline.θ_run_regions_kit_dev_sems (pcfgs (F := F)) adm (dats m) () cellOf_inj EP defs₀ 𝒱₀ L lv m ρ main
    (segs m (left m) 𝒱₀ L lv (beside m) () (dats m) (region m))
    (fun c Q => by
      rewrite [main_chain c, Pipeline.Seg.run_eq_chain,
        show (segs m (left m) 𝒱₀ L lv (beside m) () (dats m) (region m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ (fun g h => if_neg h) G u₀ launch_split (T₀ := start m) (Tₙ := finish m)
    (hch := fun c => ⟨.rfl, region_pre m c, region_post m c, ?_⟩)
    (hinit := init m ρ) (QY := Read m) (hfin := finish_read m)
    (hQ := fun s h hs => ⟨fun c => (h c).1, sem_eq_zero hs fun c sm hsm => by
      obtain rfl := unscoped_eq sm hsm
      exact (h c).2⟩)
  show iprop(StableHlo.held (c : Thread nD τ) (Pipeline.ucRefs τ sig) (V3 m (left m) c) ∗ (semVal (barCell c) 0 ∗ owing c 0))
    ⊢ iprop(finish m c ∗ ∃ W, owes (c : Thread nD τ) (0 : CellTallies nD τ sig Unit) W)
  unfold finish owing
  iintro ⟨Hh, Hb, HO⟩
  isplitr [HO]
  · isplitl [Hh] <;> iassumption
  · iexact HO

/-- The buffers a claim names. -/
theorem mem_uc : Proc.devRef (τ := τ) .tc main_arg0 ∈ Pipeline.ucRefs τ sig ∧ Proc.devRef (τ := τ) .tc main_arg1 ∈ Pipeline.ucRefs τ sig
    ∧ Proc.devRef (τ := τ) .tc main_arg2 ∈ Pipeline.ucRefs τ sig ∧ Proc.devRef (τ := τ) .tc main_arg3 ∈ Pipeline.ucRefs τ sig
    ∧ Proc.devRef (τ := τ) .tc main_arg4 ∈ Pipeline.ucRefs τ sig ∧ Proc.devRef (τ := τ) .tc main_v19 ∈ Pipeline.ucRefs τ sig := by
  refine ⟨?_, ?_, ?_, ?_, ?_, ?_⟩ <;> exact Finset.mem_filter.mpr ⟨StableHlo.devRef_mem_tcRefs _, by decide⟩

/-- Every execution ends with each device's result the assembled rows reshaped, its arguments as they were, and every counter at zero. -/
theorem run_value : θ_run defs (onTc (τ := τ) (main (F := F))) ⟨m, fun _ => 0, ρ⟩
    (fun r => (∀ c : Dev nD, r.2.mem ((c.tc : Thread nD τ).loc main_v19) = V3 m (left m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  obtain ⟨u0, u1, u2, u3, u4, u5⟩ := mem_uc
  have h := h.1 c
  exact ⟨h _ u5, (h _ u0).trans (V3_main_arg0 m _ c), (h _ u1).trans (V3_main_arg1 m _ c), (h _ u2).trans (V3_main_arg2 m _ c),
    (h _ u3).trans (V3_main_arg3 m _ c), (h _ u4).trans (V3_main_arg4 m _ c)⟩

/-- The part of it the frames state. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_value m ρ)

end Cert.KernelIdeal.Exchange
-- ==== Proof.Attend.lean ====
/-
  One device's partial product at exact arithmetic. Each of the four blocks of the kernel's attention (batch by key head) holds, row
  by row, the attention of one query; side by side they are the attention of every local head, and the partial product
  is its matrix product with the device's rows of the output weights.
-/
module

public import proofs.«01_k».proof.Proof.Straight
public import Idealize.ShloMosaic.Lib.Pointwise

@[expose] public section

noncomputable section

namespace Cert.KernelIdeal.Exchange

open Idealize.ShloMosaic Idealize.ShloMosaic.TcCoe
open Cert.KernelIdeal.Gen

/-! ## The attention of one query -/

/-- An array of two axes read at natural numbers, zero outside the array. -/
def rd {n k : ℕ} (x : (⟨2, ![n, k]⟩ : Shape).Idx → EReal) (i j : ℕ) : EReal :=
  if h : i < n ∧ j < k then x (ix2 ⟨i, h.1⟩ ⟨j, h.2⟩) else 0

theorem eq_rd {n k : ℕ} (x : (⟨2, ![n, k]⟩ : Shape).Idx → EReal) (i : Fin n) (j : Fin k) : x (ix2 i j) = rd x i j := by
  rw [rd, dif_pos ⟨i.2, j.2⟩]
theorem rd_eq {n k : ℕ} (x : (⟨2, ![n, k]⟩ : Shape).Idx → EReal) {i j : ℕ} (hi : i < n) (hj : j < k) :
    rd x i j = x (ix2 ⟨i, hi⟩ ⟨j, hj⟩) := dif_pos ⟨hi, hj⟩

/-- The greatest of a row's scores. -/
def peak (s : Fin 128 → EReal) : EReal := Finset.univ.fold max (Ideal.ofBits .f32 0xFF800000#32) s
/-- One weight, before the division. -/
def weight (s : Fin 128 → EReal) (j : Fin 128) : EReal := Ideal.exp (s j - peak s)
/-- The attention of one query: the values weighted by the scores. -/
def attend (s v : Fin 128 → EReal) : EReal := Ideal.div (∑ j, weight s j * v j) (∑ j, weight s j)
/-- The scores of one query with every key. -/
def score (q : Fin 64 → EReal) (k : Fin 128 → Fin 64 → EReal) : Fin 128 → EReal :=
  fun j => (∑ e, q e * k j e) * Ideal.ofBits .f32 0x3E000000#32

/-! ## The kernel's blocks -/

section Blocks

variable {n r p : ℕ} (Q : (⟨2, ![n, r]⟩ : Shape).Idx → EReal) (K V : (⟨2, ![n, p]⟩ : Shape).Idx → EReal)

/-- The attention of all heads: row `i` is a batch and a position, column `x` a head and an element of it; four heads share a key head. -/
def attnAt (i x : ℕ) : EReal :=
  attend (score (fun e => rd Q i (64 * (x / 64) + e)) fun j e => rd K (128 * (i / 128) + j) (64 * (x / 256) + e))
    fun j => rd V (128 * (i / 128) + j) (64 * (x / 256) + x % 64)

variable (q : S256x512.Idx → EReal) (k v : S256x128.Idx → EReal)

/-- The block of batch `b` and key head `g`: row `a` is the block's query head `a / 128` at position `a % 128`. -/
def blockAt (b g a d : ℕ) : EReal :=
  attend (score (fun e => rd q (128 * b + a % 128) (256 * g + 64 * (a / 128) + e)) fun j e => rd k (128 * b + j) (64 * g + e))
    fun j => rd v (128 * b + j) (64 * g + d)

theorem blockAt_eq {b g a d i x : ℕ} (hb : b = i / 128) (ha : 128 * b + a % 128 = i) (hg : g = x / 256)
    (hh : 256 * g + 64 * (a / 128) = 64 * (x / 64)) (hd : d = x % 64) : blockAt q k v b g a d = attnAt q k v i x := by
  rw [blockAt, attnAt, ha, hh, hb, hg, hd]

/-- A row of a block is of the block's first, second, third or fourth head. -/
theorem head_cases {a : ℕ} (ha : a < 512) :
    a / 128 = 0 ∧ a % 128 = a ∧ a < 128 ∨ a / 128 = 1 ∧ a % 128 = a - 128 ∧ ¬ a < 128 ∧ a - 128 < 128 ∨
    a / 128 = 2 ∧ a % 128 = a - 128 - 128 ∧ ¬ a < 128 ∧ ¬ a - 128 < 128 ∧ a - 128 - 128 < 128 ∨
    a / 128 = 3 ∧ a % 128 = a - 128 - 128 - 128 ∧ ¬ a < 128 ∧ ¬ a - 128 < 128 ∧ ¬ a - 128 - 128 < 128 := by omega

/-- Four heads of one batch under each other: the rows from `r` on, the columns from `c0`, `c1`, `c2` and `c3` on. -/
def stacked (r c0 c1 c2 c3 : ℕ) (h0 : S256x512.Slices ![r, c0] S128x64) (h1 : S256x512.Slices ![r, c1] S128x64)
    (h2 : S256x512.Slices ![r, c2] S128x64) (h3 : S256x512.Slices ![r, c3] S128x64) : FVec Ideal S512x64 .bf16 :=
  concatenate S512x64 0 [⟨S128x64, extractStridedSlice S128x64 ![r, c0] q h0⟩, ⟨S128x64, extractStridedSlice S128x64 ![r, c1] q h1⟩,
    ⟨S128x64, extractStridedSlice S128x64 ![r, c2] q h2⟩, ⟨S128x64, extractStridedSlice S128x64 ![r, c3] q h3⟩]
    concatenates_S128x64_S128x64_S128x64_S128x64_S512x64_d0

theorem stacked_at (r c0 c1 c2 c3 : ℕ) (h0 h1 h2 h3) (e1 : c1 = c0 + 64) (e2 : c2 = c0 + 128) (e3 : c3 = c0 + 192)
    (a : Fin 512) (e : Fin 64) : stacked q r c0 c1 c2 c3 h0 h1 h2 h3 (ix2 a e) = rd q (r + a % 128) (c0 + 64 * (a / 128) + e) := by
  subst e1 e2 e3
  pointwise [stacked]
  simp only [eq_rd q]
  rcases head_cases a.2 with h | h | h | h
  all_goals simp only [h, ↓reduceDIte, Nat.reduceMul, mul_zero, add_zero]

/-- The 64 columns from `c` on of the 128 rows from `r` on, of the keys or of the values. -/
theorem piece_at (r c : ℕ) (h : S256x128.Slices ![r, c] S128x64) (a : Fin 128) (e : Fin 64) :
    extractStridedSlice S128x64 ![r, c] k h (ix2 a e) = rd k (r + a) (c + e) := by
  pointwise
  exact eq_rd k _ _

/-- The scores of a block's queries `A` with its keys `B`. -/
def scores (A : FVec Ideal S512x64 .bf16) (B : FVec Ideal S128x64 .bf16) : FVec Ideal S512x128 .f32 :=
  mulf (matmul dot_S512x64_S128x64_S512x128_1_1_0_0_n_n none A B (constant S512x128 .f32 0x00000000#32))
    (broadcast S512x128 (Scalar.ofBits .f32 0x3E000000#32))

theorem scores_at (A : FVec Ideal S512x64 .bf16) (B : FVec Ideal S128x64 .bf16) (a : Fin 512) (j : Fin 128) :
    scores A B (ix2 a j) = score (fun e => A (ix2 a e)) (fun j e => B (ix2 j e)) j := by pointwise [scores, score]

/-- The greatest score of each row, along the row. -/
def greatest (S : FVec Ideal S512x128 .f32) : FVec Ideal S512x128 .f32 :=
  broadcastTo S512x128 (shapeCast S512x1 (multiReduction .maximumf [1] S512 S 0xFF800000#32 reduces_S512x128_S512 (.inl rfl) rfl)
    shapeCasts_S512_S512x1) broadcasts_S512x1_S512x128

/-- A row of the weighted values is the attention of the row's scores. -/
theorem attention_at (S : FVec Ideal S512x128 .f32) (W : FVec Ideal S128x64 .bf16) (a : Fin 512) (d : Fin 64) :
    k0_pay10 (F := Ideal) W S (greatest S) (ix2 a d) = attend (fun j => S (ix2 a j)) fun j => W (ix2 j d) := by
  pointwise [k0_pay10, greatest, attend, weight, peak]

/-- A block at an index, from where its queries, keys and values lie. -/
theorem block_at (b g c1 c2 c3 r c0 c : ℕ) (h0 h1 h2 h3)
    (h : S256x128.Slices ![r, c] S128x64) (e1 : c1 = c0 + 64) (e2 : c2 = c0 + 128) (e3 : c3 = c0 + 192)
    (hr : r = 128 * b) (hc0 : c0 = 256 * g) (hc : c = 64 * g) (a : Fin 512) (d : Fin 64) :
    k0_pay10 (F := Ideal) (extractStridedSlice S128x64 ![r, c] v h)
        (scores (stacked q r c0 c1 c2 c3 h0 h1 h2 h3) (extractStridedSlice S128x64 ![r, c] k h))
        (greatest (scores (stacked q r c0 c1 c2 c3 h0 h1 h2 h3) (extractStridedSlice S128x64 ![r, c] k h))) (ix2 a d)
      = blockAt q k v b g a d := by
  subst hr hc0 hc
  rw [attention_at]
  simp only [scores_at, stacked_at q _ _ c1 c2 c3 _ _ _ _ e1 e2 e3, piece_at, blockAt]

variable (x : S256x512.Idx → EReal) (wq : S512x512.Idx → EReal) (z : S256x512.Idx → EReal) (wk wv : S512x128.Idx → EReal)

theorem block00 (a : Fin 512) (d : Fin 64) :
    k0_pay6 (F := Ideal) x wq z wk wv (ix2 a d)
      = blockAt (k0_pay3 (F := Ideal) x wq z) (k0_pay4 (F := Ideal) x wk) (k0_pay5 (F := Ideal) x wv) 0 0 a d :=
  block_at _ _ _ 0 0 64 128 192 0 0 0 _ _ _ _ slices_S256x128_o0_0_S128x64 rfl rfl rfl rfl rfl rfl a d

theorem block01 (a : Fin 512) (d : Fin 64) :
    k0_pay10 (F := Ideal) (k0_pay7 x wv) (k0_pay8 x wq z wk) (k0_pay9 x wq z wk) (ix2 a d)
      = blockAt (k0_pay3 (F := Ideal) x wq z) (k0_pay4 (F := Ideal) x wk) (k0_pay5 (F := Ideal) x wv) 0 1 a d :=
  block_at _ _ _ 0 1 320 384 448 0 256 64 _ _ _ _ slices_S256x128_o0_64_S128x64 rfl rfl rfl rfl rfl rfl a d

theorem block10 (a : Fin 512) (d : Fin 64) : k0_pay11 (F := Ideal) q k v (ix2 a d) = blockAt q k v 1 0 a d :=
  block_at _ _ _ 1 0 64 128 192 128 0 0 _ _ _ _ slices_S256x128_o128_0_S128x64 rfl rfl rfl rfl rfl rfl a d

theorem block11 (a : Fin 512) (d : Fin 64) :
    Ideal.div (k0_pay14 (F := Ideal) q k v (ix2 a d)) (k0_pay13 (F := Ideal) q k (ix2 a 0)) = blockAt q k v 1 1 a d := by
  rw [← block_at q k v 1 1 320 384 448 128 256 64 slices_S256x512_o128_256_S128x64 slices_S256x512_o128_320_S128x64
    slices_S256x512_o128_384_S128x64 slices_S256x512_o128_448_S128x64 slices_S256x128_o128_64_S128x64
    rfl rfl rfl rfl rfl rfl a d]
  pointwise [k0_pay10, k0_pay14, k0_pay13]
  rfl

-- The four blocks are read in one step, in sixteen cases.
set_option maxHeartbeats 1000000 in
/-- The blocks side by side, times the output weights. -/
theorem joined (A B C U : S512x64.Idx → EReal) (L : S512x1.Idx → EReal) (wo : S512x512.Idx → EReal)
    (hA : ∀ (a : Fin 512) (d : Fin 64), A (ix2 a d) = blockAt q k v 0 0 a d)
    (hB : ∀ (a : Fin 512) (d : Fin 64), B (ix2 a d) = blockAt q k v 0 1 a d)
    (hC : ∀ (a : Fin 512) (d : Fin 64), C (ix2 a d) = blockAt q k v 1 0 a d)
    (hU : ∀ (a : Fin 512) (d : Fin 64), Ideal.div (U (ix2 a d)) (L (ix2 a 0)) = blockAt q k v 1 1 a d)
    (i : Fin 256) (e : Fin 512) :
    k0_pay15 (F := Ideal) A B C L U wo (ix2 i e) = ∑ x : Fin 512, attnAt q k v i x * wo (ix2 x e) := by
  pointwise [k0_pay15]
  refine Finset.sum_congr rfl fun x _ => congrArg (· * _) ?_
  simp only [hA, hB, hC, hU]
  have := i.2
  have := x.2
  split_ifs <;> exact blockAt_eq q k v (by omega) (by omega) (by omega) (by omega) (by omega)

end Blocks

/-! ## The partial product -/

/-- A matrix product of the rows `x` with the columns `w`, at natural numbers. -/
def proj {n r k : ℕ} (x : (⟨2, ![n, r]⟩ : Shape).Idx → EReal) (w : (⟨2, ![r, k]⟩ : Shape).Idx → EReal) :
    (⟨2, ![n, k]⟩ : Shape).Idx → EReal := fun j => ∑ t : Fin r, x (ix2 (j 0) t) * w (ix2 t (j 1))

theorem partVal_at (x : S256x512.Idx → EReal) (wq : S512x512.Idx → EReal) (wk wv : S512x128.Idx → EReal) (wo : S512x512.Idx → EReal)
    (i : Fin 256) (e : Fin 512) :
    partVal (F := Ideal) x wq wk wv wo (ix2 i e)
      = ∑ t : Fin 512, attnAt (proj x wq) (proj x wk) (proj x wv) i t * wo (ix2 t e) := by
  have hq : k0_pay3 (F := Ideal) (k0_pay1 x) (k0_pay2 wq) (constant S256x512 .f32 0x00000000#32) = proj x wq := by
    funext j; idx_vars j; pointwise [k0_pay1, k0_pay2, k0_pay3, proj]
  have hk : k0_pay4 (F := Ideal) (k0_pay1 x) wk = proj x wk := by
    funext j; idx_vars j; pointwise [k0_pay1, k0_pay4, proj]
  have hv : k0_pay5 (F := Ideal) (k0_pay1 x) wv = proj x wv := by
    funext j; idx_vars j; pointwise [k0_pay1, k0_pay5, proj]
  refine joined _ _ _ _ _ _ _ _ _ (fun a d => ?_) (fun a d => ?_) (fun a d => ?_) (fun a d => ?_) i e
  · rw [← hq, ← hk, ← hv]; exact block00 _ _ _ _ _ a d
  · rw [← hq, ← hk, ← hv]; exact block01 _ _ _ _ _ a d
  · rw [← hq, ← hk, ← hv]; exact block10 _ _ _ a d
  · rw [← hq, ← hk, ← hv]; exact block11 _ _ _ a d

end Cert.KernelIdeal.Exchange
-- ==== Proof.Reference.lean ====
/-
  What the reference computes, element by element: the attention of every head, row by row, times the output weights. The reference
  starts its running maximum and sums from `-∞` and zero and corrects them once; at exact arithmetic the correction adds nothing.
-/
module

public import proofs.«01_k».proof.Proof.Attend
public import proofs.«01_k».proof.Proof.Gen.ReferenceIdeal.Run

@[expose] public section

noncomputable section

namespace Cert.ReferenceIdeal.Plain

open Idealize.ShloMosaic Idealize.ShloMosaic.TcCoe
open Cert.ReferenceIdeal Cert.ReferenceIdeal.Gen
open Cert.KernelIdeal.Exchange (rd rd_eq attnAt proj attend score weight peak)

/-! ## The reference's values by name -/

section Values

variable (x : FVec Ideal S2x128x512 .f32) (wq : FVec Ideal S512x16384 .f32) (w : FVec Ideal S512x4096 .f32) (wo : FVec Ideal S16384x512 .f32)

/-- The queries, by batch, position, head and element. -/
def queries : FVec Ideal S2x128x256x64 .f32 :=
  shapeCast _ (Host.dotGeneral dot_S2x128x512_S512x16384_S2x128x16384_2_0_01_1_n_n none x wq) shapeCasts_S2x128x16384_S2x128x256x64
/-- The keys or the values, each of them for the four heads that share it. -/
def shared : FVec Ideal S2x128x256x64 .f32 :=
  shapeCast _ (broadcastInDim S2x128x64x4x64 ![0, 1, 2, 4] bcast_S2x128x64x64_S2x128x64x4x64_0_1_2_4
    (shapeCast _ (Host.dotGeneral dot_S2x128x512_S512x4096_S2x128x4096_2_0_01_1_n_n none x w) shapeCasts_S2x128x4096_S2x128x64x64))
    shapeCasts_S2x128x64x4x64_S2x128x256x64

variable (Q K V : FVec Ideal S2x128x256x64 .f32) (S : FVec Ideal S2x256x128x128 .f32) (M : FVec Ideal S2x256x128x1 .f32)
  (P : FVec Ideal S2x256x128x128 .f32)

def scores : FVec Ideal S2x256x128x128 .f32 :=
  mulf (Host.dotGeneral dot_S2x128x256x64_S2x128x256x64_S2x256x128x128_3_3_1_1_02_02 none Q K)
    (broadcastInDim S2x256x128x128 ![] bcast_S_S2x256x128x128 (constant S_ .f32 0x3E000000#32))
/-- The running maximum after the one block of keys. -/
def greatest : FVec Ideal S2x256x128x1 .f32 :=
  maximumf (broadcastInDim S2x256x128x1 ![] bcast_S_S2x256x128x1 (constant S_ .f32 0xFF800000#32))
    (broadcastInDim S2x256x128x1 ![0, 1, 2] bcast_S2x256x128_S2x256x128x1_0_1_2
      (Host.reduce FloatOps.maximumf S (constant S_ .f32 0xFF800000#32) reducesTo_S2x256x128x128_S2x256x128_d3 h_S_))
/-- The factor on what was summed before the block. -/
def before : FVec Ideal S2x256x128x1 .f32 :=
  Host.exp (subf (broadcastInDim S2x256x128x1 ![] bcast_S_S2x256x128x1 (constant S_ .f32 0xFF800000#32)) M)
def weights : FVec Ideal S2x256x128x128 .f32 :=
  Host.exp (subf S (broadcastInDim S2x256x128x128 ![0, 1, 2, 3] bcast_S2x256x128x1_S2x256x128x128_0_1_2_3 M))
/-- The weighted values, with what came before. -/
def above : FVec Ideal S2x128x256x64 .f32 :=
  addf (mulf (broadcastInDim S2x128x256x64 ![] bcast_S_S2x128x256x64 (constant S_ .f32 0x00000000#32))
      (broadcastInDim S2x128x256x64 ![0, 1, 2, 3] bcast_S2x128x256x1_S2x128x256x64_0_1_2_3
        (transpose S2x128x256x1 [0, 2, 1, 3] (before M) transposes_S2x256x128x1_S2x128x256x1_0_2_1_3)))
    (transpose S2x128x256x64 [0, 3, 1, 2] (Host.dotGeneral dot_S2x128x256x64_S2x256x128x128_S2x256x64x128_1_3_3_2_02_01 none V P)
      transposes_S2x256x64x128_S2x128x256x64_0_3_1_2)
/-- The sum of the weights, with what came before. -/
def below : FVec Ideal S2x256x128x1 .f32 :=
  addf (mulf (broadcastInDim S2x256x128x1 ![] bcast_S_S2x256x128x1 (constant S_ .f32 0x00000000#32)) (before M))
    (broadcastInDim S2x256x128x1 ![0, 1, 2] bcast_S2x256x128_S2x256x128x1_0_1_2
      (Host.reduceAdd P (constant S_ .f32 0x00000000#32) reducesTo_S2x256x128x128_S2x256x128_d3 h_S_))
/-- The attention of every head. -/
def attention : FVec Ideal S2x128x256x64 .f32 :=
  Host.divf (above V (greatest (scores Q K)) (weights (scores Q K) (greatest (scores Q K))))
    (broadcastInDim S2x128x256x64 ![0, 1, 2, 3] bcast_S2x128x256x1_S2x128x256x64_0_1_2_3
      (transpose S2x128x256x1 [0, 2, 1, 3] (below (greatest (scores Q K)) (weights (scores Q K) (greatest (scores Q K))))
        transposes_S2x256x128x1_S2x128x256x1_0_2_1_3))
/-- The output. -/
def output (A : FVec Ideal S2x128x256x64 .f32) : FVec Ideal S2x128x512 .f32 :=
  Host.dotGeneral dot_S2x128x16384_S16384x512_S2x128x512_2_0_01_1_n_n none (shapeCast _ A shapeCasts_S2x128x256x64_S2x128x16384) wo

/-! ## Read at an index -/

/-- The maximum along the last of four axes, at any sizes. -/
theorem reduce_last {n0 n1 n2 n3 : ℕ} (S : FVec Ideal ⟨4, ![n0, n1, n2, n3]⟩ .f32) (z : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf S z h hu (ix3 a b c) = Finset.univ.fold max (z (Shape.Idx.first hu)) fun k => S (ix4 a b c k) := by
  rw [Host.reduce_eq_fold, Shape.ReducesTo.fold_fiber_r4_a3]
  rfl

theorem queries_at (b : Fin 2) (s : Fin 128) (h : Fin 256) (e : Fin 64) :
    queries x wq (ix4 b s h e) = ∑ t : Fin 512, x (ix3 b s t) * wq (ix2 t ⟨h * 64 + e, by omega⟩) := by
  pointwise [queries]
theorem shared_at (b : Fin 2) (s : Fin 128) (h : Fin 256) (e : Fin 64) :
    shared x w (ix4 b s h e) = ∑ t : Fin 512, x (ix3 b s t) * w (ix2 t ⟨h / 4 * 64 + e, by omega⟩) := by
  pointwise [shared]
theorem scores_at (b : Fin 2) (h : Fin 256) (s j : Fin 128) :
    scores Q K (ix4 b h s j) = score (fun e => Q (ix4 b s h e)) (fun j e => K (ix4 b j h e)) j := by
  pointwise [scores, score]
/-- The running maximum, from the maximum over the block. -/
theorem greatest_eq (R : FVec Ideal S2x256x128 .f32) (z : FVec Ideal S_ .f32) (b : Fin 2) (h : Fin 256) (s : Fin 128) :
    maximumf (broadcastInDim S2x256x128x1 ![] bcast_S_S2x256x128x1 z)
      (broadcastInDim S2x256x128x1 ![0, 1, 2] bcast_S2x256x128_S2x256x128x1_0_1_2 R) (ix4 b h s 0) = max (z ix0) (R (ix3 b h s)) := by
  pointwise
theorem top_eq (z : FVec Ideal S_ .f32) (b : Fin 2) (h : Fin 256) (s : Fin 128) :
    max (z ix0) (Host.reduce FloatOps.maximumf S z reducesTo_S2x256x128x128_S2x256x128_d3 h_S_ (ix3 b h s))
     = Finset.univ.fold max (z ix0) fun j => S (ix4 b h s j) := by
  rw [reduce_last]
  have e : (Shape.Idx.first h_S_ : S_.Idx) = ix0 := by funext a; exact a.elim0
  rw [e]
  exact max_eq_right ((Finset.le_fold_max _).2 (Or.inl le_rfl))
theorem greatest_at (b : Fin 2) (h : Fin 256) (s : Fin 128) : greatest S (ix4 b h s 0) = peak fun j => S (ix4 b h s j) := by
  unfold greatest
  rw [greatest_eq, top_eq, peak]
  have hz : (constant S_ .f32 0xFF800000#32 : FVec Ideal S_ .f32) ix0 = Ideal.ofBits .f32 0xFF800000#32 := by pointwise
  rw [hz]
theorem weights_at (b : Fin 2) (h : Fin 256) (s j : Fin 128) :
    weights S M (ix4 b h s j) = Ideal.exp (S (ix4 b h s j) - M (ix4 b h s 0)) := by
  pointwise [weights]
theorem above_at (b : Fin 2) (s : Fin 128) (h : Fin 256) (d : Fin 64) :
    above V M P (ix4 b s h d) = ∑ j : Fin 128, P (ix4 b h s j) * V (ix4 b j h d) := by
  pointwise [above]
  rw [zero_mul, zero_add]
  exact Finset.sum_congr rfl fun j _ => mul_comm _ _
theorem below_at (b : Fin 2) (h : Fin 256) (s : Fin 128) : below M P (ix4 b h s 0) = ∑ j : Fin 128, P (ix4 b h s j) := by
  pointwise [below]
  rw [zero_mul, zero_add]
theorem attention_at (b : Fin 2) (s : Fin 128) (h : Fin 256) (d : Fin 64) :
    attention Q K V (ix4 b s h d)
      = attend (score (fun e => Q (ix4 b s h e)) fun j e => K (ix4 b j h e)) fun j => V (ix4 b j h d) := by
  pointwise [attention]
  simp only [above_at, below_at, weights_at, greatest_at, scores_at]
  rfl
theorem output_at (A : FVec Ideal S2x128x256x64 .f32) (b : Fin 2) (s : Fin 128) (e : Fin 512) :
    output wo A (ix3 b s e) = ∑ t : Fin 16384, A (ix4 b s ⟨t / 64, by omega⟩ ⟨t % 64, by omega⟩) * wo (ix2 t e) := by
  pointwise [output]

end Values

/-! ## The result -/

theorem result_eq (m : (ℓ : Loc nD τ sig) → Buf (Elt Ideal) ℓ) (c : Dev nD) :
    Value.res_main_v38 m c
      = output (m ((c.tc : Thread nD τ).loc main_arg2))
        (attention (queries (m ((c.tc : Thread nD τ).loc main_arg0)) (m ((c.tc : Thread nD τ).loc main_arg1)))
          (shared (m ((c.tc : Thread nD τ).loc main_arg0)) (m ((c.tc : Thread nD τ).loc main_arg3)))
          (shared (m ((c.tc : Thread nD τ).loc main_arg0)) (m ((c.tc : Thread nD τ).loc main_arg4)))) := rfl

/-- The batches' rows under each other. -/
def rows (x : S2x128x512.Idx → EReal) : (⟨2, ![256, 512]⟩ : Shape).Idx → EReal := fun j =>
  x (ix3 ⟨(j 0).val / 128, Nat.div_lt_of_lt_mul (show (j 0).val < 128 * 2 from (j 0).isLt)⟩ ⟨(j 0).val % 128, Nat.mod_lt _ (by decide)⟩ (j 1))

theorem proj_rows {k : ℕ} (x : S2x128x512.Idx → EReal) (w : (⟨2, ![512, k]⟩ : Shape).Idx → EReal) (b : Fin 2) (s : Fin 128) (l : Fin k) :
    ∑ t : Fin 512, x (ix3 b s t) * w (ix2 t l) = rd (proj (rows x) w) (128 * b + s) l := by
  rw [rd_eq _ (by omega) l.2]
  refine Finset.sum_congr rfl fun t _ => congrArg (· * _) ?_
  unfold rows
  congr 2
  · exact Fin.ext (by show b.val = (128 * b.val + s.val) / 128; omega)
  · exact Fin.ext (by show s.val = (128 * b.val + s.val) % 128; omega)

/-- The reference's result: each head's attention of the row, times the output weights. -/
theorem output_attention (x : S2x128x512.Idx → EReal) (wq : S512x16384.Idx → EReal) (wo : S16384x512.Idx → EReal)
    (wk wv : S512x4096.Idx → EReal) (b : Fin 2) (s : Fin 128) (e : Fin 512) :
    output wo (attention (queries x wq) (shared x wk) (shared x wv)) (ix3 b s e)
      = ∑ t : Fin 16384, attnAt (proj (rows x) wq) (proj (rows x) wk) (proj (rows x) wv) (128 * b + s) t * wo (ix2 t e) := by
  rw [output_at]
  refine Finset.sum_congr rfl fun t _ => congrArg (· * _) ?_
  rw [attention_at, attnAt]
  simp only [queries_at, shared_at, proj_rows]
  have hb : (128 * b.val + s.val) / 128 = b := by omega
  have ht : t.val / 64 / 4 = t / 256 := by omega
  simp only [hb, ht, Nat.mul_comm _ 64]

end Cert.ReferenceIdeal.Plain
-- ==== Proof.Equation.lean ====
/-
  The equation between the two results: the rows the devices sum and gather are the sum of all devices' partial products, and the
  sum over the devices of the sums over their local columns is the reference's one sum over all columns.
-/
module

public import proofs.«01_k».proof.Proof.Region
public import proofs.«01_k».proof.Proof.Reference
public import Idealize.ShloMosaic.Lib.StableHlo.Run
public import Idealize.ShloMosaic.Lib.Layout

@[expose] public section

noncomputable section

namespace Cert.KernelIdeal.Exchange

open Idealize.ShloMosaic Idealize.ShloMosaic.TcCoe
open Cert.KernelIdeal.Gen

/-! ## The sum of the blocks -/

theorem sumVal_at (v : Fin 32 → S1x8x512.Idx → EReal) (y : Fin 8) (e : Fin 512) :
    sumVal (F := Ideal) v (ix2 y e) = ∑ j, v j (ix3 0 y e) := by
  pointwise [sumVal, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38, k0_pay39,
    k0_pay40, k0_pay41, k0_pay42, k0_pay43, k0_pay44]
  simp only [Fin.sum_univ_succ, Finset.univ_eq_empty, Finset.sum_empty, add_zero]
  simp only [add_assoc]
  rfl

variable (m : (ℓ : Loc nD τ sig) → Buf (Elt Ideal) ℓ)

/-- The whole result: every device's partial product, summed. -/
theorem result_at (i : Fin 256) (e : Fin 512) : result m (ix2 i e) = ∑ j, partC (V1 m) j (ix2 i e) := by
  have h : result m (ix2 i e)
      = stageC (V1 m) (ix3 ⟨i / 8, by omega⟩ ⟨i % 8, by omega⟩ e) := by
    unfold result
    generalize stageC (V1 m) = S
    pointwise [k0_pay45]
  rw [h]
  refine (sumVal_at _ ⟨i % 8, by omega⟩ e).trans (Finset.sum_congr rfl fun j _ => congrArg (partC (V1 m) j) ?_)
  funext b
  match b with
  | ⟨0, _⟩ => exact Fin.ext (by show 8 * (i.val / 8) + i.val % 8 = i; omega)
  | ⟨1, _⟩ => rfl

theorem final_at (c : Dev nD) (b : Fin 2) (s : Fin 128) (e : Fin 512) :
    (V3 m (left m) c main_v19 : S2x128x512.Idx → EReal) (ix3 b s e) = ∑ j, partC (V1 m) j (ix2 ⟨128 * b + s, by omega⟩ e) := by
  have h : V3 m (left m) c main_v19 = shapeCast S2x128x512 (V2 m (left m) c main_v18) shapeCasts_S256x512_S2x128x512 := by
    after_results; rfl
  rw [h, V2_result, ← result_at]
  generalize result m = R
  pointwise
  congr 2
  exact Fin.ext (by show b.val * 128 + s.val = 128 * b.val + s.val; omega)

/-! ## The operands -/

theorem reshape_rows (x : FVec Ideal S2x128x512 .f32) : shapeCast S256x512 x shapeCasts_S2x128x512_S256x512 = Cert.ReferenceIdeal.Plain.rows x := by
  funext j
  idx_vars j
  pointwise [Cert.ReferenceIdeal.Plain.rows]

theorem V1_x (c : Dev nD) : V1 m c main_v5 = Cert.ReferenceIdeal.Plain.rows (m ((c : Thread nD τ).loc main_arg0)) := by
  have h : V1 m c main_v5 = shapeCast S256x512 (m ((c : Thread nD τ).loc main_arg0)) shapeCasts_S2x128x512_S256x512 := by
    after_results; rfl
  rw [h]; exact reshape_rows _

/-- The word the device's columns of the keys' and values' weights start at, as the host computes it. -/
def colWord (c : Dev nD) : IVec S_ 32 :=
  have w : IVec S_ 32 := muli (muli (Host.remui (Host.divui (constantI S_ 32 (Dev.word c)) (constantI S_ 32 1#32)) (constantI S_ 32 32#32))
    (constantI S_ 32 2#32)) (constantI S_ 32 64#32)
  select (cmpi .slt w (constantI S_ 32 0#32)) (addi w (constantI S_ 32 4096#32)) w

theorem colWord_eq (c : Dev nD) : (colWord c (Shape.Idx.first h_S_)).toInt = 128 * (c.val : ℤ) := by revert c; decide +kernel

/-- The device's columns of the keys' or values' weights. -/
def colsOf (c : Dev nD) (w : S512x4096.Idx → EReal) : S512x128.Idx → EReal :=
  fun j => w (ix2 (j 0) ⟨128 * c.val + (j 1).val, by have h : (j 1).val < 128 := (j 1).isLt; have hc : c.val < 32 := c.isLt; omega⟩)

theorem slice_cols (c : Dev nD) (w : FVec Ideal S512x4096 .f32) (st : Fin 2 → ℤ) (h0 : st 0 = 0) (h1 : st 1 = 128 * (c.val : ℤ)) :
    Host.dynamicSlice S512x128 w st sliceFits_S512x4096_S512x128 = colsOf c w := by
  funext j
  idx_vars j
  pointwise [colsOf]
  congr 2
  · exact Fin.ext (by simp [Host.clampedStart, h0])
  · have hc : c.val < 32 := c.isLt
    exact Fin.ext (by simp [Host.clampedStart, h1]; omega)

theorem V1_k (c : Dev nD) : V1 m c main_v11 = colsOf c (m ((c : Thread nD τ).loc main_arg3)) := by
  after_results
  refine slice_cols c _ _ ?_ ?_
  · after_results; rfl
  · refine Eq.trans ?_ (colWord_eq c)
    after_results; rfl

theorem V1_v (c : Dev nD) : V1 m c main_v17 = colsOf c (m ((c : Thread nD τ).loc main_arg4)) := by
  after_results
  refine slice_cols c _ _ ?_ ?_
  · after_results; rfl
  · refine Eq.trans ?_ (colWord_eq c)
    after_results; rfl

/-! ## The equation -/

section Meet

variable (x : S256x512.Idx → EReal) (c : Fin 32)
variable (wq : (⟨2, ![512, 16384]⟩ : Shape).Idx → EReal) (wk wv : S512x4096.Idx → EReal) (wo : (⟨2, ![16384, 512]⟩ : Shape).Idx → EReal)

theorem rd_block {i j : ℕ} (hi : i < 256) (hj : j < 512) :
    rd (proj x (Layout.block ⟨2, ![512, 512]⟩ ⟨2, ![512, 16384]⟩ 1 32 c wq)) i j = rd (proj x wq) i (512 * c + j) := by
  rw [rd_eq _ hi hj, rd_eq _ hi (by omega)]
  refine Finset.sum_congr rfl fun t _ => congrArg (_ * ·) (congrArg wq ?_)
  funext b
  match b with
  | ⟨0, _⟩ => rfl
  | ⟨1, _⟩ => exact Fin.ext (by show c.val * 512 + j = 512 * c.val + j; omega)

theorem rd_cols (w : S512x4096.Idx → EReal) {i j : ℕ} (hi : i < 256) (hj : j < 128) :
    rd (proj x (colsOf c w)) i j = rd (proj x w) i (128 * c + j) := by
  rw [rd_eq _ hi hj, rd_eq _ hi (by omega)]
  rfl

/-- A device's local heads are its 8 of all heads. -/
theorem attn_local {i t : ℕ} (hi : i < 256) (ht : t < 512) :
    attnAt (proj x (Layout.block ⟨2, ![512, 512]⟩ ⟨2, ![512, 16384]⟩ 1 32 c wq)) (proj x (colsOf c wk)) (proj x (colsOf c wv)) i t
      = attnAt (proj x wq) (proj x wk) (proj x wv) i (512 * c + t) := by
  have e1 : 64 * ((512 * c.val + t) / 64) = 512 * c + 64 * (t / 64) := by omega
  have e2 : 64 * ((512 * c.val + t) / 256) = 128 * c + 64 * (t / 256) := by omega
  have e3 : (512 * c.val + t) % 64 = t % 64 := by omega
  unfold attnAt
  rw [e1, e2, e3]
  refine congrArg₂ attend (congrArg₂ score (funext fun e => ?_) (funext fun j => funext fun e => ?_)) (funext fun j => ?_)
  · rw [rd_block x c wq hi (by omega), Nat.add_assoc]
  · rw [rd_cols x c wk (by omega) (by omega), Nat.add_assoc]
  · rw [rd_cols x c wv (by omega) (by omega), Nat.add_assoc]

/-- A sum over all columns, by the devices that hold them. -/
theorem sum_devices (G : Fin 16384 → EReal) : ∑ t, G t = ∑ c : Fin 32, ∑ t : Fin 512, G ⟨512 * c + t, by omega⟩ := by
  rw [← Fintype.sum_prod_type' (f := fun (c : Fin 32) (t : Fin 512) => G ⟨512 * c + t, by omega⟩)]
  refine (Fintype.sum_equiv (finProdFinEquiv (m := 32) (n := 512)) _ _ fun p => congrArg G (Fin.ext ?_)).symm
  show 512 * p.1.val + p.2.val = p.2.val + 512 * p.1.val
  omega

/-- The devices' partial products, summed, are the product over all heads. -/
theorem sum_parts (i : Fin 256) (e : Fin 512) :
    ∑ c : Fin 32, partVal (F := Ideal) x (Layout.block ⟨2, ![512, 512]⟩ ⟨2, ![512, 16384]⟩ 1 32 c wq) (colsOf c wk) (colsOf c wv)
        (Layout.block ⟨2, ![512, 512]⟩ ⟨2, ![16384, 512]⟩ 0 32 c wo) (ix2 i e)
      = ∑ t : Fin 16384, attnAt (proj x wq) (proj x wk) (proj x wv) i t * wo (ix2 t e) := by
  rw [sum_devices]
  refine Finset.sum_congr rfl fun c _ => (partVal_at _ _ _ _ _ i e).trans (Finset.sum_congr rfl fun t _ => ?_)
  rw [attn_local x c wq wk wv i.2 t.2]
  refine congrArg (_ * ·) (congrArg wo ?_)
  funext b
  match b with
  | ⟨0, _⟩ => exact Fin.ext (by show c.val * 512 + t.val = 512 * c.val + t.val; omega)
  | ⟨1, _⟩ => rfl

end Meet

/-- The kernel's result on every device is the reference's, from arguments that are the reference's or its blocks. -/
theorem final_eq (m' : (ℓ : Loc ReferenceIdeal.nD ReferenceIdeal.τ ReferenceIdeal.sig) → Buf (Elt Ideal) ℓ) (c : Dev nD)
    (d : Dev ReferenceIdeal.nD)
    (h0 : ∀ c : Dev nD, (m ((c : Thread nD τ).loc main_arg0) : S2x128x512.Idx → EReal)
      = m' ((d : Thread ReferenceIdeal.nD ReferenceIdeal.τ).loc ReferenceIdeal.main_arg0))
    (h1 : ∀ c : Dev nD, (m ((c : Thread nD τ).loc main_arg1) : S512x512.Idx → EReal)
      = Layout.block ⟨2, ![512, 512]⟩ ⟨2, ![512, 16384]⟩ 1 32 c
        (m' ((d : Thread ReferenceIdeal.nD ReferenceIdeal.τ).loc ReferenceIdeal.main_arg1)))
    (h2 : ∀ c : Dev nD, (m ((c : Thread nD τ).loc main_arg2) : S512x512.Idx → EReal)
      = Layout.block ⟨2, ![512, 512]⟩ ⟨2, ![16384, 512]⟩ 0 32 c
        (m' ((d : Thread ReferenceIdeal.nD ReferenceIdeal.τ).loc ReferenceIdeal.main_arg2)))
    (h3 : ∀ c : Dev nD, (m ((c : Thread nD τ).loc main_arg3) : S512x4096.Idx → EReal)
      = m' ((d : Thread ReferenceIdeal.nD ReferenceIdeal.τ).loc ReferenceIdeal.main_arg3))
    (h4 : ∀ c : Dev nD, (m ((c : Thread nD τ).loc main_arg4) : S512x4096.Idx → EReal)
      = m' ((d : Thread ReferenceIdeal.nD ReferenceIdeal.τ).loc ReferenceIdeal.main_arg4)) :
    (V3 m (left m) c main_v19 : S2x128x512.Idx → EReal) = ReferenceIdeal.Value.res_main_v38 m' d := by
  rw [ReferenceIdeal.Plain.result_eq]
  funext j
  obtain ⟨b, s, e, rfl⟩ : ∃ (b : Fin 2) (s : Fin 128) (e : Fin 512), j = ix3 b s e := ⟨j 0, j 1, j 2, eq_ix3 j⟩
  have parts : ∀ (c : Dev nD) (i : Fin 256), (partC (V1 m) c (ix2 i e) : EReal) = partVal (F := Ideal)
      (ReferenceIdeal.Plain.rows (m' ((d : Thread ReferenceIdeal.nD ReferenceIdeal.τ).loc ReferenceIdeal.main_arg0)))
      (Layout.block ⟨2, ![512, 512]⟩ ⟨2, ![512, 16384]⟩ 1 32 c (m' ((d : Thread ReferenceIdeal.nD ReferenceIdeal.τ).loc ReferenceIdeal.main_arg1)))
      (colsOf c (m' ((d : Thread ReferenceIdeal.nD ReferenceIdeal.τ).loc ReferenceIdeal.main_arg3)))
      (colsOf c (m' ((d : Thread ReferenceIdeal.nD ReferenceIdeal.τ).loc ReferenceIdeal.main_arg4)))
      (Layout.block ⟨2, ![512, 512]⟩ ⟨2, ![16384, 512]⟩ 0 32 c (m' ((d : Thread ReferenceIdeal.nD ReferenceIdeal.τ).loc ReferenceIdeal.main_arg2)))
      (ix2 i e) := fun c i => by
    unfold partC
    rw [V1_x, V1_k, V1_v, V1_of m c main_arg1 (by decide), V1_of m c main_arg2 (by decide), ← h0 c, ← h3 c, ← h4 c, ← h1 c, ← h2 c]
  refine (final_at m c b s e).trans ((Finset.sum_congr rfl fun c _ => parts c _).trans
    ((sum_parts _ _ _ _ _ ⟨128 * b + s, by omega⟩ e).trans (ReferenceIdeal.Plain.output_attention _ _ _ _ _ b s e).symm))

end Cert.KernelIdeal.Exchange
-- ==== Proof.lean ====
/-
  The five claims about grouped-query attention on 32 devices: the kernel, on words and at exact arithmetic, and the reference
  end with their arguments as they were and every counter at zero; the two forms of the kernel are one text; and at exact
  arithmetic every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The program over the extended reals ends, leaves its arguments as they were and every counter at zero. -/
theorem frame_ideal : Cert.quiescent_KernelIdeal := fun m ρ _ =>
  Cert.KernelIdeal.Exchange.run_frame (F := Ideal) m ρ

/-- The program on words and the one over the extended reals are one text: their body tables are equal at any values. -/
theorem bodies_eq : (Cert.Kernel.defs₀ : Defs Cert.Kernel.nD Cert.Kernel.τ Cert.Kernel.sig (Elt Bits) Cert.Kernel.Λ₀) = Cert.KernelIdeal.defs₀ := by
  funext p l a
  cases p
  · have hl : l = (0 : Fin 1) := Subsingleton.elim (α := Fin 1) _ _
    subst hl
    rfl
  · rfl
  · rfl
theorem defs_eq : (Cert.Kernel.defs : Defs Cert.Kernel.nD Cert.Kernel.τ Cert.Kernel.sig (Elt Bits) _) = Cert.KernelIdeal.defs := by
  unfold Cert.Kernel.defs Cert.KernelIdeal.defs
  exact congrArg (Pipeline.defs (Cert.KernelIdeal.pcfgs (F := Bits))) bodies_eq

/-- So does the program on words: the run is proved over any values. -/
theorem frame_kernel : Cert.quiescent_Kernel := fun m ρ _ => by
  rw [defs_eq]
  exact Cert.KernelIdeal.Exchange.run_frame (F := Bits) m ρ

/-- The reference ends and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact arithmetic the kernel's result on every device is the reference's. -/
theorem same_value : Cert.algebraic_KernelIdeal_ReferenceIdeal := fun m g m' g' _ h => by
  refine ⟨Cert.ReferenceIdeal.Value.res_main_v38 m' 0, ?_, ?_⟩
  · refine (θ_run Cert.KernelIdeal.defs _ _).mono (fun r k c => ⟨(k.1 c).1.trans ?_, (k.1 c).2⟩)
      (Cert.KernelIdeal.Exchange.run_value (F := Ideal) m g)
    exact Cert.KernelIdeal.Exchange.final_eq m m' c 0 (fun c => (h c).1) (fun c => (h c).2.1) (fun c => (h c).2.2.1)
      (fun c => (h c).2.2.2.1) (fun c => (h c).2.2.2.2)
  · exact (θ_run Cert.ReferenceIdeal.defs _ _).mono (fun r k => k 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, same_value⟩

end Cert.Proof

end
